-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x512x1024 .f32) (main_arg1 : FVec F S1024x1024 .f32) (main_arg2 : FVec F S1x2048x8x128 .f32) (main_arg3 : FVec F S1x2048x8x128 .f32) (main_arg4 : FVec F S1024x1024 .f32) : IVec S1x512x1024 1 × IVec S1024x1024 1 × IVec S1x2048x8x128 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_scores_finite_ReferenceIdeal.lean ====
abbrev S1x512x1024 : Shape := ⟨3, ![1, 512, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x512x1024 : S_.BroadcastsInDim S1x512x1024 (![] : Fin 0 → Fin S1x512x1024.rank)
  bcast_S_S1024x16384 : S_.BroadcastsInDim S1024x16384 (![] : Fin 0 → Fin S1024x16384.rank)
  bcast_S_S1x2048x128x128 : S_.BroadcastsInDim S1x2048x128x128 (![] : Fin 0 → Fin S1x2048x128x128.rank)

variable [Facts]

def fn {F : FTy → Type} [FloatOps F] (main_arg0 : FVec F S1x512x1024 .f32) (main_arg1 : FVec F S1024x16384 .f32) (main_arg2 : FVec F S1x2048x128x128 .f32) (main_arg3 : FVec F S1x2048x128x128 .f32) (main_arg4 : FVec F S16384x1024 .f32) : IVec S1x512x1024 1 × IVec S1024x16384 1 × IVec S1x2048x128x128 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x2048x128x128 .f32 := Host.absf main_arg2
  let main_cst_1 : FVec F S_ .f32 := constant S_ .f32 0x7F800000#32
  let main_v7 : FVec F S1x2048x128x128 .f32 := broadcastInDim S1x2048x128x128 ![] bcast_S_S1x2048x128x128 main_cst_1
  let main_v8 : IVec S1x2048x128x128 1 := cmpf .olt main_v6 main_v7
  (main_v2, main_v5, main_v8)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S2x2048x128 : Shape := ⟨3, ![2, 2048, 128]⟩
abbrev S8x2048x128 : Shape := ⟨3, ![8, 2048, 128]⟩
abbrev S8x2048x256 : Shape := ⟨3, ![8, 2048, 256]⟩
abbrev S512x1024 : Shape := ⟨2, ![512, 1024]⟩
abbrev S16x32x1024 : Shape := ⟨3, ![16, 32, 1024]⟩
abbrev S32x1024 : Shape := ⟨2, ![32, 1024]⟩
abbrev S2 : Shape := ⟨1, ![2]⟩
abbrev S16 : Shape := ⟨1, ![16]⟩
abbrev S1 : Shape := ⟨1, ![1]⟩
abbrev S_ : Shape := ⟨0, ![]⟩
abbrev S1x2048x128 : Shape := ⟨3, ![1, 2048, 128]⟩
abbrev S2048x128 : Shape := ⟨2, ![2048, 128]⟩
abbrev S1x2048x1x128 : Shape := ⟨4, ![1, 2048, 1, 128]⟩
abbrev S2048x256 : Shape := ⟨2, ![2048, 256]⟩
abbrev S1x2048x256 : Shape := ⟨3, ![1, 2048, 256]⟩
abbrev S256x128 : Shape := ⟨2, ![256, 128]⟩
abbrev S256x2048 : Shape := ⟨2, ![256, 2048]⟩
abbrev S256x256 : Shape := ⟨2, ![256, 256]⟩
abbrev S256x1024 : Shape := ⟨2, ![256, 1024]⟩
abbrev S1x32x1024 : Shape := ⟨3, ![1, 32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S2x2048x128, .f32⟩
  | .local _ .vmem, ⟨5, _⟩ => ⟨S2x2048x128, .f32⟩
  | .local _ .vmem, ⟨6, _⟩ => ⟨S8x2048x128, .bf16⟩
  | .local _ .vmem, ⟨7, _⟩ => ⟨S8x2048x256, .bf16⟩
  | .local _ .vmem, ⟨8, _⟩ => ⟨S512x1024, .bf16⟩
  | .local _ .vmem, ⟨9, _⟩ => ⟨S16x32x1024, .bf16⟩
  | .local _ .vmem, ⟨10, _⟩ => ⟨S32x1024, .bf16⟩
  | .local _ .vmem, ⟨11, _⟩ => ⟨S512x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_15 : BitVec 32 := 0#32
  let v16 : BitVec 1 := Scalar.cmpi .ne v2 c0_i32_15
  let v17 : BitVec 32 := Scalar.extui v16
  let c0_i32_16 : BitVec 32 := 0#32
  let v18 : BitVec 1 := Scalar.cmpi .ne v17 c0_i32_16
  v18

def k0_dev1 : Nat :=
  let c0_i32_758 : BitVec 32 := 0#32
  let c0_i32_756 : BitVec 32 := 0#32
  let c1_i32_757 : BitVec 32 := 1#32
  let v960 : BitVec 32 := Scalar.muli c0_i32_756 c1_i32_757
  let v961 : BitVec 32 := Scalar.addi c0_i32_758 v960
  v961.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v19 : BitVec 1 := Scalar.cmpi .ne v2 c1_i32_17
  let v20 : BitVec 32 := Scalar.extui v19
  let c0_i32_18 : BitVec 32 := 0#32
  let v21 : BitVec 1 := Scalar.cmpi .ne v20 c0_i32_18
  v21

def k0_dev2 : Nat :=
  let c0_i32_758 : BitVec 32 := 0#32
  let c1_i32_756 : BitVec 32 := 1#32
  let c1_i32_757 : BitVec 32 := 1#32
  let v960 : BitVec 32 := Scalar.muli c1_i32_756 c1_i32_757
  let v961 : BitVec 32 := Scalar.addi c0_i32_758 v960
  v961.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v22 : BitVec 1 := Scalar.cmpi .ne v2 c2_i32
  let v23 : BitVec 32 := Scalar.extui v22
  let c0_i32_19 : BitVec 32 := 0#32
  let v24 : BitVec 1 := Scalar.cmpi .ne v23 c0_i32_19
  v24

def k0_dev3 : Nat :=
  let c0_i32_758 : BitVec 32 := 0#32
  let c2_i32_756 : BitVec 32 := 2#32
  let c1_i32_757 : BitVec 32 := 1#32
  let v960 : BitVec 32 := Scalar.muli c2_i32_756 c1_i32_757
  let v961 : BitVec 32 := Scalar.addi c0_i32_758 v960
  v961.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v25 : BitVec 1 := Scalar.cmpi .ne v2 c3_i32
  let v26 : BitVec 32 := Scalar.extui v25
  let c0_i32_20 : BitVec 32 := 0#32
  let v27 : BitVec 1 := Scalar.cmpi .ne v26 c0_i32_20
  v27

def k0_dev4 : Nat :=
  let c0_i32_758 : BitVec 32 := 0#32
  let c3_i32_756 : BitVec 32 := 3#32
  let c1_i32_757 : BitVec 32 := 1#32
  let v960 : BitVec 32 := Scalar.muli c3_i32_756 c1_i32_757
  let v961 : BitVec 32 := Scalar.addi c0_i32_758 v960
  v961.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 1 := Scalar.cmpi .ne v2 c4_i32
  let v29 : BitVec 32 := Scalar.extui v28
  let c0_i32_21 : BitVec 32 := 0#32
  let v30 : BitVec 1 := Scalar.cmpi .ne v29 c0_i32_21
  v30

def k0_dev5 : Nat :=
  let c0_i32_758 : BitVec 32 := 0#32
  let c4_i32_756 : BitVec 32 := 4#32
  let c1_i32_757 : BitVec 32 := 1#32
  let v960 : BitVec 32 := Scalar.muli c4_i32_756 c1_i32_757
  let v961 : BitVec 32 := Scalar.addi c0_i32_758 v960
  v961.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v31 : BitVec 1 := Scalar.cmpi .ne v2 c5_i32
  let v32 : BitVec 32 := Scalar.extui v31
  let c0_i32_22 : BitVec 32 := 0#32
  let v33 : BitVec 1 := Scalar.cmpi .ne v32 c0_i32_22
  v33

def k0_dev6 : Nat :=
  let c0_i32_758 : BitVec 32 := 0#32
  let c5_i32_756 : BitVec 32 := 5#32
  let c1_i32_757 : BitVec 32 := 1#32
  let v960 : BitVec 32 := Scalar.muli c5_i32_756 c1_i32_757
  let v961 : BitVec 32 := Scalar.addi c0_i32_758 v960
  v961.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 1 := Scalar.cmpi .ne v2 c6_i32
  let v35 : BitVec 32 := Scalar.extui v34
  let c0_i32_23 : BitVec 32 := 0#32
  let v36 : BitVec 1 := Scalar.cmpi .ne v35 c0_i32_23
  v36

def k0_dev7 : Nat :=
  let c0_i32_758 : BitVec 32 := 0#32
  let c6_i32_756 : BitVec 32 := 6#32
  let c1_i32_757 : BitVec 32 := 1#32
  let v960 : BitVec 32 := Scalar.muli c6_i32_756 c1_i32_757
  let v961 : BitVec 32 := Scalar.addi c0_i32_758 v960
  v961.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v37 : BitVec 1 := Scalar.cmpi .ne v2 c7_i32
  let v38 : BitVec 32 := Scalar.extui v37
  let c0_i32_24 : BitVec 32 := 0#32
  let v39 : BitVec 1 := Scalar.cmpi .ne v38 c0_i32_24
  v39

def k0_dev8 : Nat :=
  let c0_i32_758 : BitVec 32 := 0#32
  let c7_i32_756 : BitVec 32 := 7#32
  let c1_i32_757 : BitVec 32 := 1#32
  let v960 : BitVec 32 := Scalar.muli c7_i32_756 c1_i32_757
  let v961 : BitVec 32 := Scalar.addi c0_i32_758 v960
  v961.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 1 := Scalar.cmpi .ne v2 c8_i32
  let v41 : BitVec 32 := Scalar.extui v40
  let c0_i32_25 : BitVec 32 := 0#32
  let v42 : BitVec 1 := Scalar.cmpi .ne v41 c0_i32_25
  v42

def k0_dev9 : Nat :=
  let c0_i32_758 : BitVec 32 := 0#32
  let c8_i32_756 : BitVec 32 := 8#32
  let c1_i32_757 : BitVec 32 := 1#32
  let v960 : BitVec 32 := Scalar.muli c8_i32_756 c1_i32_757
  let v961 : BitVec 32 := Scalar.addi c0_i32_758 v960
  v961.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v43 : BitVec 1 := Scalar.cmpi .ne v2 c9_i32
  let v44 : BitVec 32 := Scalar.extui v43
  let c0_i32_26 : BitVec 32 := 0#32
  let v45 : BitVec 1 := Scalar.cmpi .ne v44 c0_i32_26
  v45

def k0_dev10 : Nat :=
  let c0_i32_758 : BitVec 32 := 0#32
  let c9_i32_756 : BitVec 32 := 9#32
  let c1_i32_757 : BitVec 32 := 1#32
  let v960 : BitVec 32 := Scalar.muli c9_i32_756 c1_i32_757
  let v961 : BitVec 32 := Scalar.addi c0_i32_758 v960
  v961.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 1 := Scalar.cmpi .ne v2 c10_i32
  let v47 : BitVec 32 := Scalar.extui v46
  let c0_i32_27 : BitVec 32 := 0#32
  let v48 : BitVec 1 := Scalar.cmpi .ne v47 c0_i32_27
  v48

def k0_dev11 : Nat :=
  let c0_i32_758 : BitVec 32 := 0#32
  let c10_i32_756 : BitVec 32 := 10#32
  let c1_i32_757 : BitVec 32 := 1#32
  let v960 : BitVec 32 := Scalar.muli c10_i32_756 c1_i32_757
  let v961 : BitVec 32 := Scalar.addi c0_i32_758 v960
  v961.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 1 := Scalar.cmpi .ne v2 c11_i32
  let v50 : BitVec 32 := Scalar.extui v49
  let c0_i32_28 : BitVec 32 := 0#32
  let v51 : BitVec 1 := Scalar.cmpi .ne v50 c0_i32_28
  v51

def k0_dev12 : Nat :=
  let c0_i32_758 : BitVec 32 := 0#32
  let c11_i32_756 : BitVec 32 := 11#32
  let c1_i32_757 : BitVec 32 := 1#32
  let v960 : BitVec 32 := Scalar.muli c11_i32_756 c1_i32_757
  let v961 : BitVec 32 := Scalar.addi c0_i32_758 v960
  v961.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v52 : BitVec 1 := Scalar.cmpi .ne v2 c12_i32
  let v53 : BitVec 32 := Scalar.extui v52
  let c0_i32_29 : BitVec 32 := 0#32
  let v54 : BitVec 1 := Scalar.cmpi .ne v53 c0_i32_29
  v54

def k0_dev13 : Nat :=
  let c0_i32_758 : BitVec 32 := 0#32
  let c12_i32_756 : BitVec 32 := 12#32
  let c1_i32_757 : BitVec 32 := 1#32
  let v960 : BitVec 32 := Scalar.muli c12_i32_756 c1_i32_757
  let v961 : BitVec 32 := Scalar.addi c0_i32_758 v960
  v961.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v55 : BitVec 1 := Scalar.cmpi .ne v2 c13_i32
  let v56 : BitVec 32 := Scalar.extui v55
  let c0_i32_30 : BitVec 32 := 0#32
  let v57 : BitVec 1 := Scalar.cmpi .ne v56 c0_i32_30
  v57

def k0_dev14 : Nat :=
  let c0_i32_758 : BitVec 32 := 0#32
  let c13_i32_756 : BitVec 32 := 13#32
  let c1_i32_757 : BitVec 32 := 1#32
  let v960 : BitVec 32 := Scalar.muli c13_i32_756 c1_i32_757
  let v961 : BitVec 32 := Scalar.addi c0_i32_758 v960
  v961.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v58 : BitVec 1 := Scalar.cmpi .ne v2 c14_i32
  let v59 : BitVec 32 := Scalar.extui v58
  let c0_i32_31 : BitVec 32 := 0#32
  let v60 : BitVec 1 := Scalar.cmpi .ne v59 c0_i32_31
  v60

def k0_dev15 : Nat :=
  let c0_i32_758 : BitVec 32 := 0#32
  let c14_i32_756 : BitVec 32 := 14#32
  let c1_i32_757 : BitVec 32 := 1#32
  let v960 : BitVec 32 := Scalar.muli c14_i32_756 c1_i32_757
  let v961 : BitVec 32 := Scalar.addi c0_i32_758 v960
  v961.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 1 := Scalar.cmpi .ne v2 c15_i32
  let v62 : BitVec 32 := Scalar.extui v61
  let c0_i32_32 : BitVec 32 := 0#32
  let v63 : BitVec 1 := Scalar.cmpi .ne v62 c0_i32_32
  v63

def k0_dev16 : Nat :=
  let c0_i32_758 : BitVec 32 := 0#32
  let c15_i32_756 : BitVec 32 := 15#32
  let c1_i32_757 : BitVec 32 := 1#32
  let v960 : BitVec 32 := Scalar.muli c15_i32_756 c1_i32_757
  let v961 : BitVec 32 := Scalar.addi c0_i32_758 v960
  v961.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_445 : BitVec 32 := 0#32
  let v479 : BitVec 1 := Scalar.cmpi .ne v2 c0_i32_445
  let v480 : BitVec 32 := Scalar.extui v479
  let c0_i32_446 : BitVec 32 := 0#32
  let v481 : BitVec 1 := Scalar.cmpi .ne v480 c0_i32_446
  v481

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev17 : Nat :=
  let c0_i32_758 : BitVec 32 := 0#32
  let c0_i32_756 : BitVec 32 := 0#32
  let c1_i32_757 : BitVec 32 := 1#32
  let v960 : BitVec 32 := Scalar.muli c0_i32_756 c1_i32_757
  let v961 : BitVec 32 := Scalar.addi c0_i32_758 v960
  v961.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let v482 : BitVec 1 := Scalar.cmpi .ne v2 c1_i32_447
  let v483 : BitVec 32 := Scalar.extui v482
  let c0_i32_448 : BitVec 32 := 0#32
  let v484 : BitVec 1 := Scalar.cmpi .ne v483 c0_i32_448
  v484

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev18 : Nat :=
  let c0_i32_758 : BitVec 32 := 0#32
  let c1_i32_756 : BitVec 32 := 1#32
  let c1_i32_757 : BitVec 32 := 1#32
  let v960 : BitVec 32 := Scalar.muli c1_i32_756 c1_i32_757
  let v961 : BitVec 32 := Scalar.addi c0_i32_758 v960
  v961.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_449 : BitVec 32 := 2#32
  let v485 : BitVec 1 := Scalar.cmpi .ne v2 c2_i32_449
  let v486 : BitVec 32 := Scalar.extui v485
  let c0_i32_450 : BitVec 32 := 0#32
  let v487 : BitVec 1 := Scalar.cmpi .ne v486 c0_i32_450
  v487

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev19 : Nat :=
  let c0_i32_758 : BitVec 32 := 0#32
  let c2_i32_756 : BitVec 32 := 2#32
  let c1_i32_757 : BitVec 32 := 1#32
  let v960 : BitVec 32 := Scalar.muli c2_i32_756 c1_i32_757
  let v961 : BitVec 32 := Scalar.addi c0_i32_758 v960
  v961.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_451 : BitVec 32 := 3#32
  let v488 : BitVec 1 := Scalar.cmpi .ne v2 c3_i32_451
  let v489 : BitVec 32 := Scalar.extui v488
  let c0_i32_452 : BitVec 32 := 0#32
  let v490 : BitVec 1 := Scalar.cmpi .ne v489 c0_i32_452
  v490

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev20 : Nat :=
  let c0_i32_758 : BitVec 32 := 0#32
  let c3_i32_756 : BitVec 32 := 3#32
  let c1_i32_757 : BitVec 32 := 1#32
  let v960 : BitVec 32 := Scalar.muli c3_i32_756 c1_i32_757
  let v961 : BitVec 32 := Scalar.addi c0_i32_758 v960
  v961.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_453 : BitVec 32 := 4#32
  let v491 : BitVec 1 := Scalar.cmpi .ne v2 c4_i32_453
  let v492 : BitVec 32 := Scalar.extui v491
  let c0_i32_454 : BitVec 32 := 0#32
  let v493 : BitVec 1 := Scalar.cmpi .ne v492 c0_i32_454
  v493

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev21 : Nat :=
  let c0_i32_758 : BitVec 32 := 0#32
  let c4_i32_756 : BitVec 32 := 4#32
  let c1_i32_757 : BitVec 32 := 1#32
  let v960 : BitVec 32 := Scalar.muli c4_i32_756 c1_i32_757
  let v961 : BitVec 32 := Scalar.addi c0_i32_758 v960
  v961.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_455 : BitVec 32 := 5#32
  let v494 : BitVec 1 := Scalar.cmpi .ne v2 c5_i32_455
  let v495 : BitVec 32 := Scalar.extui v494
  let c0_i32_456 : BitVec 32 := 0#32
  let v496 : BitVec 1 := Scalar.cmpi .ne v495 c0_i32_456
  v496

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev22 : Nat :=
  let c0_i32_758 : BitVec 32 := 0#32
  let c5_i32_756 : BitVec 32 := 5#32
  let c1_i32_757 : BitVec 32 := 1#32
  let v960 : BitVec 32 := Scalar.muli c5_i32_756 c1_i32_757
  let v961 : BitVec 32 := Scalar.addi c0_i32_758 v960
  v961.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_457 : BitVec 32 := 6#32
  let v497 : BitVec 1 := Scalar.cmpi .ne v2 c6_i32_457
  let v498 : BitVec 32 := Scalar.extui v497
  let c0_i32_458 : BitVec 32 := 0#32
  let v499 : BitVec 1 := Scalar.cmpi .ne v498 c0_i32_458
  v499

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev23 : Nat :=
  let c0_i32_758 : BitVec 32 := 0#32
  let c6_i32_756 : BitVec 32 := 6#32
  let c1_i32_757 : BitVec 32 := 1#32
  let v960 : BitVec 32 := Scalar.muli c6_i32_756 c1_i32_757
  let v961 : BitVec 32 := Scalar.addi c0_i32_758 v960
  v961.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_459 : BitVec 32 := 7#32
  let v500 : BitVec 1 := Scalar.cmpi .ne v2 c7_i32_459
  let v501 : BitVec 32 := Scalar.extui v500
  let c0_i32_460 : BitVec 32 := 0#32
  let v502 : BitVec 1 := Scalar.cmpi .ne v501 c0_i32_460
  v502

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev24 : Nat :=
  let c0_i32_758 : BitVec 32 := 0#32
  let c7_i32_756 : BitVec 32 := 7#32
  let c1_i32_757 : BitVec 32 := 1#32
  let v960 : BitVec 32 := Scalar.muli c7_i32_756 c1_i32_757
  let v961 : BitVec 32 := Scalar.addi c0_i32_758 v960
  v961.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_527 : BitVec 32 := 8#32
  let v613 : BitVec 1 := Scalar.cmpi .ne v2 c8_i32_527
  let v614 : BitVec 32 := Scalar.extui v613
  let c0_i32_528 : BitVec 32 := 0#32
  let v615 : BitVec 1 := Scalar.cmpi .ne v614 c0_i32_528
  v615

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev25 : Nat :=
  let c0_i32_758 : BitVec 32 := 0#32
  let c8_i32_756 : BitVec 32 := 8#32
  let c1_i32_757 : BitVec 32 := 1#32
  let v960 : BitVec 32 := Scalar.muli c8_i32_756 c1_i32_757
  let v961 : BitVec 32 := Scalar.addi c0_i32_758 v960
  v961.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_529 : BitVec 32 := 9#32
  let v616 : BitVec 1 := Scalar.cmpi .ne v2 c9_i32_529
  let v617 : BitVec 32 := Scalar.extui v616
  let c0_i32_530 : BitVec 32 := 0#32
  let v618 : BitVec 1 := Scalar.cmpi .ne v617 c0_i32_530
  v618

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev26 : Nat :=
  let c0_i32_758 : BitVec 32 := 0#32
  let c9_i32_756 : BitVec 32 := 9#32
  let c1_i32_757 : BitVec 32 := 1#32
  let v960 : BitVec 32 := Scalar.muli c9_i32_756 c1_i32_757
  let v961 : BitVec 32 := Scalar.addi c0_i32_758 v960
  v961.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_531 : BitVec 32 := 10#32
  let v619 : BitVec 1 := Scalar.cmpi .ne v2 c10_i32_531
  let v620 : BitVec 32 := Scalar.extui v619
  let c0_i32_532 : BitVec 32 := 0#32
  let v621 : BitVec 1 := Scalar.cmpi .ne v620 c0_i32_532
  v621

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev27 : Nat :=
  let c0_i32_758 : BitVec 32 := 0#32
  let c10_i32_756 : BitVec 32 := 10#32
  let c1_i32_757 : BitVec 32 := 1#32
  let v960 : BitVec 32 := Scalar.muli c10_i32_756 c1_i32_757
  let v961 : BitVec 32 := Scalar.addi c0_i32_758 v960
  v961.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_533 : BitVec 32 := 11#32
  let v622 : BitVec 1 := Scalar.cmpi .ne v2 c11_i32_533
  let v623 : BitVec 32 := Scalar.extui v622
  let c0_i32_534 : BitVec 32 := 0#32
  let v624 : BitVec 1 := Scalar.cmpi .ne v623 c0_i32_534
  v624

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev28 : Nat :=
  let c0_i32_758 : BitVec 32 := 0#32
  let c11_i32_756 : BitVec 32 := 11#32
  let c1_i32_757 : BitVec 32 := 1#32
  let v960 : BitVec 32 := Scalar.muli c11_i32_756 c1_i32_757
  let v961 : BitVec 32 := Scalar.addi c0_i32_758 v960
  v961.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_535 : BitVec 32 := 12#32
  let v625 : BitVec 1 := Scalar.cmpi .ne v2 c12_i32_535
  let v626 : BitVec 32 := Scalar.extui v625
  let c0_i32_536 : BitVec 32 := 0#32
  let v627 : BitVec 1 := Scalar.cmpi .ne v626 c0_i32_536
  v627

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev29 : Nat :=
  let c0_i32_758 : BitVec 32 := 0#32
  let c12_i32_756 : BitVec 32 := 12#32
  let c1_i32_757 : BitVec 32 := 1#32
  let v960 : BitVec 32 := Scalar.muli c12_i32_756 c1_i32_757
  let v961 : BitVec 32 := Scalar.addi c0_i32_758 v960
  v961.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_537 : BitVec 32 := 13#32
  let v628 : BitVec 1 := Scalar.cmpi .ne v2 c13_i32_537
  let v629 : BitVec 32 := Scalar.extui v628
  let c0_i32_538 : BitVec 32 := 0#32
  let v630 : BitVec 1 := Scalar.cmpi .ne v629 c0_i32_538
  v630

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev30 : Nat :=
  let c0_i32_758 : BitVec 32 := 0#32
  let c13_i32_756 : BitVec 32 := 13#32
  let c1_i32_757 : BitVec 32 := 1#32
  let v960 : BitVec 32 := Scalar.muli c13_i32_756 c1_i32_757
  let v961 : BitVec 32 := Scalar.addi c0_i32_758 v960
  v961.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_539 : BitVec 32 := 14#32
  let v631 : BitVec 1 := Scalar.cmpi .ne v2 c14_i32_539
  let v632 : BitVec 32 := Scalar.extui v631
  let c0_i32_540 : BitVec 32 := 0#32
  let v633 : BitVec 1 := Scalar.cmpi .ne v632 c0_i32_540
  v633

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev31 : Nat :=
  let c0_i32_758 : BitVec 32 := 0#32
  let c14_i32_756 : BitVec 32 := 14#32
  let c1_i32_757 : BitVec 32 := 1#32
  let v960 : BitVec 32 := Scalar.muli c14_i32_756 c1_i32_757
  let v961 : BitVec 32 := Scalar.addi c0_i32_758 v960
  v961.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_541 : BitVec 32 := 15#32
  let v634 : BitVec 1 := Scalar.cmpi .ne v2 c15_i32_541
  let v635 : BitVec 32 := Scalar.extui v634
  let c0_i32_542 : BitVec 32 := 0#32
  let v636 : BitVec 1 := Scalar.cmpi .ne v635 c0_i32_542
  v636

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_759 : BitVec 32 := 0#32
  let c0_i32_760 : BitVec 32 := 0#32
  ![v2.toNat, 0, 0]
def k0_dev32 : Nat :=
  let c0_i32_758 : BitVec 32 := 0#32
  let c15_i32_756 : BitVec 32 := 15#32
  let c1_i32_757 : BitVec 32 := 1#32
  let v960 : BitVec 32 := Scalar.muli c15_i32_756 c1_i32_757
  let v961 : BitVec 32 := Scalar.addi c0_i32_758 v960
  v961.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v685 : BitVec 32 := Scalar.muli v2 c32_i32
  let v686 : Index := Scalar.indexCast v685
  let c0_575 : Index := 0#32
  ![v686.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_650 : BitVec 32 := 0#32
  let v805 : BitVec 1 := Scalar.cmpi .ne v2 c0_i32_650
  let v806 : BitVec 32 := Scalar.extui v805
  let c0_i32_651 : BitVec 32 := 0#32
  let v807 : BitVec 1 := Scalar.cmpi .ne v806 c0_i32_651
  v807

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev33 : Nat :=
  let c0_i32_759 : BitVec 32 := 0#32
  let c0_i32_757 : BitVec 32 := 0#32
  let c1_i32_758 : BitVec 32 := 1#32
  let v961 : BitVec 32 := Scalar.muli c0_i32_757 c1_i32_758
  let v962 : BitVec 32 := Scalar.addi c0_i32_759 v961
  v962.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_652 : BitVec 32 := 1#32
  let v808 : BitVec 1 := Scalar.cmpi .ne v2 c1_i32_652
  let v809 : BitVec 32 := Scalar.extui v808
  let c0_i32_653 : BitVec 32 := 0#32
  let v810 : BitVec 1 := Scalar.cmpi .ne v809 c0_i32_653
  v810

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev34 : Nat :=
  let c0_i32_759 : BitVec 32 := 0#32
  let c1_i32_757 : BitVec 32 := 1#32
  let c1_i32_758 : BitVec 32 := 1#32
  let v961 : BitVec 32 := Scalar.muli c1_i32_757 c1_i32_758
  let v962 : BitVec 32 := Scalar.addi c0_i32_759 v961
  v962.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_654 : BitVec 32 := 2#32
  let v811 : BitVec 1 := Scalar.cmpi .ne v2 c2_i32_654
  let v812 : BitVec 32 := Scalar.extui v811
  let c0_i32_655 : BitVec 32 := 0#32
  let v813 : BitVec 1 := Scalar.cmpi .ne v812 c0_i32_655
  v813

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev35 : Nat :=
  let c0_i32_759 : BitVec 32 := 0#32
  let c2_i32_757 : BitVec 32 := 2#32
  let c1_i32_758 : BitVec 32 := 1#32
  let v961 : BitVec 32 := Scalar.muli c2_i32_757 c1_i32_758
  let v962 : BitVec 32 := Scalar.addi c0_i32_759 v961
  v962.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_656 : BitVec 32 := 3#32
  let v814 : BitVec 1 := Scalar.cmpi .ne v2 c3_i32_656
  let v815 : BitVec 32 := Scalar.extui v814
  let c0_i32_657 : BitVec 32 := 0#32
  let v816 : BitVec 1 := Scalar.cmpi .ne v815 c0_i32_657
  v816

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev36 : Nat :=
  let c0_i32_759 : BitVec 32 := 0#32
  let c3_i32_757 : BitVec 32 := 3#32
  let c1_i32_758 : BitVec 32 := 1#32
  let v961 : BitVec 32 := Scalar.muli c3_i32_757 c1_i32_758
  let v962 : BitVec 32 := Scalar.addi c0_i32_759 v961
  v962.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_658 : BitVec 32 := 4#32
  let v817 : BitVec 1 := Scalar.cmpi .ne v2 c4_i32_658
  let v818 : BitVec 32 := Scalar.extui v817
  let c0_i32_659 : BitVec 32 := 0#32
  let v819 : BitVec 1 := Scalar.cmpi .ne v818 c0_i32_659
  v819

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev37 : Nat :=
  let c0_i32_759 : BitVec 32 := 0#32
  let c4_i32_757 : BitVec 32 := 4#32
  let c1_i32_758 : BitVec 32 := 1#32
  let v961 : BitVec 32 := Scalar.muli c4_i32_757 c1_i32_758
  let v962 : BitVec 32 := Scalar.addi c0_i32_759 v961
  v962.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_660 : BitVec 32 := 5#32
  let v820 : BitVec 1 := Scalar.cmpi .ne v2 c5_i32_660
  let v821 : BitVec 32 := Scalar.extui v820
  let c0_i32_661 : BitVec 32 := 0#32
  let v822 : BitVec 1 := Scalar.cmpi .ne v821 c0_i32_661
  v822

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev38 : Nat :=
  let c0_i32_759 : BitVec 32 := 0#32
  let c5_i32_757 : BitVec 32 := 5#32
  let c1_i32_758 : BitVec 32 := 1#32
  let v961 : BitVec 32 := Scalar.muli c5_i32_757 c1_i32_758
  let v962 : BitVec 32 := Scalar.addi c0_i32_759 v961
  v962.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_662 : BitVec 32 := 6#32
  let v823 : BitVec 1 := Scalar.cmpi .ne v2 c6_i32_662
  let v824 : BitVec 32 := Scalar.extui v823
  let c0_i32_663 : BitVec 32 := 0#32
  let v825 : BitVec 1 := Scalar.cmpi .ne v824 c0_i32_663
  v825

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev39 : Nat :=
  let c0_i32_759 : BitVec 32 := 0#32
  let c6_i32_757 : BitVec 32 := 6#32
  let c1_i32_758 : BitVec 32 := 1#32
  let v961 : BitVec 32 := Scalar.muli c6_i32_757 c1_i32_758
  let v962 : BitVec 32 := Scalar.addi c0_i32_759 v961
  v962.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_664 : BitVec 32 := 7#32
  let v826 : BitVec 1 := Scalar.cmpi .ne v2 c7_i32_664
  let v827 : BitVec 32 := Scalar.extui v826
  let c0_i32_665 : BitVec 32 := 0#32
  let v828 : BitVec 1 := Scalar.cmpi .ne v827 c0_i32_665
  v828

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev40 : Nat :=
  let c0_i32_759 : BitVec 32 := 0#32
  let c7_i32_757 : BitVec 32 := 7#32
  let c1_i32_758 : BitVec 32 := 1#32
  let v961 : BitVec 32 := Scalar.muli c7_i32_757 c1_i32_758
  let v962 : BitVec 32 := Scalar.addi c0_i32_759 v961
  v962.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_666 : BitVec 32 := 8#32
  let v829 : BitVec 1 := Scalar.cmpi .ne v2 c8_i32_666
  let v830 : BitVec 32 := Scalar.extui v829
  let c0_i32_667 : BitVec 32 := 0#32
  let v831 : BitVec 1 := Scalar.cmpi .ne v830 c0_i32_667
  v831

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev41 : Nat :=
  let c0_i32_759 : BitVec 32 := 0#32
  let c8_i32_757 : BitVec 32 := 8#32
  let c1_i32_758 : BitVec 32 := 1#32
  let v961 : BitVec 32 := Scalar.muli c8_i32_757 c1_i32_758
  let v962 : BitVec 32 := Scalar.addi c0_i32_759 v961
  v962.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_668 : BitVec 32 := 9#32
  let v832 : BitVec 1 := Scalar.cmpi .ne v2 c9_i32_668
  let v833 : BitVec 32 := Scalar.extui v832
  let c0_i32_669 : BitVec 32 := 0#32
  let v834 : BitVec 1 := Scalar.cmpi .ne v833 c0_i32_669
  v834

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev42 : Nat :=
  let c0_i32_759 : BitVec 32 := 0#32
  let c9_i32_757 : BitVec 32 := 9#32
  let c1_i32_758 : BitVec 32 := 1#32
  let v961 : BitVec 32 := Scalar.muli c9_i32_757 c1_i32_758
  let v962 : BitVec 32 := Scalar.addi c0_i32_759 v961
  v962.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_670 : BitVec 32 := 10#32
  let v835 : BitVec 1 := Scalar.cmpi .ne v2 c10_i32_670
  let v836 : BitVec 32 := Scalar.extui v835
  let c0_i32_671 : BitVec 32 := 0#32
  let v837 : BitVec 1 := Scalar.cmpi .ne v836 c0_i32_671
  v837

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev43 : Nat :=
  let c0_i32_759 : BitVec 32 := 0#32
  let c10_i32_757 : BitVec 32 := 10#32
  let c1_i32_758 : BitVec 32 := 1#32
  let v961 : BitVec 32 := Scalar.muli c10_i32_757 c1_i32_758
  let v962 : BitVec 32 := Scalar.addi c0_i32_759 v961
  v962.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_672 : BitVec 32 := 11#32
  let v838 : BitVec 1 := Scalar.cmpi .ne v2 c11_i32_672
  let v839 : BitVec 32 := Scalar.extui v838
  let c0_i32_673 : BitVec 32 := 0#32
  let v840 : BitVec 1 := Scalar.cmpi .ne v839 c0_i32_673
  v840

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev44 : Nat :=
  let c0_i32_759 : BitVec 32 := 0#32
  let c11_i32_757 : BitVec 32 := 11#32
  let c1_i32_758 : BitVec 32 := 1#32
  let v961 : BitVec 32 := Scalar.muli c11_i32_757 c1_i32_758
  let v962 : BitVec 32 := Scalar.addi c0_i32_759 v961
  v962.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_674 : BitVec 32 := 12#32
  let v841 : BitVec 1 := Scalar.cmpi .ne v2 c12_i32_674
  let v842 : BitVec 32 := Scalar.extui v841
  let c0_i32_675 : BitVec 32 := 0#32
  let v843 : BitVec 1 := Scalar.cmpi .ne v842 c0_i32_675
  v843

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev45 : Nat :=
  let c0_i32_759 : BitVec 32 := 0#32
  let c12_i32_757 : BitVec 32 := 12#32
  let c1_i32_758 : BitVec 32 := 1#32
  let v961 : BitVec 32 := Scalar.muli c12_i32_757 c1_i32_758
  let v962 : BitVec 32 := Scalar.addi c0_i32_759 v961
  v962.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_676 : BitVec 32 := 13#32
  let v844 : BitVec 1 := Scalar.cmpi .ne v2 c13_i32_676
  let v845 : BitVec 32 := Scalar.extui v844
  let c0_i32_677 : BitVec 32 := 0#32
  let v846 : BitVec 1 := Scalar.cmpi .ne v845 c0_i32_677
  v846

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev46 : Nat :=
  let c0_i32_759 : BitVec 32 := 0#32
  let c13_i32_757 : BitVec 32 := 13#32
  let c1_i32_758 : BitVec 32 := 1#32
  let v961 : BitVec 32 := Scalar.muli c13_i32_757 c1_i32_758
  let v962 : BitVec 32 := Scalar.addi c0_i32_759 v961
  v962.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_678 : BitVec 32 := 14#32
  let v847 : BitVec 1 := Scalar.cmpi .ne v2 c14_i32_678
  let v848 : BitVec 32 := Scalar.extui v847
  let c0_i32_679 : BitVec 32 := 0#32
  let v849 : BitVec 1 := Scalar.cmpi .ne v848 c0_i32_679
  v849

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev47 : Nat :=
  let c0_i32_759 : BitVec 32 := 0#32
  let c14_i32_757 : BitVec 32 := 14#32
  let c1_i32_758 : BitVec 32 := 1#32
  let v961 : BitVec 32 := Scalar.muli c14_i32_757 c1_i32_758
  let v962 : BitVec 32 := Scalar.addi c0_i32_759 v961
  v962.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_680 : BitVec 32 := 15#32
  let v850 : BitVec 1 := Scalar.cmpi .ne v2 c15_i32_680
  let v851 : BitVec 32 := Scalar.extui v850
  let c0_i32_681 : BitVec 32 := 0#32
  let v852 : BitVec 1 := Scalar.cmpi .ne v851 c0_i32_681
  v852

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_755 : BitVec 32 := 32#32
  let v960 : BitVec 32 := Scalar.muli v2 c32_i32_755
  let c0_i32_760 : BitVec 32 := 0#32
  ![v960.toNat, 0]
def k0_dev48 : Nat :=
  let c0_i32_759 : BitVec 32 := 0#32
  let c15_i32_757 : BitVec 32 := 15#32
  let c1_i32_758 : BitVec 32 := 1#32
  let v961 : BitVec 32 := Scalar.muli c15_i32_757 c1_i32_758
  let v962 : BitVec 32 := Scalar.addi c0_i32_759 v961
  v962.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x512x16384 : Shape := ⟨3, ![1, 512, 16384]⟩
abbrev S1x512x128x128 : Shape := ⟨4, ![1, 512, 128, 128]⟩
abbrev S_ : Shape := ⟨0, ![]⟩
abbrev S1x128x512x1 : Shape := ⟨4, ![1, 128, 512, 1]⟩
abbrev S1x1024x128x128 : Shape := ⟨4, ![1, 1024, 128, 128]⟩
abbrev S1x128x512x1024 : Shape := ⟨4, ![1, 128, 512, 1024]⟩
abbrev S1x128x512 : Shape := ⟨3, ![1, 128, 512]⟩
abbrev S1x512x128x1 : Shape := ⟨4, ![1, 512, 128, 1]⟩
abbrev S1x128x128x512 : Shape := ⟨4, ![1, 128, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x512x16384, .f32⟩
  | .hbm, ⟨6, _⟩ => ⟨S1x512x128x128, .f32⟩
  | .hbm, ⟨7, _⟩ => ⟨S_, .f32⟩
  | .hbm, ⟨8, _⟩ => ⟨S1x512x128x128, .f32⟩
  | .hbm, ⟨9, _⟩ => ⟨S_, .f32⟩
  | .hbm, ⟨10, _⟩ => ⟨S1x128x512x1, .f32⟩
  | .hbm, ⟨11, _⟩ => ⟨S_, .f32⟩
  | .hbm, ⟨12, _⟩ => ⟨S1x128x512x1, .f32⟩
  | .hbm, ⟨13, _⟩ => ⟨S1x1024x128x128, .f32⟩
  | .hbm, ⟨14, _⟩ => ⟨S1x1024x128x128, .f32⟩
  | .hbm, ⟨15, _⟩ => ⟨S1x128x512x1024, .f32⟩
  | .hbm, ⟨16, _⟩ => ⟨S_, .f32⟩
  | .hbm, ⟨17, _⟩ => ⟨S1x128x512x1024, .f32⟩
  | .hbm, ⟨18, _⟩ => ⟨S1x128x512x1024, .f32⟩
  | .hbm, ⟨19, _⟩ => ⟨S_, .f32⟩
  | .hbm, ⟨20, _⟩ => ⟨S1x128x512, .f32⟩
  | .hbm, ⟨21, _⟩ => ⟨S1x128x512x1, .f32⟩
  | .hbm, ⟨22, _⟩ => ⟨S1x128x512x1, .f32⟩
  | .hbm, ⟨23, _⟩ => ⟨S1x128x512x1, .f32⟩
  | .hbm, ⟨24, _⟩ => ⟨S1x128x512x1, .f32⟩
  | .hbm, ⟨25, _⟩ => ⟨S1x128x512x1024, .f32⟩
  | .hbm, ⟨26, _⟩ => ⟨S1x128x512x1024, .f32⟩
  | .hbm, ⟨27, _⟩ => ⟨S1x128x512x1024, .f32⟩
  | .hbm, ⟨28, _⟩ => ⟨S1x128x512x1, .f32⟩
  | .hbm, ⟨29, _⟩ => ⟨S_, .f32⟩
  | .hbm, ⟨30, _⟩ => ⟨S1x128x512, .f32⟩
  | .hbm, ⟨31, _⟩ => ⟨S1x128x512x1, .f32⟩
  | .hbm, ⟨32, _⟩ => ⟨S1x128x512x1, .f32⟩
  | .hbm, ⟨33, _⟩ => ⟨S1x512x128x1, .f32⟩
  | .hbm, ⟨34, _⟩ => ⟨S1x512x128x128, .f32⟩
  | .hbm, ⟨35, _⟩ => ⟨S1x512x128x128, .f32⟩
  | .hbm, ⟨36, _⟩ => ⟨S1x128x128x512, .f32⟩
  | .hbm, ⟨37, _⟩ => ⟨S1x512x128x128, .f32⟩
  | .hbm, ⟨38, _⟩ => ⟨S1x512x128x128, .f32⟩
  | .hbm, ⟨39, _⟩ => ⟨S1x1024x128x128, .f32⟩
  | .hbm, ⟨40, _⟩ => ⟨S1x1024x128x128, .f32⟩
  | .hbm, ⟨41, _⟩ => ⟨S1x128x512x1024, .f32⟩
  | .hbm, ⟨42, _⟩ => ⟨S_, .f32⟩
  | .hbm, ⟨43, _⟩ => ⟨S1x128x512x1024, .f32⟩
  | .hbm, ⟨44, _⟩ => ⟨S1x128x512x1024, .f32⟩
  | .hbm, ⟨45, _⟩ => ⟨S_, .f32⟩
  | .hbm, ⟨46, _⟩ => ⟨S1x128x512, .f32⟩
  | .hbm, ⟨47, _⟩ => ⟨S1x128x512x1, .f32⟩
  | .hbm, ⟨48, _⟩ => ⟨S1x128x512x1, .f32⟩
  | .hbm, ⟨49, _⟩ => ⟨S1x128x512x1, .f32⟩
  | .hbm, ⟨50, _⟩ => ⟨S1x128x512x1, .f32⟩
  | .hbm, ⟨51, _⟩ => ⟨S1x128x512x1024, .f32⟩
  | .hbm, ⟨52, _⟩ => ⟨S1x128x512x1024, .f32⟩
  | .hbm, ⟨53, _⟩ => ⟨S1x128x512x1024, .f32⟩
  | .hbm, ⟨54, _⟩ => ⟨S1x128x512x1, .f32⟩
  | .hbm, ⟨55, _⟩ => ⟨S_, .f32⟩
  | .hbm, ⟨56, _⟩ => ⟨S1x128x512, .f32⟩
  | .hbm, ⟨57, _⟩ => ⟨S1x128x512x1, .f32⟩
  | .hbm, ⟨58, _⟩ => ⟨S1x128x512x1, .f32⟩
  | .hbm, ⟨59, _⟩ => ⟨S1x512x128x1, .f32⟩
  | .hbm, ⟨60, _⟩ => ⟨S1x512x128x128, .f32⟩
  | .hbm, ⟨61, _⟩ => ⟨S1x512x128x128, .f32⟩
  | .hbm, ⟨62, _⟩ => ⟨S1x128x128x512, .f32⟩
  | .hbm, ⟨63, _⟩ => ⟨S1x512x128x128, .f32⟩
  | .hbm, ⟨64, _⟩ => ⟨S1x512x128x128, .f32⟩
  | .hbm, ⟨65, _⟩ => ⟨S1x512x128x1, .f32⟩
  | .hbm, ⟨66, _⟩ => ⟨S1x512x128x128, .f32⟩
  | .hbm, ⟨67, _⟩ => ⟨S1x512x128x128, .f32⟩
  | .hbm, ⟨68, _⟩ => ⟨S1x512x16384, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Proto.lean ====
/-
The protocol of the attention kernel: the memory regions the devices hand to each other, what each holds
when it is handed over, and the rounds of the semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

variable (m : (ℓ : Loc nD τ sig) → Buf (Elt F) ℓ)

/-! ## Buffers and regions -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x512x1024 .f32 := Memref.whole cc0_stg3_0
abbrev kM : Memref sig .tc .hbm S1x2048x8x128 .f32 := Memref.whole main_arg2
abbrev vM : Memref sig .tc .hbm S1x2048x8x128 .f32 := Memref.whole main_arg3
abbrev ksM : Memref sig .tc .vmem S2x2048x128 .f32 := Memref.whole cc0_scratch0
abbrev vsM : Memref sig .tc .vmem S2x2048x128 .f32 := Memref.whole cc0_scratch1
abbrev kbM : Memref sig .tc .vmem S8x2048x128 .bf16 := Memref.whole cc0_scratch2
abbrev vbM : Memref sig .tc .vmem S8x2048x256 .bf16 := Memref.whole cc0_scratch3
abbrev ptM : Memref sig .tc .vmem S512x1024 .bf16 := Memref.whole cc0_scratch4
abbrev rsM : Memref sig .tc .vmem S16x32x1024 .bf16 := Memref.whole cc0_scratch5
abbrev rdM : Memref sig .tc .vmem S32x1024 .bf16 := Memref.whole cc0_scratch6
abbrev agM : Memref sig .tc .vmem S512x1024 .bf16 := Memref.whole cc0_scratch7

theorem inb_rs (p : Dev nD) : ∀ a, (![p.val, 0, 0] : Fin 3 → Nat) a + S1x32x1024.size a ≤ S16x32x1024.size a := by
  revert p; decide
theorem inb_row (p : Dev nD) : ∀ a, (![32 * p.val, 0] : Fin 2 → Nat) a + S32x1024.size a ≤ S512x1024.size a := by
  revert p; decide
theorem inb_hbm (h : Fin 8) : ∀ a, (![0, 0, h.val, 0] : Fin 4 → Nat) a + S1x2048x1x128.size a ≤ S1x2048x8x128.size a := by
  revert h; decide
theorem inb_stage (b : Fin 2) : ∀ a, (![b.val, 0, 0] : Fin 3 → Nat) a + S1x2048x128.size a ≤ S2x2048x128.size a := by
  revert b; decide
theorem inb_kb (h : Fin 8) : ∀ a, (![h.val, 0, 0] : Fin 3 → Nat) a + S1x2048x128.size a ≤ S8x2048x128.size a := by
  revert h; decide
theorem inb_vb (h : Fin 8) : ∀ a, (![h.val, 0, 0] : Fin 3 → Nat) a + S1x2048x256.size a ≤ S8x2048x256.size a := by
  revert h; decide
theorem inb_blk (b : Fin 2) : ∀ a, (![256 * b.val, 0] : Fin 2 → Nat) a + S256x1024.size a ≤ S512x1024.size a := by
  revert b; decide

abbrev rsR (p : Dev nD) : Rect S16x32x1024 := Rect.unit (s := S16x32x1024) ![p.val, 0, 0] S1x32x1024.size (inb_rs p)
abbrev rowR (p : Dev nD) : Rect S512x1024 := Rect.unit (s := S512x1024) ![32 * p.val, 0] S32x1024.size (inb_row p)
abbrev hbmR (h : Fin 8) : Rect S1x2048x8x128 := Rect.unit (s := S1x2048x8x128) ![0, 0, h.val, 0] S1x2048x1x128.size (inb_hbm h)
abbrev stageR (b : Fin 2) : Rect S2x2048x128 := Rect.unit (s := S2x2048x128) ![b.val, 0, 0] S1x2048x128.size (inb_stage b)
abbrev kbR (h : Fin 8) : Rect S8x2048x128 := Rect.unit (s := S8x2048x128) ![h.val, 0, 0] S1x2048x128.size (inb_kb h)
abbrev vbR (h : Fin 8) : Rect S8x2048x256 := Rect.unit (s := S8x2048x256) ![h.val, 0, 0] S1x2048x256.size (inb_vb h)
abbrev blkR (b : Fin 2) : Rect S512x1024 := Rect.unit (s := S512x1024) ![256 * b.val, 0] S256x1024.size (inb_blk b)

/-- Slot `p` of the scatter buffer: where device `p`'s rows land. -/
abbrev rsSl (p : Dev nD) : Memref sig .tc .vmem S32x1024 .bf16 :=
  (rsM.slice (rsR p) (fun _ => rfl)).squeeze S32x1024 squeezes_S1x32x1024_S32x1024
/-- Rows `32 p .. 32 p + 31` of this device's product. -/
abbrev ptRow (p : Dev nD) : Memref sig .tc .vmem S32x1024 .bf16 := ptM.slice (rowR p) (fun _ => rfl)
/-- Rows `32 p .. 32 p + 31` of the gathered result. -/
abbrev agRow (p : Dev nD) : Memref sig .tc .vmem S32x1024 .bf16 := agM.slice (rowR p) (fun _ => rfl)
/-- One head of the keys (values) in the device's memory, and one slot of the staging buffer. -/
abbrev kSl (h : Fin 8) : Memref sig .tc .hbm S2048x128 .f32 :=
  (kM.slice (hbmR h) (fun _ => rfl)).squeeze S2048x128 squeezes_S1x2048x1x128_S2048x128
abbrev vSl (h : Fin 8) : Memref sig .tc .hbm S2048x128 .f32 :=
  (vM.slice (hbmR h) (fun _ => rfl)).squeeze S2048x128 squeezes_S1x2048x1x128_S2048x128
abbrev ksSl (b : Fin 2) : Memref sig .tc .vmem S2048x128 .f32 :=
  (ksM.slice (stageR b) (fun _ => rfl)).squeeze S2048x128 squeezes_S1x2048x128_S2048x128
abbrev vsSl (b : Fin 2) : Memref sig .tc .vmem S2048x128 .f32 :=
  (vsM.slice (stageR b) (fun _ => rfl)).squeeze S2048x128 squeezes_S1x2048x128_S2048x128

/-! ## Semaphores -/

abbrev barS : Sem sig := (SemArray.scalar (sig.barrier 0 rfl) : Sems sig S_).sem
/-- The two semaphores of the key copies, of the value copies. -/
abbrev kS (b : Fin 2) : DmaSem sig := ⟨4 + b.val, by have := b.isLt; show 4 + b.val < 72; omega⟩
abbrev vS (b : Fin 2) : DmaSem sig := ⟨6 + b.val, by have := b.isLt; show 6 + b.val < 72; omega⟩
/-- The four families of sixteen: sends and receives of the scatter (0, 1) and of the gather (2, 3). -/
abbrev fS (k : Fin 4) (p : Dev nD) : DmaSem sig :=
  ⟨8 + 16 * k.val + p.val, by have := k.isLt; have : p.val < 16 := p.isLt; show 8 + 16 * k.val + p.val < 72; omega⟩

abbrev barCell (c : Dev nD) : GSem nD τ sig := ((c : Thread nD τ), .reg barS)
abbrev fCell (c : Dev nD) (k : Fin 4) (p : Dev nD) : GSem nD τ sig := ((c : Thread nD τ), .dma (fS k p))

def kindOf (q : DmaSem sig) : Fin 4 := ⟨(q.val - 8) / 16 % 4, Nat.mod_lt _ (by decide)⟩
set_option backward.proofsInPublic true in
def idxOf (q : DmaSem sig) : Dev nD := ⟨(q.val - 8) % 16, Nat.mod_lt _ (by decide)⟩

theorem kindOf_fS (k : Fin 4) (p : Dev nD) : kindOf (fS k p) = k := by revert k p; decide
theorem idxOf_fS (k : Fin 4) (p : Dev nD) : idxOf (fS k p) = p := by revert k p; decide

/-- The credit of one block of 32 rows. -/
abbrev NB : ℕ := (ptRow 0).view.dmaCredit
theorem NB_pos : 0 < NB := View.dmaCredit_pos _ (by decide)
abbrev NK : ℕ := (ksSl 0).view.dmaCredit
theorem NK_pos : 0 < NK := View.dmaCredit_pos _ (by decide)

/-! ## Contents -/

/-- The device's position in the mesh as the kernel computes it. -/
abbrev V2 (c : Dev nD) : BitVec 32 := Scalar.remsi (Scalar.divsi (Dev.word c) 1#32) 16#32

def xstg (c : Dev nD) : Vec F S1x512x1024 .f32 :=
  (win0_0.blk (0 : Fin 1)).view.read (Elt F) (m ((c : Thread nD τ).loc main_arg0))
def wqstg (c : Dev nD) : Vec F S1024x1024 .f32 :=
  (win0_1.blk (0 : Fin 1)).view.read (Elt F) (m ((c : Thread nD τ).loc main_arg1))
def wostg (c : Dev nD) : Vec F S1024x1024 .f32 :=
  (win0_2.blk (0 : Fin 1)).view.read (Elt F) (m ((c : Thread nD τ).loc main_arg4))

def q73 (c : Dev nD) : FVec F S512x1024 .bf16 := k0_pay1 (xstg m c) (wqstg m c)
def w76 (c : Dev nD) : FVec F S1024x1024 .bf16 := k0_pay2 (wostg m c)

abbrev K0 (c : Dev nD) : Buf (Elt F) (kM.view.loc (c : Thread nD τ)) := m ((c : Thread nD τ).loc main_arg2)
abbrev V0 (c : Dev nD) : Buf (Elt F) (vM.view.loc (c : Thread nD τ)) := m ((c : Thread nD τ).loc main_arg3)

/-- The staging buffer of the keys once head `h` has arrived in slot `b`. -/
def kStg (c : Dev nD) (b : Fin 2) (h : Fin 8) : Buf (Elt F) ((ksSl b).view.loc (c : Thread nD τ)) :=
  (ksSl b).view.write (Elt F) (m ((c : Thread nD τ).loc cc0_scratch0)) ((kSl h).view.read (Elt F) (K0 m c)) Finset.univ
def vStg (c : Dev nD) (b : Fin 2) (h : Fin 8) : Buf (Elt F) ((vsSl b).view.loc (c : Thread nD τ)) :=
  (vsSl b).view.write (Elt F) (m ((c : Thread nD τ).loc cc0_scratch1)) ((vSl h).view.read (Elt F) (V0 m c)) Finset.univ

def kLd (c : Dev nD) (b : Fin 2) (h : Fin 8) : Vec F S1x2048x128 .f32 := ksM.view.readAt (Elt F) (stageR b).toLoadRect (kStg m c b h)
def vLd (c : Dev nD) (b : Fin 2) (h : Fin 8) : Vec F S1x2048x128 .f32 := vsM.view.readAt (Elt F) (stageR b).toLoadRect (vStg m c b h)

/-- The staging slot of head `h`. -/
abbrev par (h : Fin 8) : Fin 2 := ⟨h.val % 2, Nat.mod_lt _ (by decide)⟩

/-- All eight heads of the keys, narrowed; of the values, narrowed and extended by ones. -/
def KB (c : Dev nD) : Vec F S8x2048x128 .bf16 := fun i =>
  (kbM.access (kbR (i 0))).write (Elt F) (m ((c : Thread nD τ).loc cc0_scratch2)) (k0_pay3 (kLd m c (par (i 0)) (i 0))) Finset.univ i
def VB (c : Dev nD) : Vec F S8x2048x256 .bf16 := fun i =>
  (vbM.access (vbR (i 0))).write (Elt F) (m ((c : Thread nD τ).loc cc0_scratch3)) (k0_pay7 (vLd m c (par (i 0)) (i 0))) Finset.univ i

/-- The same after the first `n` heads, over earlier contents. -/
def KBn (c : Dev nD) (n : ℕ) (f : Vec F S8x2048x128 .bf16) : Vec F S8x2048x128 .bf16 :=
  fun i => if (i 0 : Fin 8).val < n then KB m c i else f i
def VBn (c : Dev nD) (n : ℕ) (f : Vec F S8x2048x256 .bf16) : Vec F S8x2048x256 .bf16 :=
  fun i => if (i 0 : Fin 8).val < n then VB m c i else f i

def kbLd (c : Dev nD) (h : Fin 8) : Vec F S1x2048x128 .bf16 := kbM.view.readAt (Elt F) (kbR h).toLoadRect (KB m c)
def vbLd (c : Dev nD) (h : Fin 8) : Vec F S1x2048x256 .bf16 := vbM.view.readAt (Elt F) (vbR h).toLoadRect (VB m c)

/-- The product of the first 256 rows, of the last 256. -/
def P0 (c : Dev nD) : FVec F S256x1024 .bf16 :=
  k0_pay29 (q73 m c) (w76 m c) (k0_pay22 (k0_pay21 (q73 m c)) (kbLd m c 0) (vbLd m c 0))
    (k0_pay23 (q73 m c) (kbLd m c 1) (vbLd m c 1)) (k0_pay24 (q73 m c) (kbLd m c 2) (vbLd m c 2))
    (k0_pay25 (q73 m c) (kbLd m c 3) (vbLd m c 3)) (k0_pay26 (q73 m c) (kbLd m c 4) (vbLd m c 4))
    (k0_pay27 (q73 m c) (kbLd m c 5) (vbLd m c 5)) (k0_pay28 (q73 m c) (kbLd m c 5) (vbLd m c 5))
    (kbLd m c 6) (vbLd m c 6) (kbLd m c 7) (vbLd m c 7)
def P1 (c : Dev nD) : FVec F S256x1024 .bf16 :=
  k0_pay39 (q73 m c) (w76 m c) (k0_pay31 (k0_pay30 (q73 m c) (kbLd m c 0)) (vbLd m c 0))
    (k0_pay32 (q73 m c) (kbLd m c 1) (vbLd m c 1)) (k0_pay33 (q73 m c) (kbLd m c 2) (vbLd m c 2))
    (k0_pay35 (k0_pay34 (q73 m c) (kbLd m c 3)) (vbLd m c 3)) (k0_pay36 (q73 m c) (kbLd m c 4) (vbLd m c 4))
    (k0_pay37 (q73 m c) (kbLd m c 5) (vbLd m c 5)) (k0_pay38 (q73 m c) (kbLd m c 6))
    (vbLd m c 6) (kbLd m c 7) (vbLd m c 7)

def PB (c : Dev nD) (b : Fin 2) : FVec F S256x1024 .bf16 := if b = 0 then P0 m c else P1 m c

/-- The device's product, all 512 rows. -/
def Part (c : Dev nD) : Vec F S512x1024 .bf16 := fun i =>
  if (i 0 : Fin 512).val < 256 then (ptM.access (blkR 0)).write (Elt F) (m ((c : Thread nD τ).loc cc0_scratch4)) (PB m c 0) Finset.univ i
  else (ptM.access (blkR 1)).write (Elt F) (m ((c : Thread nD τ).loc cc0_scratch4)) (PB m c 1) Finset.univ i

/-- The scatter buffer of `c` once every device's rows for `c` have arrived. -/
def RSp (c : Dev nD) : Vec F S16x32x1024 .bf16 := fun i =>
  (rsSl (i 0)).view.write (Elt F) (m ((c : Thread nD τ).loc cc0_scratch5)) ((ptRow c).view.read (Elt F) (Part m (i 0))) Finset.univ i
/-- The same with `c`'s own slot, which nobody writes, as it was. -/
def RS (c : Dev nD) (fr : Vec F S16x32x1024 .bf16) : Vec F S16x32x1024 .bf16 := fun i => if (i 0).val = c.val then fr i else RSp m c i

def ownLd (c : Dev nD) : Vec F S32x1024 .bf16 :=
  ptM.view.readAt (Elt F) (Rect.unit (s := S512x1024) (k0_off33 c) S32x1024.size (k0_off33_inb c)).toLoadRect (Part m c)
def rsLd (c : Dev nD) (fr : Vec F S16x32x1024 .bf16) (p : Dev nD) : Vec F S1x32x1024 .bf16 :=
  rsM.view.readAt (Elt F) (rsR p).toLoadRect (RS m c fr)

/-- The sum over the devices of their rows for `c`, from `c`'s own rows and the loaded slots. -/
def sum40 (c : Dev nD) (o : Vec F S32x1024 .bf16) (r : Dev nD → Vec F S1x32x1024 .bf16) : FVec F S32x1024 .f32 :=
  k0_pay40 (V2 c) o (r 0) (r 1) (r 2)
def sum43 (c : Dev nD) (o : Vec F S32x1024 .bf16) (r : Dev nD → Vec F S1x32x1024 .bf16) : FVec F S32x1024 .f32 :=
  k0_pay43 (V2 c) (sum40 c o r) (Scalar.cmpi .eq (V2 c) 3#32) (k0_pay41 (r 3)) k0_pay42 (r 4) (r 5) (r 6) (r 7)
def sum46 (c : Dev nD) (o : Vec F S32x1024 .bf16) (r : Dev nD → Vec F S1x32x1024 .bf16) : FVec F S32x1024 .f32 :=
  k0_pay46 (V2 c) (sum43 c o r) (Scalar.cmpi .eq (V2 c) 8#32) (k0_pay44 (r 8)) k0_pay45 (r 9) (r 10) (r 11) (r 12)
def sum49 (c : Dev nD) (o : Vec F S32x1024 .bf16) (r : Dev nD → Vec F S1x32x1024 .bf16) : FVec F S32x1024 .bf16 :=
  k0_pay49 (V2 c) (sum46 c o r) (Scalar.cmpi .eq (V2 c) 13#32) (k0_pay47 (r 13)) k0_pay48 (r 14) (r 15)

/-- The reduced rows of device `c`. -/
def Red (c : Dev nD) : Vec F S32x1024 .bf16 := sum49 c (ownLd m c) (rsLd m c (m ((c : Thread nD τ).loc cc0_scratch5)))

/-- The device whose 32 rows hold an index. -/
def rowOf (i : S512x1024.Idx) : Dev nD := ⟨(i 0).val / 32, Nat.div_lt_of_lt_mul (i 0).isLt⟩

/-- The gathered result on device `c`. -/
def AG (c : Dev nD) : Vec F S512x1024 .bf16 := fun i =>
  (agRow (rowOf i)).view.write (Elt F) (m ((c : Thread nD τ).loc cc0_scratch7)) (Red m (rowOf i)) Finset.univ i

def outV (c : Dev nD) : Vec F S1x512x1024 .f32 :=
  k0_pay52 (k0_pay51 (agM.view.readAt (Elt F) (Rect.unit (s := S512x1024) ![0, 0] S512x1024.size inb_S512x1024_S512x1024_0_0).toLoadRect (AG m c)))

/-! ## The pieces handed over -/

def rsPts (d p : Dev nD) (f : Vec F S16x32x1024 .bf16) : sProp 𝕄 :=
  (rsSl p).view.loc (d : Thread nD τ) ↦[(rsSl p).view.set]{fullShare} f
def ptPts (d p : Dev nD) (f : Vec F S512x1024 .bf16) : sProp 𝕄 :=
  (ptRow p).view.loc (d : Thread nD τ) ↦[(ptRow p).view.set]{fullShare} f
def agPts (d p : Dev nD) (f : Vec F S512x1024 .bf16) : sProp 𝕄 :=
  (agRow p).view.loc (d : Thread nD τ) ↦[(agRow p).view.set]{fullShare} f
/-- The read share of the reduced rows lent to the send to device `p`. -/
def rdTok (d p : Dev nD) (f : Vec F S32x1024 .bf16) : sProp 𝕄 :=
  rdM.view.loc (d : Thread nD τ) ↦[rdM.view.set]{Transfers.shareTok fullShare 16 p} f

instance rsPts_storable (d p : Dev nD) (f) : BI.Storable (upEmb : UEmb _ 𝕄) (rsPts (F := F) d p f) := by unfold rsPts; infer_instance
instance ptPts_storable (d p : Dev nD) (f) : BI.Storable (upEmb : UEmb _ 𝕄) (ptPts (F := F) d p f) := by unfold ptPts; infer_instance
instance agPts_storable (d p : Dev nD) (f) : BI.Storable (upEmb : UEmb _ 𝕄) (agPts (F := F) d p f) := by unfold agPts; infer_instance
instance rdTok_storable (d p : Dev nD) (f) : BI.Storable (upEmb : UEmb _ 𝕄) (rdTok (F := F) d p f) := by unfold rdTok; infer_instance

/-- What device `d` hands `c` with its barrier signal: its scatter slot and its gather rows for `c`. -/
def barPay (d c : Dev nD) : sProp 𝕄 := iprop((∃ f, rsPts d c f) ∗ (∃ f, agPts d c f))
instance barPay_storable (d c : Dev nD) : BI.Storable (upEmb : UEmb _ 𝕄) (barPay (F := F) d c) := by unfold barPay; infer_instance

def famPay (c : Dev nD) (k : Fin 4) (p : Dev nD) : sProp 𝕄 :=
  match k with
  | 0 => ptPts c p (Part m c)
  | 1 => rsPts c p (RSp m c)
  | 2 => rdTok c p (Red m c)
  | 3 => agPts c p (AG m c)
instance famPay_storable (c : Dev nD) (k : Fin 4) (p : Dev nD) : BI.Storable (upEmb : UEmb _ 𝕄) (famPay (F := F) m c k p) := by
  unfold famPay; split <;> infer_instance

/-! ## The rounds -/

def dutyOf (c : Dev nD) : SemLoc sig → Finset (Dev nD)
  | .reg s => if s = barS then Finset.univ.erase c else ∅
  | .dma q => if 8 ≤ q.val ∧ idxOf q ≠ c then {0} else ∅

def payOf (c d : Dev nD) : SemLoc sig → sProp 𝕄
  | .reg _ => barPay d c
  | .dma q => famPay m c (kindOf q) (idxOf q)

def amtOf : SemLoc sig → ℕ
  | .reg _ => 1
  | .dma _ => NB

def rd : Rounds.Schedule (GSem nD τ sig) (Dev nD) 𝕄 where
  duties g r := if r = 0 ∧ g.1.2 = .tc then dutyOf g.1.1 g.2 else ∅
  unitless _ := False
  amount g _ _ := amtOf g.2
  payload g _ d := payOf m g.1.1 d g.2
  amount_pos g r d hd := by
    cases h : g.2 with
    | reg _ => exact Nat.one_pos
    | dma _ => exact NB_pos

instance rd_payload_storable (g : GSem nD τ sig) (r : ℕ) (d : Dev nD) :
    BI.Storable (upEmb : UEmb _ 𝕄) ((rd (F := F) m).payload g r d) := by
  show BI.Storable upEmb (payOf m g.1.1 d g.2)
  unfold payOf; split <;> infer_instance

section Sched
variable (c : Dev nD)

theorem duties_bar : (rd (F := F) m).duties (barCell c) 0 = Finset.univ.erase c := by
  dsimp only [rd, dutyOf]; rw [if_pos ⟨rfl, rfl⟩, if_pos rfl]
theorem duties_fam (k : Fin 4) (p : Dev nD) (h : p ≠ c) : (rd (F := F) m).duties (fCell c k p) 0 = {0} := by
  dsimp only [rd, dutyOf]; rw [if_pos ⟨rfl, rfl⟩, idxOf_fS, if_pos ⟨by show 8 ≤ 8 + 16 * k.val + p.val; omega, h⟩]
theorem duties_own (k : Fin 4) : (rd (F := F) m).duties (fCell c k c) 0 = ∅ := by
  dsimp only [rd, dutyOf]; rw [if_pos ⟨rfl, rfl⟩, idxOf_fS, if_neg fun h => h.2 rfl]
theorem duties_later (g : GSem nD τ sig) : ∀ r, 1 ≤ r → (rd (F := F) m).duties g r = ∅ :=
  fun r hr => if_neg fun h => by omega
theorem duties_own_all (k : Fin 4) : ∀ r, 0 ≤ r → (rd (F := F) m).duties (fCell c k c) r = ∅ := fun r _ => by
  rcases Nat.eq_zero_or_pos r with rfl | h
  · exact duties_own m c k
  · exact duties_later m _ r h

theorem amount_bar (d : Dev nD) : (rd (F := F) m).amount (barCell c) 0 d = 1 := rfl
theorem amount_fam (k : Fin 4) (p d : Dev nD) : (rd (F := F) m).amount (fCell c k p) 0 d = NB := rfl

theorem expect_bar : (rd (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_fam (k : Fin 4) (p : Dev nD) (h : p ≠ c) : (rd (F := F) m).expect (fCell c k p) 0 = NB := by
  unfold Schedule.expect Schedule.amountOf; rw [duties_fam m c k p h, Finset.sum_singleton, amount_fam]

theorem payload_bar (d : Dev nD) : (rd (F := F) m).payload (barCell c) 0 d = barPay d c := rfl
theorem payload_fam (k : Fin 4) (p d : Dev nD) : (rd (F := F) m).payload (fCell c k p) 0 d = famPay m c k p := by
  show famPay m c (kindOf (fS k p)) (idxOf (fS k p)) = _
  rw [kindOf_fS, idxOf_fS]

theorem rest_bar : bigSep ((rd (F := F) m).duties (barCell c) 0 \ ∅) (fun d => (rd (F := F) m).payload (barCell c) 0 d)
    = bigSep (Finset.univ.erase c) (fun d => barPay d c) := by
  rw [Finset.sdiff_empty, duties_bar]; rfl
theorem rest_fam (k : Fin 4) (p : Dev nD) (h : p ≠ c) :
    bigSep ((rd (F := F) m).duties (fCell c k p) 0 \ ∅) (fun d => (rd (F := F) m).payload (fCell c k p) 0 d) = famPay m c k p := by
  rw [Finset.sdiff_empty, duties_fam m c k p h, bigSep_singleton, payload_fam]

end Sched

/-! ## What a device owes, and the levels -/

/-- The units of one kind device `c` still owes: to every device `p ≥ n` other than itself, `N` at `cell p`. -/
def Ow (cell : Dev nD → GSem nD τ sig) (N : ℕ) (c : Dev nD) (n : ℕ) : CellTallies nD τ sig Unit :=
  ∑ p ∈ Finset.univ.filter (fun p : Dev nD => n ≤ p.val ∧ p ≠ c), tallyAt (cell p) () N

theorem Ow_step (cell : Dev nD → GSem nD τ sig) (N : ℕ) (c p : Dev nD) (h : p ≠ c) :
    Ow cell N c p.val = Ow cell N c (p.val + 1) + tallyAt (cell p) () N := by
  unfold Ow
  rw [show Finset.univ.filter (fun q : Dev nD => p.val ≤ q.val ∧ q ≠ c)
      = insert p (Finset.univ.filter (fun q : Dev nD => p.val + 1 ≤ q.val ∧ q ≠ c)) from by
        ext q
        simp only [Finset.mem_filter, Finset.mem_univ, true_and, Finset.mem_insert]
        constructor
        · rintro ⟨h1, h2⟩
          rcases Nat.eq_or_lt_of_le h1 with h3 | h3
          · exact .inl (Fin.ext h3.symm)
          · exact .inr ⟨h3, h2⟩
        · rintro (rfl | ⟨h1, h2⟩)
          · exact ⟨le_rfl, h⟩
          · exact ⟨by omega, h2⟩,
    Finset.sum_insert (by simp), add_comm]

theorem Ow_skip (cell : Dev nD → GSem nD τ sig) (N : ℕ) (c : Dev nD) : Ow cell N c c.val = Ow cell N c (c.val + 1) := by
  unfold Ow
  refine Finset.sum_congr ?_ fun _ _ => rfl
  ext q
  simp only [Finset.mem_filter, Finset.mem_univ, true_and]
  constructor
  · rintro ⟨h1, h2⟩; exact ⟨Nat.lt_of_le_of_ne h1 fun h => h2 (Fin.ext h.symm), h2⟩
  · rintro ⟨h1, h2⟩; exact ⟨by omega, h2⟩

theorem Ow_end (cell : Dev nD → GSem nD τ sig) (N : ℕ) (c : Dev nD) : Ow cell N c 16 = 0 := by
  unfold Ow
  rw [Finset.filter_false_of_mem (fun p _ h => absurd h.1 (by have : p.val < 16 := p.isLt; omega)), Finset.sum_empty]

theorem Ow_pos {cell : Dev nD → GSem nD τ sig} {N : ℕ} {c : Dev nD} {n : ℕ} {g : GSem nD τ sig} {u : Unit} (h : 0 < Ow cell N c n g u) :
    ∃ p, g = cell p := by
  by_contra hn
  refine absurd h (Nat.not_lt.mpr (Nat.le_zero.mpr ?_))
  unfold Ow
  rw [Finset.sum_apply, Finsupp.finset_sum_apply]
  refine Finset.sum_eq_zero fun p _ => ?_
  rw [tallyAt_apply, if_neg fun h' => hn ⟨p, h'.1⟩]

/-- All that device `c` owes after `a` barrier signals, `b` scatter sends and `d` gather sends. -/
def Owe (c : Dev nD) (a b d : ℕ) : CellTallies nD τ sig Unit :=
  Ow barCell 1 c a + Ow (fun p => fCell p 1 c) NB c b + Ow (fun p => fCell p 3 c) NB c d

theorem Owe_pos {c : Dev nD} {a b d : ℕ} {g : GSem nD τ sig} {u : Unit} (h : 0 < Owe c a b d g u) :
    (a < 16 ∧ ∃ p, g = barCell p) ∨ (b < 16 ∧ ∃ p, g = fCell p 1 c) ∨ ∃ p, g = fCell p 3 c := by
  unfold Owe at h
  rw [Pi.add_apply, Finsupp.add_apply, Pi.add_apply, Finsupp.add_apply] at h
  have hz : ∀ (cell : Dev nD → GSem nD τ sig) (N : ℕ) (n : ℕ), 0 < Ow cell N c n g u → n < 16 := fun cell N n h => by
    by_contra hn
    have : Ow cell N c n = 0 := by
      unfold Ow
      rw [Finset.filter_false_of_mem (fun p _ h => absurd h.1 (by have : p.val < 16 := p.isLt; omega)), Finset.sum_empty]
    rw [this] at h; exact Nat.lt_irrefl 0 h
  rcases Nat.eq_zero_or_pos (Ow barCell 1 c a g u) with h1 | h1
  · rcases Nat.eq_zero_or_pos (Ow (fun p => fCell p 1 c) NB c b g u) with h2 | h2
    · rw [h1, h2, Nat.zero_add] at h
      exact .inr (.inr (Ow_pos h))
    · exact .inr (.inl ⟨hz _ _ _ h2, Ow_pos h2⟩)
  · exact .inl ⟨hz _ _ _ h1, Ow_pos h1⟩

def L (g : GSem nD τ sig) : Finset Unit := if g.1.2 = .tc then {()} else ∅
/-- Barrier cells at 1, the scatter's receive cells at 2, the gather's at 3, everything else at 0. -/
def lvS : SemLoc sig → ℕ
  | .reg s => if s = barS then 1 else 0
  | .dma q => if 24 ≤ q.val ∧ q.val < 40 then 2 else if 56 ≤ q.val then 3 else 0
def lv (g : GSem nD τ sig) (_ : Unit) : ℕ := lvS g.2

theorem lvS_bar : lvS (.reg barS) = 1 := by decide
theorem lvS_r1 (p : Dev nD) : lvS (.dma (fS 1 p)) = 2 := by revert p; decide
theorem lvS_r3 (p : Dev nD) : lvS (.dma (fS 3 p)) = 3 := by revert p; decide
theorem L_of_ne (g : GSem nD τ sig) (h : g.1.2 ≠ .tc) : L g = ∅ := if_neg h
theorem L_tc (c : Dev nD) (sm : SemLoc sig) : L ((c : Thread nD τ), sm) = {()} := if_pos rfl

/-- A wait at level `l` while owing only what lies above it. -/
theorem mayWait (c : Dev nD) (sm : SemLoc sig) (a b d : ℕ)
    (h1 : a < 16 → lvS sm < 1) (h2 : b < 16 → lvS sm < 2) (h3 : lvS sm < 3) :
    (levAts L lv : sProp 𝕄) ⊢ MayWait (c : Thread nD τ) sm () (Owe c a b d) :=
  MayOwe.of_cut (L := L) (lev := lv) (lvS sm) (fun p hp => by rw [Finset.mem_singleton.mp hp, L_tc]; exact Finset.mem_singleton_self _)
    (fun g u hg => by
      rcases Owe_pos hg with ⟨_, p, rfl⟩ | ⟨_, p, rfl⟩ | ⟨p, rfl⟩ <;> (rw [L_tc]; exact Finset.mem_singleton_self _))
    (fun p hp => by rw [Finset.mem_singleton.mp hp]; exact le_rfl)
    (fun g u hg => by
      rcases Owe_pos hg with ⟨ha, p, rfl⟩ | ⟨hb, p, rfl⟩ | ⟨p, rfl⟩
      · exact (h1 ha).trans_eq lvS_bar.symm
      · exact (h2 hb).trans_eq (lvS_r1 c).symm
      · exact h3.trans_eq (lvS_r3 c).symm)

theorem Owe_end (c : Dev nD) : Owe c 16 16 16 = 0 := by
  unfold Owe; rw [Ow_end, Ow_end, Ow_end, add_zero, add_zero]

theorem mayWait_end (c : Dev nD) (sm : SemLoc sig) :
    (levAts L lv : sProp 𝕄) ⊢ MayWait (c : Thread nD τ) sm () (Owe c 16 16 16) := by
  rw [Owe_end, MayWait_zero]; iintro -; iempintro

end Cert.KernelIdeal.Hand
-- ==== Proof.State.lean ====
/-
The state of one device's run of the kernel, split into components, and how one step changes a few of them.
-/
module

public import proofs.«01_k».proof.Proof.Proto

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The state -/

/-- One slot of a staging buffer: free, being filled with a head, or holding it. -/
inductive Slot where
  | idle
  | fly (h : Fin 8)
  | full (h : Fin 8)
  deriving DecidableEq

/-- How far a device has come: barrier signals sent (`sg`) and whether the barrier is passed (`bw`); the four staging
slots; heads of keys and values narrowed (`kb`, `vb`); the two halves of the product stored (`pl`, `ph`); scatter sends
(`t1`) and receipts (`w1`); the reduced rows stored (`rd`); gather sends (`t2`), own rows stored (`go`), receipts (`w2`);
sends waited for (`ws`); the result stored (`ou`). -/
structure S where
  sg : ℕ
  bw : ℕ
  kA : Slot
  kB : Slot
  vA : Slot
  vB : Slot
  kb : ℕ
  vb : ℕ
  pl : ℕ
  ph : ℕ
  t1 : ℕ
  w1 : ℕ
  rd : ℕ
  t2 : ℕ
  go : ℕ
  w2 : ℕ
  ws : ℕ
  ou : ℕ

namespace S
abbrev kS (s : S) : Fin 2 → Slot | 0 => s.kA | 1 => s.kB
abbrev vS (s : S) : Fin 2 → Slot | 0 => s.vA | 1 => s.vB
abbrev setK (s : S) (x : Slot) : Fin 2 → S | 0 => { s with kA := x } | 1 => { s with kB := x }
abbrev setV (s : S) (x : Slot) : Fin 2 → S | 0 => { s with vA := x } | 1 => { s with vB := x }
abbrev pS (s : S) : Fin 2 → ℕ | 0 => s.pl | 1 => s.ph
abbrev setP (s : S) (x : ℕ) : Fin 2 → S | 0 => { s with pl := x } | 1 => { s with ph := x }
end S

inductive Cmp where
  | ow | sg | bar | s1 | s2 | r1 | r2 | rsO | agO | pt (b : Fin 2) | red | kH | vH | kSl (b : Fin 2) | vSl (b : Fin 2)
  | kb | vb | xs | wqs | wos | ou
deriving DecidableEq

def cmps : List Cmp :=
  [.ow, .sg, .bar, .s1, .s2, .r1, .r2, .rsO, .agO, .pt 0, .pt 1, .red, .kH, .vH, .kSl 0, .kSl 1, .vSl 0, .vSl 1,
    .kb, .vb, .xs, .wqs, .wos, .ou]
instance : Fintype Cmp where
  elems := cmps.toFinset
  complete := by
    rintro (_ | _ | _ | _ | _ | _ | _ | _ | _ | b | _ | _ | _ | b | b | _ | _ | _ | _ | _ | _) <;>
      first | decide | (fin_cases b <;> decide)

/-- The index of a device's cells: its barrier cell, or one of its sixty-four transfer cells. -/
abbrev Ck : Type := Option (Fin 4 × Dev nD)
abbrev kcell (x : Dev nD × Ck) : GSem nD τ sig :=
  match x.2 with
  | none => barCell x.1
  | some (k, p) => fCell x.1 k p

variable (K : Dev nD × Ck → ℕ) (fr : Vec F S16x32x1024 .bf16) (c : Dev nD)

/-- What every step may use: the invariants of all cells, their first round, the levels. -/
def Ctx : sProp 𝕄 :=
  iprop((bigSep Finset.univ fun x : Dev nD × Ck => cellInv ER (rd m) (K x) (kcell x))
    ∗ (bigSep Finset.univ fun x : Dev nD × Ck => reached ER (kcell x) 0) ∗ levAts L lv)

instance Ctx_persistent : BI.Persistent (Ctx (F := F) m K) := by unfold Ctx; infer_instance

theorem bigSepL_step {I : Type} (i j : I) (l : List I) (Φ : I → sProp 𝕄) : bigSepL (i :: j :: l) Φ = iprop(Φ i ∗ bigSepL (j :: l) Φ) := rfl
theorem bigSep_get {I : Type} [DecidableEq I] {A : Finset I} {i : I} (h : i ∈ A) {Φ : I → sProp 𝕄} : (bigSep A Φ : sProp 𝕄) ⊢ Φ i := bigSep_elim h
theorem bigSep_take {I : Type} [DecidableEq I] {A : Finset I} {i : I} (h : i ∈ A) {Φ : I → sProp 𝕄} :
    bigSep A Φ = iprop(Φ i ∗ bigSep (A.erase i) Φ) := bigSep_erase h
theorem bigSep_both {I : Type} {A : Finset I} (Φ Ψ : I → sProp 𝕄) :
    bigSep A (fun i => iprop(Φ i ∗ Ψ i)) = iprop(bigSep A Φ ∗ bigSep A Ψ) := bigSep_sep A Φ Ψ
theorem bigSep_wk {I : Type} {A : Finset I} {Φ Ψ : I → sProp 𝕄} (h : ∀ i ∈ A, Φ i ⊢ Ψ i) : bigSep A Φ ⊢ bigSep A Ψ := bigSep_mono h
theorem bigSep_part {I : Type} [DecidableEq I] {A B : Finset I} (h : B ⊆ A) {Φ : I → sProp 𝕄} :
    bigSep A Φ = iprop(bigSep B Φ ∗ bigSep (A \ B) Φ) := bigSep_sdiff_split h
theorem Ctx_inv (x : Dev nD × Ck) : Ctx (F := F) m K ⊢ cellInv ER (rd m) (K x) (kcell x) := by
  unfold Ctx; iintro ⟨H, -, -⟩; iapply (bigSep_get (Φ := fun x : Dev nD × Ck => cellInv ER (rd m) (K x) (kcell x)) (Finset.mem_univ x)); iexact H
theorem Ctx_reached (x : Dev nD × Ck) : Ctx (F := F) m K ⊢ reached ER (kcell x) 0 := by
  unfold Ctx; iintro ⟨-, H, -⟩; iapply (bigSep_get (Φ := fun x : Dev nD × Ck => reached ER (kcell x) 0) (Finset.mem_univ x)); iexact H
theorem Ctx_lev : Ctx (F := F) m K ⊢ (levAts L lv : sProp 𝕄) := by
  unfold Ctx; iintro ⟨-, -, H⟩; iexact H

/-! ## The components -/

def ksPts (b : Fin 2) (f : Vec F S2x2048x128 .f32) : sProp 𝕄 := (ksSl b).view.loc (c : Thread nD τ) ↦[(ksSl b).view.set]{fullShare} f
def vsPts (b : Fin 2) (f : Vec F S2x2048x128 .f32) : sProp 𝕄 := (vsSl b).view.loc (c : Thread nD τ) ↦[(vsSl b).view.set]{fullShare} f
def kPts (h : Fin 8) : sProp 𝕄 := (kSl h).view.loc (c : Thread nD τ) ↦[(kSl h).view.set]{fullShare} K0 m c
def vPts (h : Fin 8) : sProp 𝕄 := (vSl h).view.loc (c : Thread nD τ) ↦[(vSl h).view.set]{fullShare} V0 m c

def slK (b : Fin 2) : Slot → sProp 𝕄
  | .idle => iprop((∃ f, ksPts c b f) ∗ semVal ((c : Thread nD τ), .dma (kS b)) 0)
  | .fly h => Transfers.Flight EC (c : Thread nD τ) (.dma (kS b)) () NK iprop(ksPts c b (kStg m c b h) ∗ kPts m c h)
  | .full h => iprop(ksPts c b (kStg m c b h) ∗ semVal ((c : Thread nD τ), .dma (kS b)) 0)
def slV (b : Fin 2) : Slot → sProp 𝕄
  | .idle => iprop((∃ f, vsPts c b f) ∗ semVal ((c : Thread nD τ), .dma (vS b)) 0)
  | .fly h => Transfers.Flight EC (c : Thread nD τ) (.dma (vS b)) () NK iprop(vsPts c b (vStg m c b h) ∗ vPts m c h)
  | .full h => iprop(vsPts c b (vStg m c b h) ∗ semVal ((c : Thread nD τ), .dma (vS b)) 0)

/-- A send of the scatter, to device `p`. -/
def elS1 (bw t w : ℕ) (p : Dev nD) : sProp 𝕄 :=
  if p.val < w then semVal (fCell c 0 p) 0
  else if p.val < t then iprop(cred (tallyAt (fCell c 0 p) () NB) ∗ atPos ER (fCell c 0 p) 0 ∅ 0)
  else iprop(dutyTok ER (fCell c 0 p) 0 0 ∗ dutyTok ER (fCell p 1 c) 0 0 ∗ atPos ER (fCell c 0 p) 0 ∅ 0 ∗ (if bw = 1 then iprop(∃ f, rsPts p c f) else iprop(emp)))
/-- A send of the gather, to device `p`. -/
def elS2 (bw t w : ℕ) (p : Dev nD) : sProp 𝕄 :=
  if p.val < w then semVal (fCell c 2 p) 0
  else if p.val < t then iprop(cred (tallyAt (fCell c 2 p) () NB) ∗ atPos ER (fCell c 2 p) 0 ∅ 0)
  else iprop(dutyTok ER (fCell c 2 p) 0 0 ∗ dutyTok ER (fCell p 3 c) 0 0 ∗ atPos ER (fCell c 2 p) 0 ∅ 0 ∗ (if bw = 1 then iprop(∃ f, agPts p c f) else iprop(emp)))
/-- A receipt of the scatter, of the gather. -/
def elR1 (w : ℕ) (p : Dev nD) : sProp 𝕄 :=
  if p.val < w then iprop(semVal (fCell c 1 p) 0 ∗ rsPts c p (RSp m c)) else iprop(cred (tallyAt (fCell c 1 p) () NB) ∗ atPos ER (fCell c 1 p) 0 ∅ 0)
def elR2 (w : ℕ) (p : Dev nD) : sProp 𝕄 :=
  if p.val < w then iprop(semVal (fCell c 3 p) 0 ∗ agPts c p (AG m c)) else iprop(cred (tallyAt (fCell c 3 p) () NB) ∗ atPos ER (fCell c 3 p) 0 ∅ 0)
/-- A barrier signal still to be sent to `p`. -/
def elSg (n : ℕ) (p : Dev nD) : sProp 𝕄 :=
  if p.val < n then iprop(emp) else iprop(dutyTok ER (barCell p) 0 c ∗ barPay c p)
/-- The rows of the product for `p`, while no send holds them. -/
def elPt (t w : ℕ) (p : Dev nD) : sProp 𝕄 := if p = c ∨ t ≤ p.val ∨ p.val < w then ptPts c p (Part m c) else iprop(emp)
/-- The share of the reduced rows for the send to `p`, while that send does not hold it. -/
def elRd (t w : ℕ) (p : Dev nD) : sProp 𝕄 := if p = c ∨ t ≤ p.val ∨ p.val < w then rdTok c p (Red m c) else iprop(emp)

def rows (b : Fin 2) : Finset (Dev nD) := Finset.univ.filter fun p => p.val / 8 = b.val

def blkPts (b : Fin 2) (f : Vec F S512x1024 .bf16) : sProp 𝕄 := (ptM.access (blkR b)).loc (c : Thread nD τ) ↦[(ptM.access (blkR b)).set]{fullShare} f

def flying (a b : Slot) (h : Fin 8) : Prop := a = .fly h ∨ b = .fly h

open Classical in
def Comp (s : S) : Cmp → sProp 𝕄
  | .ow => iprop(∃ W, owes (c : Thread nD τ) (Owe c s.sg s.t1 s.t2) W)
  | .sg => bigSep (Finset.univ.erase c) (elSg c s.sg)
  | .bar => if s.bw = 0 then iprop(cred (tallyAt (barCell c) () 15) ∗ atPos ER (barCell c) 0 ∅ 0) else semVal (barCell c) 0
  | .s1 => bigSep (Finset.univ.erase c) (elS1 c s.bw s.t1 s.ws)
  | .s2 => bigSep (Finset.univ.erase c) (elS2 c s.bw s.t2 s.ws)
  | .r1 => bigSep (Finset.univ.erase c) (elR1 m c s.w1)
  | .r2 => bigSep (Finset.univ.erase c) (elR2 m c s.w2)
  | .rsO => rsPts c c fr
  | .agO => if s.go = 0 then iprop(∃ f, agPts c c f) else agPts c c (AG m c)
  | .pt b => if s.pS b = 0 then iprop(∃ f, blkPts c b f) else bigSep (rows b) (elPt m c s.t1 s.ws)
  | .red => if s.rd = 0 then iprop(∃ f : Vec F S32x1024 .bf16, ((c : Thread nD τ).loc cc0_scratch6) ↦{fullShare} f)
      else iprop((rdM.view.loc (c : Thread nD τ) ↦[rdM.view.set]{Transfers.shareDrop fullShare 16} Red m c) ∗ bigSep Finset.univ (elRd m c s.t2 s.ws))
  | .kH => bigSep Finset.univ fun h : Fin 8 => if flying s.kA s.kB h then iprop(emp) else kPts m c h
  | .vH => bigSep Finset.univ fun h : Fin 8 => if flying s.vA s.vB h then iprop(emp) else vPts m c h
  | .kSl b => slK m c b (s.kS b)
  | .vSl b => slV m c b (s.vS b)
  | .kb => iprop(∃ f, ((c : Thread nD τ).loc cc0_scratch2) ↦{fullShare} KBn m c s.kb f)
  | .vb => iprop(∃ f, ((c : Thread nD τ).loc cc0_scratch3) ↦{fullShare} VBn m c s.vb f)
  | .xs => ((c : Thread nD τ).loc cc0_stg0_0) ↦{fullShare} xstg m c
  | .wqs => ((c : Thread nD τ).loc cc0_stg1_0) ↦{fullShare} wqstg m c
  | .wos => ((c : Thread nD τ).loc cc0_stg2_0) ↦{fullShare} wostg m c
  | .ou => if s.ou = 0 then iprop(∃ f : Vec F S1x512x1024 .f32, ((c : Thread nD τ).loc cc0_stg3_0) ↦{fullShare} f)
      else ((c : Thread nD τ).loc cc0_stg3_0) ↦{fullShare} outV m c

/-- The state of device `c`. -/
def St (s : S) : sProp 𝕄 := iprop(Ctx m K ∗ bigSep Finset.univ (Comp m fr c s))

abbrev 𝒱₀ : Variants := Variants.none

/-- Running `p` on device `c`'s core. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- One step changes the components in `l` only. -/
theorem St_step {s s' : S} (l : List Cmp) (hl : l.Nodup) (hsame : ∀ i, i ∉ l → Comp m fr c s i = Comp m fr c s' i)
    {Wk WA : sProp 𝕄} (hk : St m K fr c s' ⊢ Wk)
    (hw : iprop(Ctx m K ∗ bigSepL l (Comp m fr c s)) ⊢ iprop((bigSepL l (Comp m fr c s') -∗ Wk) -∗ WA)) : St m K fr c s ⊢ WA := by
  have e (s : S) : bigSep Finset.univ (Comp m fr c s) = iprop(bigSepL l (Comp m fr c s) ∗ bigSep (Finset.univ \ l.toFinset) (Comp m fr c s)) := by
    rw [bigSep_part (Finset.subset_univ l.toFinset), bigSep_eq_bigSepL l hl]
  unfold St at hk ⊢
  rw [e s]
  rw [e s', ← bigSep_congr (s := Finset.univ \ l.toFinset) (Φ := Comp m fr c s) fun i hi =>
    hsame i (by simpa using (Finset.mem_sdiff.mp hi).2)] at hk
  iintro ⟨#HC, HL, HR⟩
  ihave Hw := hw $$ [HL]
  · isplitr; · iexact HC
    iexact HL
  iapply Hw
  iintro HL
  iapply hk
  isplitr; · iexact HC
  isplitl [HL] <;> iassumption

/-- Taking one member out of a family of resources and putting back its next form. -/
theorem fam_step {I : Type} [DecidableEq I] {A : Finset I} {Φ Ψ : I → sProp 𝕄} (p : I) (hp : p ∈ A) (h : ∀ q ∈ A, q ≠ p → Ψ q = Φ q) :
    bigSep A Φ ⊢ iprop(Φ p ∗ (Ψ p -∗ bigSep A Ψ)) := by
  rw [bigSep_take hp, bigSep_take (Φ := Ψ) hp, bigSep_congr (s := A.erase p) (Φ := Ψ) (Ψ := Φ) fun q hq =>
    h q (Finset.mem_of_mem_erase hq) (Finset.ne_of_mem_erase hq)]
  iintro ⟨H1, H2⟩
  isplitl [H1]; · iexact H1
  iintro H1
  isplitl [H1] <;> iassumption

theorem lt_succ_iff {p q : Dev nD} (h : q ≠ p) : q.val < p.val + 1 ↔ q.val < p.val := by
  have : q.val ≠ p.val := fun e => h (Fin.ext e)
  omega
theorem succ_le_iff' {p q : Dev nD} (h : q ≠ p) : p.val + 1 ≤ q.val ↔ p.val ≤ q.val := by
  have : q.val ≠ p.val := fun e => h (Fin.ext e)
  omega

theorem Owe_sg (c p : Dev nD) (b d : ℕ) (h : p ≠ c) : Owe c p.val b d = Owe c (p.val + 1) b d + tallyAt (barCell p) () 1 := by
  unfold Owe; rw [Ow_step barCell 1 c p h, add_right_comm _ (tallyAt _ _ _), add_right_comm _ (tallyAt _ _ _)]
theorem Owe_t1 (c p : Dev nD) (a d : ℕ) (h : p ≠ c) : Owe c a p.val d = Owe c a (p.val + 1) d + tallyAt (fCell p 1 c) () NB := by
  unfold Owe; rw [Ow_step (fun p => fCell p 1 c) NB c p h, ← add_assoc, add_right_comm _ (tallyAt _ _ _)]
theorem Owe_t2 (c p : Dev nD) (a b : ℕ) (h : p ≠ c) : Owe c a b p.val = Owe c a b (p.val + 1) + tallyAt (fCell p 3 c) () NB := by
  unfold Owe; rw [Ow_step (fun p => fCell p 3 c) NB c p h, ← add_assoc]
theorem Owe_sg_own (c : Dev nD) (b d : ℕ) : Owe c c.val b d = Owe c (c.val + 1) b d := by unfold Owe; rw [Ow_skip]
theorem Owe_t1_own (c : Dev nD) (a d : ℕ) : Owe c a c.val d = Owe c a (c.val + 1) d := by unfold Owe; rw [Ow_skip]
theorem Owe_t2_own (c : Dev nD) (a b : ℕ) : Owe c a b c.val = Owe c a b (c.val + 1) := by unfold Owe; rw [Ow_skip]

/-! ## Barrier signals -/

theorem elSg_todo (p : Dev nD) : (elSg c p.val p : sProp 𝕄) = iprop(dutyTok ER (barCell p) 0 c ∗ barPay c p) := if_neg (Nat.lt_irrefl _)
theorem elSg_done (p : Dev nD) : (elSg c (p.val + 1) p : sProp 𝕄) = iprop(emp) := if_pos (Nat.lt_succ_self _)

theorem k_signal {s : S} (p : Dev nD) (hs : s.sg = p.val) {cnd : BitVec 1} (hc : cnd = 1#1 ↔ c ≠ p) {dv : cnd = 1#1 → Dev nD}
    (hd : ∀ h, dv h = p) {α : Type} {jp : PUnit.{1} → Prog (TpuEff nD τ sig (Elt F) Λ₀ .tc) α} {Q : α → sProp 𝕄}
    (hk : St m K fr c { s with sg := p.val + 1 } ⊢ Wp c (jp ⟨⟩) Q) :
    St m K fr c s ⊢ Wp c (if h : cnd = 1#1 then (semSignalWord (dv h) barS 1#32 >>= fun _ => jp ⟨⟩) else jp ⟨⟩) Q := by
  obtain ⟨sg, bw, kA, kB, vA, vB, kb, vb, pl, ph, t1, w1, rdd, t2, go, w2, ws, ou⟩ := s
  dsimp only at hs hk ⊢; subst hs
  refine St_step m K fr c [.ow, .sg] (by decide) (fun i hi => by cases i <;> first | rfl | exact absurd (by decide) hi) hk ?_
  simp only [bigSepL_step, bigSepL_singleton, Comp]
  by_cases hcp : c = p
  · rw [dif_neg (fun h => hc.mp h hcp)]
    subst hcp
    iintro ⟨-, ⟨%W, HO⟩, HS⟩ Hk
    iapply Hk
    isplitl [HO]
    · iexists W; rw [← Owe_sg_own]; iexact HO
    · iapply (Entails.of_eq (bigSep_congr (s := Finset.univ.erase c) (Φ := elSg (F := F) c c.val) (Ψ := elSg c (c.val + 1)) fun q hq => by
        simp only [elSg, lt_succ_iff (Finset.ne_of_mem_erase hq)]))
      iexact HS
  · rw [dif_pos (hc.mpr hcp), hd]
    simp only [semSignalWord, Prog.bind_op, Prog.bind_ret]
    iintro ⟨#HC, ⟨%W, HO⟩, HS⟩ Hk
    ihave HS' := (fam_step (Ψ := elSg c (p.val + 1)) p (Finset.mem_erase.mpr ⟨fun h => hcp h.symm, Finset.mem_univ _⟩) (fun q _ hq => by
      simp only [elSg, lt_succ_iff hq])) $$ HS
    icases HS' with ⟨Hp, Hput⟩
    ihave Hp := (Entails.of_eq (elSg_todo c p)) $$ Hp
    icases Hp with ⟨Ht, Hp⟩
    iapply (Rounds.wp_signal 𝒱₀ ER (rd m) (c : Thread nD τ) none (dst := (p : Thread nD τ)) (κ := K (p, none))
      (d := c) (by rw [duties_bar]; exact Finset.mem_erase.mpr ⟨hcp, Finset.mem_univ _⟩) ((amount_bar m p c).trans (by decide)) ()
      (Owe c (p.val + 1) t1 t2) (Owe_sg c p t1 t2 fun h => hcp h.symm)) $$ [HO Ht Hp]
    · isplitr; · iapply (Ctx_inv m K (p, none)); iexact HC
      isplitl [HO]; · iexact HO
      isplitl [Ht]; · iexact Ht
      isplitl [Hp]; · rw [payload_bar]; iexact Hp
      iapply (Ctx_reached m K (p, none)); iexact HC
    iintro HO
    iapply Hk
    isplitl [HO]; · iexists W; iexact HO
    iapply Hput; rw [elSg_done]; iempintro

end Cert.KernelIdeal.Hand
-- ==== Proof.Steps.lean ====
/-
One lemma per kind of communication step: the barrier wait, the sends of the scatter and of the gather, the receipts,
and the waits for the sends.
-/
module

public import proofs.«01_k».proof.Proof.State

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

theorem mem_others {c p : Dev nD} (h : c ≠ p) : p ∈ Finset.univ.erase c := Finset.mem_erase.mpr ⟨fun e => h e.symm, Finset.mem_univ _⟩

/-! ## The barrier -/

theorem zones_open :
    iprop(bigSep (Finset.univ.erase c) (elS1 (F := F) c 0 0 0) ∗ bigSep (Finset.univ.erase c) (elS2 (F := F) c 0 0 0)
        ∗ bigSep (Finset.univ.erase c) (fun d => barPay (F := F) d c))
      ⊢ iprop(bigSep (Finset.univ.erase c) (elS1 (F := F) c 1 0 0) ∗ bigSep (Finset.univ.erase c) (elS2 (F := F) c 1 0 0)) := by
  refine (Entails.of_eq (?_ : _ = bigSep (Finset.univ.erase c) fun d => iprop(elS1 (F := F) c 0 0 0 d ∗ elS2 (F := F) c 0 0 0 d ∗ barPay (F := F) d c))).trans
    ((bigSep_wk fun d _ => ?_).trans (Entails.of_eq (?_ : bigSep (Finset.univ.erase c) (fun d => iprop(elS1 (F := F) c 1 0 0 d ∗ elS2 (F := F) c 1 0 0 d)) = _)))
  · rw [bigSep_both, bigSep_both]
  · unfold elS1 elS2 barPay
    simp only [Nat.not_lt_zero, if_false, if_true, zero_ne_one]
    iintro ⟨⟨H1, H2, H3, -⟩, ⟨H4, H5, H6, -⟩, H7, H8⟩
    isplitl [H1 H2 H3 H7]
    · isplitl [H1]; · iexact H1
      isplitl [H2]; · iexact H2
      isplitl [H3]; · iexact H3
      iexact H7
    · isplitl [H4]; · iexact H4
      isplitl [H5]; · iexact H5
      isplitl [H6]; · iexact H6
      iexact H8
  · rw [bigSep_both]

theorem k_barrier {s : S} (h0 : s.sg = 16) (hb : s.bw = 0) (h1 : s.t1 = 0) (h2 : s.t2 = 0) (h3 : s.ws = 0)
    {α : Type} {k : PUnit.{1} → Prog (TpuEff nD τ sig (Elt F) Λ₀ .tc) α} {Q : α → sProp 𝕄}
    (hk : St m K fr c { s with bw := 1 } ⊢ Wp c (k ⟨⟩) Q) :
    St m K fr c s ⊢ Wp c (semWaitWord barS 15#32 >>= k) Q := by
  obtain ⟨sg, bw, kA, kB, vA, vB, kb, vb, pl, ph, t1, w1, rdd, t2, go, w2, ws, ou⟩ := s
  dsimp only at h0 hb h1 h2 h3 hk ⊢; subst h0 hb h1 h2 h3
  refine St_step m K fr c [.ow, .bar, .s1, .s2] (by decide) (fun i hi => by cases i <;> first | rfl | exact absurd (by decide) hi) hk ?_
  simp only [bigSepL_step, bigSepL_singleton, Comp, if_true, one_ne_zero, if_false, semWaitWord, Prog.bind_op, Prog.bind_ret]
  iintro ⟨#HC, ⟨%W, HO⟩, ⟨Hcr, Hat⟩, H1, H2⟩ Hk
  iapply (Rounds.wp_wait_rest_token 𝒱₀ ER (rd m) (c : Thread nD τ) none (κ := K (c, none))
      (wpE_semWait_eq 𝒱₀ (c : Thread nD τ) none Set.univ) (Set.mem_univ _) () (O := Owe c 16 0 0) (W := W) (R := 0) (m := 0) (T := ∅)
      (by rw [expect_bar]; decide)) $$ [Hcr HO Hat]
  · isplitr; · iapply (Ctx_inv m K (c, none)); iexact HC
    isplitl [Hcr]; · iexact Hcr
    isplitl [HO]; · iexact HO
    isplitr
    · iapply (mayWait c (.reg barS) 16 0 0 (fun h => absurd h (by decide)) (fun _ => by rw [lvS_bar]; decide) (by rw [lvS_bar]; decide))
      iapply (Ctx_lev m K); iexact HC
    iexact Hat
  iintro ⟨HO, Hat, -, Hp⟩
  ihave Hp := (Entails.of_eq (rest_bar m c)) $$ Hp
  imod (Rounds.cell_close ER (rd m) (Set.mem_univ (K (c, none))) (fun h => h) (R := 0 + 1) (duties_later m (barCell c))) $$ [Hat] with Hz
  · isplitr; · iapply (Ctx_inv m K (c, none)); iexact HC
    iexact Hat
  ihave HZ := (zones_open c) $$ [H1 H2 Hp]
  · isplitl [H1]; · iexact H1
    isplitl [H2]; · iexact H2
    iexact Hp
  icases HZ with ⟨H1, H2⟩
  iapply Hk
  isplitl [HO]; · iexists _; iexact HO
  isplitl [Hz]; · iexact Hz
  isplitl [H1]; · iexact H1
  iexact H2

/-! ## Where the pieces lie -/

theorem set_rsSl (p : Dev nD) : (rsSl p).view.set = (rsR p).set := (View.set_reshape _ _).trans (View.set_slice_whole _ _)
theorem set_ptRow (p : Dev nD) : (ptRow p).view.set = (rowR p).set := View.set_slice_whole _ _
theorem set_agRow (p : Dev nD) : (agRow p).view.set = (rowR p).set := View.set_slice_whole _ _

theorem mem_rsR {p : Dev nD} {i : S16x32x1024.Idx} : i ∈ (rsR p).set ↔ (i 0).val = p.val := by
  rw [Rect.mem_set_unit, Fin.forall_fin_succ, Fin.forall_fin_succ, Fin.forall_fin_succ]
  have h1 : (i 1).val < 32 := (i 1).isLt
  have h2 : (i 2).val < 1024 := (i 2).isLt
  constructor
  · rintro ⟨h, -⟩
    change p.val ≤ (i 0).val ∧ (i 0).val < p.val + 1 at h
    omega
  · intro h
    refine ⟨?_, ?_, ?_, fun a => a.elim0⟩
    · show p.val ≤ (i 0).val ∧ (i 0).val < p.val + 1
      omega
    · show 0 ≤ (i 1).val ∧ (i 1).val < 0 + 32
      omega
    · show 0 ≤ (i 2).val ∧ (i 2).val < 0 + 1024
      omega

theorem mem_rowR {p : Dev nD} {i : S512x1024.Idx} : i ∈ (rowR p).set ↔ rowOf i = p := by
  rw [Rect.mem_set_unit, Fin.forall_fin_succ, Fin.forall_fin_succ]
  have h1 : (i 1).val < 1024 := (i 1).isLt
  constructor
  · rintro ⟨h, -⟩
    change 32 * p.val ≤ (i 0).val ∧ (i 0).val < 32 * p.val + 32 at h
    exact Fin.ext (by show (i 0).val / 32 = p.val; omega)
  · intro h
    have h : (i 0).val / 32 = p.val := congrArg Fin.val h
    refine ⟨?_, ?_, fun a => a.elim0⟩
    · show 32 * p.val ≤ (i 0).val ∧ (i 0).val < 32 * p.val + 32
      omega
    · show 0 ≤ (i 1).val ∧ (i 1).val < 0 + 1024
      omega

/-- A transfer's landing in a slot leaves there what the completed buffer holds. -/
theorem RSp_on (p : Dev nD) (fd : Vec F S16x32x1024 .bf16) (i : S16x32x1024.Idx) (hi : i ∈ (rsSl c).view.set) :
    (rsSl c).view.write (Elt F) fd ((ptRow p).view.read (Elt F) (Part m c)) Finset.univ i = RSp m p i := by
  have h : i 0 = c := Fin.ext (mem_rsR.mp (set_rsSl c ▸ hi))
  unfold RSp
  rw [h]
  exact View.write_congr (fun _ _ _ => rfl) fun hn => absurd hi hn

theorem AG_on (p : Dev nD) (fd : Vec F S512x1024 .bf16) (q : Dev nD) (i : S512x1024.Idx) (hi : i ∈ (agRow c).view.set) :
    (agRow c).view.write (Elt F) fd (Red m c) Finset.univ i = AG m p i := by
  have h : rowOf i = c := mem_rowR.mp (set_agRow c ▸ hi)
  unfold AG
  rw [h]
  exact View.write_congr (fun _ _ _ => rfl) fun hn => absurd hi hn

theorem credit_rs (p : Dev nD) : (rsSl p).view.dmaCredit = NB := rfl
theorem credit_ag (p : Dev nD) : (agRow p).view.dmaCredit = NB := rfl
theorem credit_pt (p : Dev nD) : (ptRow p).view.dmaCredit = NB := rfl
theorem credit_rd : rdM.view.dmaCredit = NB := rfl

/-! ## Sends -/

theorem send1_core (p : Dev nD) (hpc : p ≠ c) {n : Dev nD} (hn : n = p) {src dst : Memref sig .tc .vmem S32x1024 .bf16}
    (hsrc : src = ptRow p) (hdst : dst = rsSl c) {sS sm : DmaSem sig} (hsS : sS = fS 0 p) (hsm : sm = fS 1 c)
    {hsc : dst.view.ref.isScScratch = false} {g1 : src.view.WordExact} {g2 : dst.view.WordExact}
    {g3 : DmaTarget.Typed .vmem (.dma sm) (.remote (Dev.tc n : Thread nD τ) dst (.dma sS) hsc)}
    {α : Type} {k : PUnit.{1} → Prog (TpuEff nD τ sig (Elt F) Λ₀ .tc) α} {Q : α → sProp 𝕄} (a d : ℕ) (W : Waits sig Unit) :
    iprop(Ctx m K ∗ ptPts c p (Part m c) ∗ (∃ f, rsPts p c f) ∗ owes (c : Thread nD τ) (Owe c a p.val d) W
        ∗ dutyTok ER (fCell c 0 p) 0 0 ∗ dutyTok ER (fCell p 1 c) 0 0)
      ⊢ iprop(((cred (tallyAt (fCell c 0 p) () NB) ∗ owes (c : Thread nD τ) (Owe c a (p.val + 1) d) W) -∗ Wp c (k ⟨⟩) Q)
          -∗ Wp c (.op (.enqueueDma src (.remote (Dev.tc n : Thread nD τ) dst (.dma sS) hsc) (.dma sm) g1 g2 g3) k) Q) := by
  subst hn hsrc hdst hsS hsm
  iintro ⟨#HC, Hp, ⟨%fd, Hd⟩, HO, Ht1, Ht2⟩ Hk
  unfold ptPts rsPts
  iapply (Rounds.wp_send_pointsTo 𝒱₀ ER (rd m) (c : Thread nD τ) none (κ₁ := K (c, some (0, n))) (κ₂ := K (n, some (1, c)))
    (r₁ := 0) (r₂ := 0) (d₁ := 0) (d₂ := 0) (fd := fd)
    (by rw [duties_fam m c 0 n hpc]; exact Finset.mem_singleton_self _)
    (by rw [duties_fam m n 1 c (fun e => hpc e.symm)]; exact Finset.mem_singleton_self _)
    (c' := (n : Thread nD τ)) (src := ptRow n) (dst := rsSl c) (sem := .dma (fS 1 c)) () () NB (credit_rs c) (amount_fam m c 0 n 0) (amount_fam m n 1 c 0) (Owe c a (n.val + 1) d) (Owe_t1 c n a d hpc) (W := W)
    (by rw [payload_fam]; exact BI.Entails.refl _)
    (by rw [payload_fam]
        exact Entails.of_eq (pointsTo_congr fun i hi => RSp_on m c n fd i hi))) $$ [Hp Hd HO Ht1 Ht2]
  · isplitr; · iapply (Ctx_inv m K (c, some (0, n))); iexact HC
    isplitr; · iapply (Ctx_inv m K (n, some (1, c))); iexact HC
    isplitl [Hp]; · iexact Hp
    isplitl [Hd]; · iexact Hd
    isplitl [HO]; · iexact HO
    isplitl [Ht1]; · iexact Ht1
    isplitr; · iapply (Ctx_reached m K (c, some (0, n))); iexact HC
    isplitl [Ht2]; · iexact Ht2
    iapply (Ctx_reached m K (n, some (1, c))); iexact HC
  iexact Hk

theorem send2_core (p : Dev nD) (hpc : p ≠ c) {n : Dev nD} (hn : n = p) {src dst : Memref sig .tc .vmem S32x1024 .bf16}
    (hsrc : src = rdM) (hdst : dst = agRow c) {sS sm : DmaSem sig} (hsS : sS = fS 2 p) (hsm : sm = fS 3 c)
    {hsc : dst.view.ref.isScScratch = false} {g1 : src.view.WordExact} {g2 : dst.view.WordExact}
    {g3 : DmaTarget.Typed .vmem (.dma sm) (.remote (Dev.tc n : Thread nD τ) dst (.dma sS) hsc)}
    {α : Type} {k : PUnit.{1} → Prog (TpuEff nD τ sig (Elt F) Λ₀ .tc) α} {Q : α → sProp 𝕄} (a b : ℕ) (W : Waits sig Unit) :
    iprop(Ctx m K ∗ rdTok c p (Red m c) ∗ (∃ f, agPts p c f) ∗ owes (c : Thread nD τ) (Owe c a b p.val) W
        ∗ dutyTok ER (fCell c 2 p) 0 0 ∗ dutyTok ER (fCell p 3 c) 0 0)
      ⊢ iprop(((cred (tallyAt (fCell c 2 p) () NB) ∗ owes (c : Thread nD τ) (Owe c a b (p.val + 1)) W) -∗ Wp c (k ⟨⟩) Q)
          -∗ Wp c (.op (.enqueueDma src (.remote (Dev.tc n : Thread nD τ) dst (.dma sS) hsc) (.dma sm) g1 g2 g3) k) Q) := by
  subst hn hsrc hdst hsS hsm
  iintro ⟨#HC, Hp, ⟨%fd, Hd⟩, HO, Ht1, Ht2⟩ Hk
  unfold rdTok agPts
  iapply (Rounds.wp_send_pointsTo 𝒱₀ ER (rd m) (c : Thread nD τ) none (κ₁ := K (c, some (2, n))) (κ₂ := K (n, some (3, c)))
    (r₁ := 0) (r₂ := 0) (d₁ := 0) (d₂ := 0) (fd := fd)
    (by rw [duties_fam m c 2 n hpc]; exact Finset.mem_singleton_self _)
    (by rw [duties_fam m n 3 c (fun e => hpc e.symm)]; exact Finset.mem_singleton_self _)
    (c' := (n : Thread nD τ)) (src := rdM) (dst := agRow c) (sem := .dma (fS 3 c)) () () NB (credit_ag c) (amount_fam m c 2 n 0) (amount_fam m n 3 c 0) (Owe c a b (n.val + 1)) (Owe_t2 c n a b hpc) (W := W)
    (by rw [payload_fam]; exact BI.Entails.refl _)
    (by rw [payload_fam]
        exact Entails.of_eq (pointsTo_congr fun i hi => (congrFun (congrArg (fun w => (agRow c).view.write (Elt F) fd w Finset.univ) (View.read_whole _ _)) i).trans (AG_on m c n fd n i hi)))) $$ [Hp Hd HO Ht1 Ht2]
  · isplitr; · iapply (Ctx_inv m K (c, some (2, n))); iexact HC
    isplitr; · iapply (Ctx_inv m K (n, some (3, c))); iexact HC
    isplitl [Hp]; · iexact Hp
    isplitl [Hd]; · iexact Hd
    isplitl [HO]; · iexact HO
    isplitl [Ht1]; · iexact Ht1
    isplitr; · iapply (Ctx_reached m K (c, some (2, n))); iexact HC
    isplitl [Ht2]; · iexact Ht2
    iapply (Ctx_reached m K (n, some (3, c))); iexact HC
  iexact Hk

/-- The half of the product that holds the rows for `p`. -/
abbrev blkOf (p : Dev nD) : Fin 2 := ⟨p.val / 8, by have : p.val < 16 := p.isLt; omega⟩
theorem mem_rows (p : Dev nD) : p ∈ rows (blkOf p) := Finset.mem_filter.mpr ⟨Finset.mem_univ _, rfl⟩
theorem not_rows {p q : Dev nD} {b : Fin 2} (hb : b ≠ blkOf p) (hq : q ∈ rows b) : q ≠ p := by
  rintro rfl; exact hb (Fin.ext (Finset.mem_filter.mp hq).2.symm)

theorem elPt_t {p q : Dev nD} (h : q ≠ p) (w : ℕ) : elPt (F := F) m c (p.val + 1) w q = elPt m c p.val w q := by
  simp only [elPt, succ_le_iff' h]
theorem elPt_w {p q : Dev nD} (h : q ≠ p) (t : ℕ) : elPt (F := F) m c t (p.val + 1) q = elPt m c t p.val q := by
  simp only [elPt, lt_succ_iff h]
theorem elRd_t {p q : Dev nD} (h : q ≠ p) (w : ℕ) : elRd (F := F) m c (p.val + 1) w q = elRd m c p.val w q := by
  simp only [elRd, succ_le_iff' h]
theorem elRd_w {p q : Dev nD} (h : q ≠ p) (t : ℕ) : elRd (F := F) m c t (p.val + 1) q = elRd m c t p.val q := by
  simp only [elRd, lt_succ_iff h]
theorem elS1_t {p q : Dev nD} (h : q ≠ p) (b w : ℕ) : elS1 (F := F) c b (p.val + 1) w q = elS1 c b p.val w q := by
  simp only [elS1, lt_succ_iff h]
theorem elS1_w {p q : Dev nD} (h : q ≠ p) (b t : ℕ) : elS1 (F := F) c b t (p.val + 1) q = elS1 c b t p.val q := by
  simp only [elS1, lt_succ_iff h]
theorem elS2_t {p q : Dev nD} (h : q ≠ p) (b w : ℕ) : elS2 (F := F) c b (p.val + 1) w q = elS2 c b p.val w q := by
  simp only [elS2, lt_succ_iff h]
theorem elS2_w {p q : Dev nD} (h : q ≠ p) (b t : ℕ) : elS2 (F := F) c b t (p.val + 1) q = elS2 c b t p.val q := by
  simp only [elS2, lt_succ_iff h]
theorem elR1_w {p q : Dev nD} (h : q ≠ p) : elR1 (F := F) m c (p.val + 1) q = elR1 m c p.val q := by
  simp only [elR1, lt_succ_iff h]
theorem elR2_w {p q : Dev nD} (h : q ≠ p) : elR2 (F := F) m c (p.val + 1) q = elR2 m c p.val q := by
  simp only [elR2, lt_succ_iff h]

theorem elPt_own (t w : ℕ) : elPt (F := F) m c t w c = ptPts c c (Part m c) := if_pos (.inl rfl)
theorem elPt_here {p : Dev nD} (t w : ℕ) (h : t ≤ p.val ∨ p.val < w) : elPt (F := F) m c t w p = ptPts c p (Part m c) := if_pos (.inr h)
theorem elPt_away {p : Dev nD} (t w : ℕ) (hc : p ≠ c) (h1 : p.val < t) (h2 : w ≤ p.val) : elPt (F := F) m c t w p = iprop(emp) :=
  if_neg (by rintro (h | h | h) <;> first | exact hc h | omega)
theorem elRd_own (t w : ℕ) : elRd (F := F) m c t w c = rdTok c c (Red m c) := if_pos (.inl rfl)
theorem elRd_here {p : Dev nD} (t w : ℕ) (h : t ≤ p.val ∨ p.val < w) : elRd (F := F) m c t w p = rdTok c p (Red m c) := if_pos (.inr h)
theorem elRd_away {p : Dev nD} (t w : ℕ) (hc : p ≠ c) (h1 : p.val < t) (h2 : w ≤ p.val) : elRd (F := F) m c t w p = iprop(emp) :=
  if_neg (by rintro (h | h | h) <;> first | exact hc h | omega)

theorem elS1_todo (p : Dev nD) : elS1 (F := F) c 1 p.val 0 p = iprop(dutyTok ER (fCell c 0 p) 0 0 ∗ dutyTok ER (fCell p 1 c) 0 0
    ∗ atPos ER (fCell c 0 p) 0 ∅ 0 ∗ ∃ f, rsPts p c f) := by
  unfold elS1; rw [if_neg (Nat.not_lt_zero _), if_neg (Nat.lt_irrefl _), if_pos rfl]
theorem elS1_sent (p : Dev nD) (b t w : ℕ) (h : p.val < t) (hw : w ≤ p.val) :
    elS1 (F := F) c b t w p = iprop(cred (tallyAt (fCell c 0 p) () NB) ∗ atPos ER (fCell c 0 p) 0 ∅ 0) := by
  unfold elS1; rw [if_neg (Nat.not_lt.mpr hw), if_pos h]
theorem elS1_done (p : Dev nD) (b t : ℕ) : elS1 (F := F) c b t (p.val + 1) p = semVal (fCell c 0 p) 0 := if_pos (Nat.lt_succ_self _)
theorem elS2_todo (p : Dev nD) : elS2 (F := F) c 1 p.val 0 p = iprop(dutyTok ER (fCell c 2 p) 0 0 ∗ dutyTok ER (fCell p 3 c) 0 0
    ∗ atPos ER (fCell c 2 p) 0 ∅ 0 ∗ ∃ f, agPts p c f) := by
  unfold elS2; rw [if_neg (Nat.not_lt_zero _), if_neg (Nat.lt_irrefl _), if_pos rfl]
theorem elS2_sent (p : Dev nD) (b t w : ℕ) (h : p.val < t) (hw : w ≤ p.val) :
    elS2 (F := F) c b t w p = iprop(cred (tallyAt (fCell c 2 p) () NB) ∗ atPos ER (fCell c 2 p) 0 ∅ 0) := by
  unfold elS2; rw [if_neg (Nat.not_lt.mpr hw), if_pos h]
theorem elS2_done (p : Dev nD) (b t : ℕ) : elS2 (F := F) c b t (p.val + 1) p = semVal (fCell c 2 p) 0 := if_pos (Nat.lt_succ_self _)
theorem elR1_todo (p : Dev nD) : elR1 (F := F) m c p.val p = iprop(cred (tallyAt (fCell c 1 p) () NB) ∗ atPos ER (fCell c 1 p) 0 ∅ 0) :=
  if_neg (Nat.lt_irrefl _)
theorem elR1_done (p : Dev nD) (w : ℕ) (h : p.val < w) : elR1 (F := F) m c w p = iprop(semVal (fCell c 1 p) 0 ∗ rsPts c p (RSp m c)) := if_pos h
theorem elR2_todo (p : Dev nD) : elR2 (F := F) m c p.val p = iprop(cred (tallyAt (fCell c 3 p) () NB) ∗ atPos ER (fCell c 3 p) 0 ∅ 0) :=
  if_neg (Nat.lt_irrefl _)
theorem elR2_done (p : Dev nD) (w : ℕ) (h : p.val < w) : elR2 (F := F) m c w p = iprop(semVal (fCell c 3 p) 0 ∗ agPts c p (AG m c)) := if_pos h

theorem k_send1 {s : S} (p : Dev nD) (hs : s.t1 = p.val) (hb : s.bw = 1) (hw : s.ws = 0) (hP : s.pS (blkOf p) = 1) {cnd : BitVec 1} (hc : cnd = 1#1 ↔ c ≠ p)
    {dv : cnd = 1#1 → Dev nD} (hd : ∀ h, dv h = p) {src : cnd = 1#1 → Memref sig .tc .vmem S32x1024 .bf16} (hsrc : ∀ h, src h = ptRow p)
    {dst : cnd = 1#1 → Memref sig .tc .vmem S32x1024 .bf16} (hdst : ∀ h, dst h = rsSl c)
    {sS : cnd = 1#1 → DmaSem sig} (hsS : ∀ h, sS h = fS 0 p) {sm : cnd = 1#1 → DmaSem sig} (hsm : ∀ h, sm h = fS 1 c)
    {hsc : ∀ h, (dst h).view.ref.isScScratch = false} {g1 : ∀ h, (src h).view.WordExact} {g2 : ∀ h, (dst h).view.WordExact}
    {g3 : ∀ h, DmaTarget.Typed .vmem (.dma (sm h)) (.remote (Dev.tc (dv h) : Thread nD τ) (dst h) (.dma (sS h)) (hsc h))}
    {α : Type} {jp : PUnit.{1} → Prog (TpuEff nD τ sig (Elt F) Λ₀ .tc) α} {Q : α → sProp 𝕄}
    (hk : St m K fr c { s with t1 := p.val + 1 } ⊢ Wp c (jp ⟨⟩) Q) :
    St m K fr c s ⊢ Wp c (if h : cnd = 1#1 then
        (Prog.lift (.enqueueDma (src h) (.remote (Dev.tc (dv h) : Thread nD τ) (dst h) (.dma (sS h)) (hsc h)) (.dma (sm h)) (g1 h) (g2 h) (g3 h)) >>= fun _ => jp ⟨⟩)
      else jp ⟨⟩) Q := by
  obtain ⟨sg, bw, kA, kB, vA, vB, kb, vb, pl, ph, t1, w1, rdd, t2, go, w2, ws, ou⟩ := s
  dsimp only at hs hb hw hk ⊢; subst hs hb hw
  refine St_step m K fr c [.ow, .s1, .pt (blkOf p)] (by simp) (fun i hi => ?_) hk ?_
  · cases i
    case pt b =>
      have hb : b ≠ blkOf p := fun e => hi (by rw [e]; simp)
      have hS : (S.mk sg 1 kA kB vA vB kb vb pl ph p.val w1 rdd t2 go w2 0 ou).pS b = (S.mk sg 1 kA kB vA vB kb vb pl ph (p.val + 1) w1 rdd t2 go w2 0 ou).pS b := by
        fin_cases b <;> rfl
      unfold Comp
      dsimp only
      rw [hS, bigSep_congr (s := rows b) (Φ := elPt m c (p.val + 1) 0) (Ψ := elPt m c p.val 0) fun q hq => elPt_t m c (not_rows hb hq) 0]
    all_goals first | rfl | exact absurd (by simp) hi
  have hS : (S.mk sg 1 kA kB vA vB kb vb pl ph (p.val + 1) w1 rdd t2 go w2 0 ou).pS (blkOf p) = 1 := by
    refine Eq.trans ?_ hP; generalize blkOf p = b; fin_cases b <;> rfl
  simp only [bigSepL_step, bigSepL_singleton, Comp, hP, hS, one_ne_zero, if_false]
  by_cases hcp : c = p
  · rw [dif_neg (fun h => hc.mp h hcp)]
    subst hcp
    iintro ⟨-, ⟨%W, HO⟩, HS, HP⟩ Hk
    iapply Hk
    isplitl [HO]
    · iexists W; rw [← Owe_t1_own]; iexact HO
    isplitl [HS]
    · iapply (Entails.of_eq (bigSep_congr (s := Finset.univ.erase c) (Φ := elS1 (F := F) c 1 c.val 0) (Ψ := elS1 c 1 (c.val + 1) 0) fun q hq =>
        (elS1_t c (Finset.ne_of_mem_erase hq) 1 0).symm))
      iexact HS
    · iapply (Entails.of_eq (bigSep_congr (s := rows (blkOf c)) (Φ := elPt (F := F) m c c.val 0) (Ψ := elPt m c (c.val + 1) 0) fun q hq => by
        by_cases h : q = c
        · subst h; rw [elPt_own, elPt_own]
        · exact (elPt_t m c h 0).symm))
      iexact HP
  · have hpc : p ≠ c := fun e => hcp e.symm
    rw [dif_pos (hc.mpr hcp)]
    simp only [Prog.lift, Prog.bind_op, Prog.bind_ret]
    iintro ⟨#HC, ⟨%W, HO⟩, HS, HP⟩ Hk
    ihave HS' := (fam_step (Ψ := elS1 c 1 (p.val + 1) 0) p (mem_others hcp) (fun q _ hq => elS1_t c hq 1 0)) $$ HS
    icases HS' with ⟨Hs, HS⟩
    ihave Hs := (Entails.of_eq (elS1_todo c p)) $$ Hs
    icases Hs with ⟨Ht1, Ht2, Hat, Hz⟩
    ihave HP' := (fam_step (Ψ := elPt m c (p.val + 1) 0) p (mem_rows p) (fun q _ hq => elPt_t m c hq 0)) $$ HP
    icases HP' with ⟨Hp, HP⟩
    ihave Hp := (Entails.of_eq (elPt_here m c p.val 0 (.inl le_rfl))) $$ Hp
    iapply (send1_core m K c p hpc (hd _) (hsrc _) (hdst _) (hsS _) (hsm _) sg t2 W) $$ [Hp Hz HO Ht1 Ht2]
    · isplitr; · iexact HC
      isplitl [Hp]; · iexact Hp
      isplitl [Hz]; · iexact Hz
      isplitl [HO]; · iexact HO
      isplitl [Ht1] <;> iassumption
    iintro ⟨Hcr, HO⟩
    iapply Hk
    isplitl [HO]; · iexists W; iexact HO
    isplitl [HS Hcr Hat]
    · iapply HS
      rw [elS1_sent c p 1 (p.val + 1) 0 (Nat.lt_succ_self _) (Nat.zero_le _)]
      isplitl [Hcr] <;> iassumption
    · iapply HP
      rw [elPt_away m c (p.val + 1) 0 hpc (Nat.lt_succ_self _) (Nat.zero_le _)]
      iempintro

end Cert.KernelIdeal.Hand
-- ==== Proof.Waits.lean ====
/-
The sends of the gather, the receipts of both transfers, and the waits for the sends.
-/
module

public import proofs.«01_k».proof.Proof.Steps

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

theorem Comp_pt (s : S) (b : Fin 2) (h : s.pS b = 1) : Comp m fr c s (.pt b) = bigSep (rows b) (elPt m c s.t1 s.ws) := by
  simp only [Comp, h, one_ne_zero, if_false]

theorem k_send2 {s : S} (p : Dev nD) (hs : s.t2 = p.val) (hb : s.bw = 1) (hw : s.ws = 0) (hP : s.rd = 1) {cnd : BitVec 1} (hc : cnd = 1#1 ↔ c ≠ p)
    {dv : cnd = 1#1 → Dev nD} (hd : ∀ h, dv h = p) {src : cnd = 1#1 → Memref sig .tc .vmem S32x1024 .bf16} (hsrc : ∀ h, src h = rdM)
    {dst : cnd = 1#1 → Memref sig .tc .vmem S32x1024 .bf16} (hdst : ∀ h, dst h = agRow c)
    {sS : cnd = 1#1 → DmaSem sig} (hsS : ∀ h, sS h = fS 2 p) {sm : cnd = 1#1 → DmaSem sig} (hsm : ∀ h, sm h = fS 3 c)
    {hsc : ∀ h, (dst h).view.ref.isScScratch = false} {g1 : ∀ h, (src h).view.WordExact} {g2 : ∀ h, (dst h).view.WordExact}
    {g3 : ∀ h, DmaTarget.Typed .vmem (.dma (sm h)) (.remote (Dev.tc (dv h) : Thread nD τ) (dst h) (.dma (sS h)) (hsc h))}
    {α : Type} {jp : PUnit.{1} → Prog (TpuEff nD τ sig (Elt F) Λ₀ .tc) α} {Q : α → sProp 𝕄}
    (hk : St m K fr c { s with t2 := p.val + 1 } ⊢ Wp c (jp ⟨⟩) Q) :
    St m K fr c s ⊢ Wp c (if h : cnd = 1#1 then
        (Prog.lift (.enqueueDma (src h) (.remote (Dev.tc (dv h) : Thread nD τ) (dst h) (.dma (sS h)) (hsc h)) (.dma (sm h)) (g1 h) (g2 h) (g3 h)) >>= fun _ => jp ⟨⟩)
      else jp ⟨⟩) Q := by
  obtain ⟨sg, bw, kA, kB, vA, vB, kb, vb, pl, ph, t1, w1, rdd, t2, go, w2, ws, ou⟩ := s
  dsimp only at hs hb hw hP hk ⊢; subst hs hb hw hP
  refine St_step m K fr c [.ow, .s2, .red] (by decide) (fun i hi => by cases i <;> first | rfl | exact absurd (by decide) hi) hk ?_
  simp only [bigSepL_step, bigSepL_singleton, Comp, one_ne_zero, if_false]
  by_cases hcp : c = p
  · rw [dif_neg (fun h => hc.mp h hcp)]
    subst hcp
    iintro ⟨-, ⟨%W, HO⟩, HS, HD, HP⟩ Hk
    iapply Hk
    isplitl [HO]
    · iexists W; rw [← Owe_t2_own]; iexact HO
    isplitl [HS]
    · iapply (Entails.of_eq (bigSep_congr (s := Finset.univ.erase c) (Φ := elS2 (F := F) c 1 c.val 0) (Ψ := elS2 c 1 (c.val + 1) 0) fun q hq =>
        (elS2_t c (Finset.ne_of_mem_erase hq) 1 0).symm))
      iexact HS
    isplitl [HD]; · iexact HD
    iapply (Entails.of_eq (bigSep_congr (s := Finset.univ) (Φ := elRd (F := F) m c c.val 0) (Ψ := elRd m c (c.val + 1) 0) fun q hq => by
        by_cases h : q = c
        · subst h; rw [elRd_own, elRd_own]
        · exact (elRd_t m c h 0).symm))
    iexact HP
  · have hpc : p ≠ c := fun e => hcp e.symm
    rw [dif_pos (hc.mpr hcp)]
    simp only [Prog.lift, Prog.bind_op, Prog.bind_ret]
    iintro ⟨#HC, ⟨%W, HO⟩, HS, HD, HP⟩ Hk
    ihave HS' := (fam_step (Ψ := elS2 c 1 (p.val + 1) 0) p (mem_others hcp) (fun q _ hq => elS2_t c hq 1 0)) $$ HS
    icases HS' with ⟨Hs, HS⟩
    ihave Hs := (Entails.of_eq (elS2_todo c p)) $$ Hs
    icases Hs with ⟨Ht1, Ht2, Hat, Hz⟩
    ihave HP' := (fam_step (Ψ := elRd m c (p.val + 1) 0) p (Finset.mem_univ _) (fun q _ hq => elRd_t m c hq 0)) $$ HP
    icases HP' with ⟨Hp, HP⟩
    ihave Hp := (Entails.of_eq (elRd_here m c p.val 0 (.inl le_rfl))) $$ Hp
    iapply (send2_core m K c p hpc (hd _) (hsrc _) (hdst _) (hsS _) (hsm _) sg t1 W) $$ [Hp Hz HO Ht1 Ht2]
    · isplitr; · iexact HC
      isplitl [Hp]; · iexact Hp
      isplitl [Hz]; · iexact Hz
      isplitl [HO]; · iexact HO
      isplitl [Ht1] <;> iassumption
    iintro ⟨Hcr, HO⟩
    iapply Hk
    isplitl [HO]; · iexists W; iexact HO
    isplitl [HS Hcr Hat]
    · iapply HS
      rw [elS2_sent c p 1 (p.val + 1) 0 (Nat.lt_succ_self _) (Nat.zero_le _)]
      isplitl [Hcr] <;> iassumption
    isplitl [HD]; · iexact HD
    iapply HP
    rw [elRd_away m c (p.val + 1) 0 hpc (Nat.lt_succ_self _) (Nat.zero_le _)]
    iempintro

/-! ## Waits -/

theorem wait_core (k : Fin 4) (p : Dev nD) (hpc : p ≠ c) (a b d : ℕ)
    (hmay : (levAts L lv : sProp 𝕄) ⊢ MayWait (c : Thread nD τ) (.dma (fS k p)) () (Owe c a b d))
    {sem : DmaSem sig} (hsem : sem = fS k p) {sp sp' : Space} {s s' : Shape} {e e' : EltTy}
    {srcw : Memref sig .tc sp' s' e'} {dstw : Memref sig .tc sp s e} (hN : dstw.view.dmaCredit = NB)
    {g1 : srcw.view.WordExact} {g2 : dstw.view.WordExact}
    {α : Type} {kk : PUnit.{1} → Prog (TpuEff nD τ sig (Elt F) Λ₀ .tc) α} {Q : α → sProp 𝕄} (W : Waits sig Unit) :
    iprop(Ctx m K ∗ cred (tallyAt (fCell c k p) () NB) ∗ atPos ER (fCell c k p) 0 ∅ 0 ∗ owes (c : Thread nD τ) (Owe c a b d) W)
      ⊢ iprop(((semVal (fCell c k p) 0 ∗ famPay m c k p ∗ ∃ W, owes (c : Thread nD τ) (Owe c a b d) W) -∗ Wp c (kk ⟨⟩) Q)
          -∗ Wp c (.op (.waitDma2 sem srcw dstw g1 g2) kk) Q) := by
  subst hsem
  iintro ⟨#HC, Hcr, Hat, HO⟩ Hk
  iapply (Rounds.wp_wait_rest_token 𝒱₀ ER (rd m) (c : Thread nD τ) none (κ := K (c, some (k, p))) (sm := .dma (fS k p)) (k' := dstw.view.dmaCredit)
      (wpE_waitDma2_eq 𝒱₀ (c : Thread nD τ) none Set.univ) (Set.mem_univ _) () (O := Owe c a b d) (W := W) (R := 0) (m := 0) (T := ∅)
      (by rw [expect_fam m c k p hpc, hN, Nat.zero_add])) $$ [Hcr HO Hat]
  · isplitr; · iapply (Ctx_inv m K (c, some (k, p))); iexact HC
    isplitl [Hcr]; · rw [hN]; iexact Hcr
    isplitl [HO]; · iexact HO
    isplitr
    · iapply hmay; iapply (Ctx_lev m K); iexact HC
    iexact Hat
  iintro ⟨HO, Hat, -, Hp⟩
  ihave Hp := (Entails.of_eq (rest_fam m c k p hpc)) $$ Hp
  imod (Rounds.cell_close ER (rd m) (Set.mem_univ (K (c, some (k, p)))) (fun h => h) (R := 0 + 1) (duties_later m (fCell c k p))) $$ [Hat] with Hz
  · isplitr; · iapply (Ctx_inv m K (c, some (k, p))); iexact HC
    iexact Hat
  iapply Hk
  isplitl [Hz]; · iexact Hz
  isplitl [Hp]; · iexact Hp
  iexists _; iexact HO

theorem k_recv1 {s : S} (p : Dev nD) (hs : s.w1 = p.val) (ha : s.sg = 16) (hb : s.t1 = 16) {cnd : BitVec 1} (hc : cnd = 1#1 ↔ c ≠ p)
    {sem : cnd = 1#1 → DmaSem sig} (hsem : ∀ h, sem h = fS 1 p) {sp sp' : Space} {s1 s2 : Shape} {e1 e2 : EltTy}
    {srcw : cnd = 1#1 → Memref sig .tc sp' s1 e1} {dstw : cnd = 1#1 → Memref sig .tc sp s2 e2} (hN : ∀ h, (dstw h).view.dmaCredit = NB)
    {g1 : ∀ h, (srcw h).view.WordExact} {g2 : ∀ h, (dstw h).view.WordExact}
    {α : Type} {jp : PUnit.{1} → Prog (TpuEff nD τ sig (Elt F) Λ₀ .tc) α} {Q : α → sProp 𝕄}
    (hk : St m K fr c { s with w1 := p.val + 1 } ⊢ Wp c (jp ⟨⟩) Q) :
    St m K fr c s ⊢ Wp c (if h : cnd = 1#1 then (Prog.lift (.waitDma2 (sem h) (srcw h) (dstw h) (g1 h) (g2 h)) >>= fun _ => jp ⟨⟩) else jp ⟨⟩) Q := by
  obtain ⟨sg, bw, kA, kB, vA, vB, kb, vb, pl, ph, t1, w1, rdd, t2, go, w2, ws, ou⟩ := s
  dsimp only at hs ha hb hk ⊢; subst hs ha hb
  refine St_step m K fr c [.ow, .r1] (by decide) (fun i hi => by cases i <;> first | rfl | exact absurd (by decide) hi) hk ?_
  simp only [bigSepL_step, bigSepL_singleton, Comp]
  by_cases hcp : c = p
  · rw [dif_neg (fun h => hc.mp h hcp)]
    subst hcp
    iintro ⟨-, HO, HS⟩ Hk
    iapply Hk
    isplitl [HO]; · iexact HO
    iapply (Entails.of_eq (bigSep_congr (s := Finset.univ.erase c) (Φ := elR1 (F := F) m c c.val) (Ψ := elR1 m c (c.val + 1)) fun q hq =>
        (elR1_w m c (Finset.ne_of_mem_erase hq)).symm))
    iexact HS
  · have hpc : p ≠ c := fun e => hcp e.symm
    rw [dif_pos (hc.mpr hcp)]
    simp only [Prog.lift, Prog.bind_op, Prog.bind_ret]
    iintro ⟨#HC, ⟨%W, HO⟩, HS⟩ Hk
    ihave HS' := (fam_step (Ψ := elR1 m c (p.val + 1)) p (mem_others hcp) (fun q _ hq => elR1_w m c hq)) $$ HS
    icases HS' with ⟨Hs, HS⟩
    ihave Hs := (Entails.of_eq (elR1_todo m c p)) $$ Hs
    icases Hs with ⟨Hcr, Hat⟩
    iapply (wait_core m K c 1 p hpc 16 16 t2 (mayWait c _ 16 16 t2 (fun h => absurd h (by decide)) (fun h => absurd h (by decide))
        (by rw [lvS_r1]; decide)) (hsem _) (hN _) W) $$ [Hcr Hat HO]
    · isplitr; · iexact HC
      isplitl [Hcr]; · iexact Hcr
      isplitl [Hat] <;> iassumption
    iintro ⟨Hz, Hp, HO⟩
    iapply Hk
    isplitl [HO]; · iexact HO
    iapply HS
    rw [elR1_done m c p (p.val + 1) (Nat.lt_succ_self _)]
    isplitl [Hz]; · iexact Hz
    iapply (Entails.of_eq (show famPay m c 1 p = rsPts c p (RSp m c) from rfl)); iexact Hp

theorem k_recv2 {s : S} (p : Dev nD) (hs : s.w2 = p.val) (ha : s.sg = 16) (hb : s.t1 = 16) (hb2 : s.t2 = 16) {cnd : BitVec 1} (hc : cnd = 1#1 ↔ c ≠ p)
    {sem : cnd = 1#1 → DmaSem sig} (hsem : ∀ h, sem h = fS 3 p) {sp sp' : Space} {s1 s2 : Shape} {e1 e2 : EltTy}
    {srcw : cnd = 1#1 → Memref sig .tc sp' s1 e1} {dstw : cnd = 1#1 → Memref sig .tc sp s2 e2} (hN : ∀ h, (dstw h).view.dmaCredit = NB)
    {g1 : ∀ h, (srcw h).view.WordExact} {g2 : ∀ h, (dstw h).view.WordExact}
    {α : Type} {jp : PUnit.{1} → Prog (TpuEff nD τ sig (Elt F) Λ₀ .tc) α} {Q : α → sProp 𝕄}
    (hk : St m K fr c { s with w2 := p.val + 1 } ⊢ Wp c (jp ⟨⟩) Q) :
    St m K fr c s ⊢ Wp c (if h : cnd = 1#1 then (Prog.lift (.waitDma2 (sem h) (srcw h) (dstw h) (g1 h) (g2 h)) >>= fun _ => jp ⟨⟩) else jp ⟨⟩) Q := by
  obtain ⟨sg, bw, kA, kB, vA, vB, kb, vb, pl, ph, t1, w1, rdd, t2, go, w2, ws, ou⟩ := s
  dsimp only at hs ha hb hb2 hk ⊢; subst hs ha hb hb2
  refine St_step m K fr c [.ow, .r2] (by decide) (fun i hi => by cases i <;> first | rfl | exact absurd (by decide) hi) hk ?_
  simp only [bigSepL_step, bigSepL_singleton, Comp]
  by_cases hcp : c = p
  · rw [dif_neg (fun h => hc.mp h hcp)]
    subst hcp
    iintro ⟨-, HO, HS⟩ Hk
    iapply Hk
    isplitl [HO]; · iexact HO
    iapply (Entails.of_eq (bigSep_congr (s := Finset.univ.erase c) (Φ := elR2 (F := F) m c c.val) (Ψ := elR2 m c (c.val + 1)) fun q hq =>
        (elR2_w m c (Finset.ne_of_mem_erase hq)).symm))
    iexact HS
  · have hpc : p ≠ c := fun e => hcp e.symm
    rw [dif_pos (hc.mpr hcp)]
    simp only [Prog.lift, Prog.bind_op, Prog.bind_ret]
    iintro ⟨#HC, ⟨%W, HO⟩, HS⟩ Hk
    ihave HS' := (fam_step (Ψ := elR2 m c (p.val + 1)) p (mem_others hcp) (fun q _ hq => elR2_w m c hq)) $$ HS
    icases HS' with ⟨Hs, HS⟩
    ihave Hs := (Entails.of_eq (elR2_todo m c p)) $$ Hs
    icases Hs with ⟨Hcr, Hat⟩
    iapply (wait_core m K c 3 p hpc 16 16 16 (mayWait_end c _) (hsem _) (hN _) W) $$ [Hcr Hat HO]
    · isplitr; · iexact HC
      isplitl [Hcr]; · iexact Hcr
      isplitl [Hat] <;> iassumption
    iintro ⟨Hz, Hp, HO⟩
    iapply Hk
    isplitl [HO]; · iexact HO
    iapply HS
    rw [elR2_done m c p (p.val + 1) (Nat.lt_succ_self _)]
    isplitl [Hz]; · iexact Hz
    iapply (Entails.of_eq (show famPay m c 3 p = agPts c p (AG m c) from rfl)); iexact Hp

/-- The waits for both sends to `p`. -/
theorem k_sent {s : S} (p : Dev nD) (hs : s.ws = p.val) (ha : s.sg = 16) (hb : s.t1 = 16) (hb2 : s.t2 = 16) (hr : s.rd = 1) (hl : s.pl = 1) (hh : s.ph = 1)
    {cnd : BitVec 1} (hc : cnd = 1#1 ↔ c ≠ p)
    {sA : cnd = 1#1 → DmaSem sig} (hsA : ∀ h, sA h = fS 0 p) {sB : cnd = 1#1 → DmaSem sig} (hsB : ∀ h, sB h = fS 2 p)
    {sp sp' tp tp' : Space} {s1 s2 u1 u2 : Shape} {e1 e2 v1 v2 : EltTy}
    {srcA : cnd = 1#1 → Memref sig .tc sp' s1 e1} {dstA : cnd = 1#1 → Memref sig .tc sp s2 e2} (hA : ∀ h, (dstA h).view.dmaCredit = NB)
    {srcB : cnd = 1#1 → Memref sig .tc tp' u1 v1} {dstB : cnd = 1#1 → Memref sig .tc tp u2 v2} (hB : ∀ h, (dstB h).view.dmaCredit = NB)
    {g1 : ∀ h, (srcA h).view.WordExact} {g2 : ∀ h, (dstA h).view.WordExact} {g3 : ∀ h, (srcB h).view.WordExact} {g4 : ∀ h, (dstB h).view.WordExact}
    {α : Type} {jp : PUnit.{1} → Prog (TpuEff nD τ sig (Elt F) Λ₀ .tc) α} {Q : α → sProp 𝕄}
    (hk : St m K fr c { s with ws := p.val + 1 } ⊢ Wp c (jp ⟨⟩) Q) :
    St m K fr c s ⊢ Wp c (if h : cnd = 1#1 then (Prog.lift (.waitDma2 (sA h) (srcA h) (dstA h) (g1 h) (g2 h)) >>= fun _ =>
        Prog.lift (.waitDma2 (sB h) (srcB h) (dstB h) (g3 h) (g4 h)) >>= fun _ => jp ⟨⟩) else jp ⟨⟩) Q := by
  obtain ⟨sg, bw, kA, kB, vA, vB, kb, vb, pl, ph, t1, w1, rdd, t2, go, w2, ws, ou⟩ := s
  dsimp only at hs ha hb hb2 hr hl hh hk ⊢; subst hs ha hb hb2 hr hl hh
  have hS (w : ℕ) (b : Fin 2) : (S.mk 16 bw kA kB vA vB kb vb 1 1 16 w1 1 16 go w2 w ou).pS b = 1 := by fin_cases b <;> rfl
  have hp16 : p.val < 16 := p.isLt
  refine St_step m K fr c [.ow, .s1, .s2, .pt (blkOf p), .red] (by simp) (fun i hi => ?_) hk ?_
  · cases i
    case pt b =>
      have hb : b ≠ blkOf p := fun e => hi (by rw [e]; simp)
      rw [Comp_pt m fr c _ b (hS _ b), Comp_pt m fr c _ b (hS _ b)]
      exact bigSep_congr fun q hq => (elPt_w m c (not_rows hb hq) 16).symm
    all_goals first | rfl | exact absurd (by simp) hi
  simp only [bigSepL_step, bigSepL_singleton, Comp, hS, one_ne_zero, if_false]
  by_cases hcp : c = p
  · rw [dif_neg (fun h => hc.mp h hcp)]
    subst hcp
    iintro ⟨-, HO, H1, H2, HP, HD, HR⟩ Hk
    iapply Hk
    isplitl [HO]; · iexact HO
    isplitl [H1]
    · iapply (Entails.of_eq (bigSep_congr (s := Finset.univ.erase c) (Φ := elS1 (F := F) c bw 16 c.val) (Ψ := elS1 c bw 16 (c.val + 1)) fun q hq =>
        (elS1_w c (Finset.ne_of_mem_erase hq) bw 16).symm))
      iexact H1
    isplitl [H2]
    · iapply (Entails.of_eq (bigSep_congr (s := Finset.univ.erase c) (Φ := elS2 (F := F) c bw 16 c.val) (Ψ := elS2 c bw 16 (c.val + 1)) fun q hq =>
        (elS2_w c (Finset.ne_of_mem_erase hq) bw 16).symm))
      iexact H2
    isplitl [HP]
    · iapply (Entails.of_eq (bigSep_congr (s := rows (blkOf c)) (Φ := elPt (F := F) m c 16 c.val) (Ψ := elPt m c 16 (c.val + 1)) fun q hq => by
        by_cases h : q = c
        · subst h; rw [elPt_own, elPt_own]
        · exact (elPt_w m c h 16).symm))
      iexact HP
    isplitl [HD]; · iexact HD
    iapply (Entails.of_eq (bigSep_congr (s := Finset.univ) (Φ := elRd (F := F) m c 16 c.val) (Ψ := elRd m c 16 (c.val + 1)) fun q hq => by
        by_cases h : q = c
        · subst h; rw [elRd_own, elRd_own]
        · exact (elRd_w m c h 16).symm))
    iexact HR
  · have hpc : p ≠ c := fun e => hcp e.symm
    rw [dif_pos (hc.mpr hcp)]
    simp only [Prog.lift, Prog.bind_op, Prog.bind_ret]
    iintro ⟨#HC, ⟨%W, HO⟩, H1, H2, HP, HD, HR⟩ Hk
    ihave H1' := (fam_step (Ψ := elS1 c bw 16 (p.val + 1)) p (mem_others hcp) (fun q _ hq => elS1_w c hq bw 16)) $$ H1
    icases H1' with ⟨Hs, H1⟩
    ihave Hs := (Entails.of_eq (elS1_sent c p bw 16 p.val hp16 le_rfl)) $$ Hs
    icases Hs with ⟨Hcr, Hat⟩
    iapply (wait_core m K c 0 p hpc 16 16 16 (mayWait_end c _) (hsA _) (hA _) W) $$ [Hcr Hat HO]
    · isplitr; · iexact HC
      isplitl [Hcr]; · iexact Hcr
      isplitl [Hat] <;> iassumption
    iintro ⟨Hz1, Hp1, ⟨%W', HO⟩⟩
    ihave H2' := (fam_step (Ψ := elS2 c bw 16 (p.val + 1)) p (mem_others hcp) (fun q _ hq => elS2_w c hq bw 16)) $$ H2
    icases H2' with ⟨Hs, H2⟩
    ihave Hs := (Entails.of_eq (elS2_sent c p bw 16 p.val hp16 le_rfl)) $$ Hs
    icases Hs with ⟨Hcr, Hat⟩
    iapply (wait_core m K c 2 p hpc 16 16 16 (mayWait_end c _) (hsB _) (hB _) W') $$ [Hcr Hat HO]
    · isplitr; · iexact HC
      isplitl [Hcr]; · iexact Hcr
      isplitl [Hat] <;> iassumption
    iintro ⟨Hz2, Hp2, HO⟩
    ihave HP' := (fam_step (Ψ := elPt m c 16 (p.val + 1)) p (mem_rows p) (fun q _ hq => elPt_w m c hq 16)) $$ HP
    icases HP' with ⟨-, HP⟩
    ihave HR' := (fam_step (Ψ := elRd m c 16 (p.val + 1)) p (Finset.mem_univ _) (fun q _ hq => elRd_w m c hq 16)) $$ HR
    icases HR' with ⟨-, HR⟩
    iapply Hk
    isplitl [HO]; · iexact HO
    isplitl [H1 Hz1]
    · iapply H1; rw [elS1_done]; iexact Hz1
    isplitl [H2 Hz2]
    · iapply H2; rw [elS2_done]; iexact Hz2
    isplitl [HP Hp1]
    · iapply HP; rw [elPt_here m c 16 (p.val + 1) (.inr (Nat.lt_succ_self _))]; iapply (Entails.of_eq (show famPay m c 0 p = ptPts c p (Part m c) from rfl)); iexact Hp1
    isplitl [HD]; · iexact HD
    iapply HR; rw [elRd_here m c 16 (p.val + 1) (.inr (Nat.lt_succ_self _))]; iapply (Entails.of_eq (show famPay m c 2 p = rdTok c p (Red m c) from rfl)); iexact Hp2

end Cert.KernelIdeal.Hand
-- ==== Proof.Copies.lean ====
/-
The copies of the keys and values into the staging slots, and the waits for them.
-/
module

public import proofs.«01_k».proof.Proof.Waits

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

theorem set_ksSl (b : Fin 2) : (ksSl b).view.set = (stageR b).set := (View.set_reshape _ _).trans (View.set_slice_whole _ _)
theorem set_vsSl (b : Fin 2) : (vsSl b).view.set = (stageR b).set := (View.set_reshape _ _).trans (View.set_slice_whole _ _)

/-- A slot no copy is filling. -/
def Slot.Free (x : Slot) : Prop := ∀ h, x ≠ .fly h
theorem Slot.free_idle : Slot.Free .idle := fun h e => by cases e
theorem Slot.free_full (h : Fin 8) : Slot.Free (.full h) := fun h e => by cases e

theorem slK_free (b : Fin 2) {x : Slot} (hx : x.Free) : slK m c b x ⊢ iprop((∃ f, ksPts c b f) ∗ semVal ((c : Thread nD τ), .dma (kS b)) 0) := by
  cases x with
  | idle => exact .rfl
  | fly h => exact absurd rfl (hx h)
  | full h =>
    show iprop(ksPts c b (kStg m c b h) ∗ semVal ((c : Thread nD τ), .dma (kS b)) 0) ⊢ _
    iintro ⟨H1, H2⟩
    isplitl [H1]; · iexists _; iexact H1
    iexact H2
theorem slV_free (b : Fin 2) {x : Slot} (hx : x.Free) : slV m c b x ⊢ iprop((∃ f, vsPts c b f) ∗ semVal ((c : Thread nD τ), .dma (vS b)) 0) := by
  cases x with
  | idle => exact .rfl
  | fly h => exact absurd rfl (hx h)
  | full h =>
    show iprop(vsPts c b (vStg m c b h) ∗ semVal ((c : Thread nD τ), .dma (vS b)) 0) ⊢ _
    iintro ⟨H1, H2⟩
    isplitl [H1]; · iexists _; iexact H1
    iexact H2

open Classical in
/-- A family of eight heads, those in flight left out. -/
def heads (Φ : Fin 8 → sProp 𝕄) (x y : Slot) : sProp 𝕄 := bigSep Finset.univ fun h : Fin 8 => if flying x y h then iprop(emp) else Φ h

theorem heads_take {Φ : Fin 8 → sProp 𝕄} {x y x' y' : Slot} (h : Fin 8) (h1 : ¬ flying x y h) (h2 : flying x' y' h)
    (h3 : ∀ q, q ≠ h → (flying x' y' q ↔ flying x y q)) : heads Φ x y ⊢ iprop(Φ h ∗ heads Φ x' y') := by
  classical
  unfold heads
  iintro H
  ihave H := (fam_step h (Finset.mem_univ h) (fun q _ hq => if_congr (h3 q hq) rfl rfl)) $$ H
  icases H with ⟨H1, H2⟩
  isplitl [H1]
  · ihave H1 := (Entails.of_eq (if_neg h1)) $$ H1
    iexact H1
  · iapply H2
    rw [if_pos h2]; iempintro
theorem heads_put {Φ : Fin 8 → sProp 𝕄} {x y x' y' : Slot} (h : Fin 8) (h1 : flying x y h) (h2 : ¬ flying x' y' h)
    (h3 : ∀ q, q ≠ h → (flying x' y' q ↔ flying x y q)) : iprop(Φ h ∗ heads Φ x y) ⊢ heads Φ x' y' := by
  classical
  unfold heads
  iintro ⟨HP, H⟩
  ihave H := (fam_step h (Finset.mem_univ h) (fun q _ hq => if_congr (h3 q hq) rfl rfl)) $$ H
  icases H with ⟨-, H2⟩
  iapply H2
  rw [if_neg h2]; iexact HP

theorem flying_setA {x y : Slot} (hx : x.Free) (h q : Fin 8) (hq : q ≠ h) : flying (.fly h) y q ↔ flying x y q := by
  unfold flying
  have h1 : ¬ (Slot.fly h = .fly q) := fun e => hq (by injection e with e; exact e.symm)
  have h2 : ¬ (x = .fly q) := hx q
  simp only [h1, h2]
theorem flying_comm (x y : Slot) (q : Fin 8) : flying x y q ↔ flying y x q := or_comm
theorem flying_full {y : Slot} (h q : Fin 8) (hq : q ≠ h) : flying (.full h) y q ↔ flying (.fly h) y q := by
  unfold flying
  have h1 : ¬ (Slot.fly h = .fly q) := fun e => hq (by injection e with e; exact e.symm)
  have h2 : ¬ (Slot.full h = .fly q) := fun e => by cases e
  simp only [h1, h2]
theorem not_flying_full {y : Slot} (h : Fin 8) (hy : y ≠ .fly h) : ¬ flying (.full h) y h := by
  rintro (e | e)
  · cases e
  · exact hy e

theorem kWrite_on (b : Fin 2) (h : Fin 8) (f : Vec F S2x2048x128 .f32) (i : S2x2048x128.Idx) (hi : i ∈ (ksSl b).view.set) :
    (ksSl b).view.write (Elt F) f ((kSl h).view.read (Elt F) (K0 m c)) Finset.univ i = kStg m c b h i :=
  View.write_congr (fun x _ _ => rfl) fun hn => absurd hi hn
theorem vWrite_on (b : Fin 2) (h : Fin 8) (f : Vec F S2x2048x128 .f32) (i : S2x2048x128.Idx) (hi : i ∈ (vsSl b).view.set) :
    (vsSl b).view.write (Elt F) f ((vSl h).view.read (Elt F) (V0 m c)) Finset.univ i = vStg m c b h i :=
  View.write_congr (fun x _ _ => rfl) fun hn => absurd hi hn

theorem credit_ks (b : Fin 2) : (ksSl b).view.dmaCredit = NK := by revert b; decide
theorem credit_vs (b : Fin 2) : (vsSl b).view.dmaCredit = NK := by revert b; decide

theorem kstart_core (b : Fin 2) (h : Fin 8) {x : Slot} (hx : x.Free)
    {g1 : (kSl h).view.WordExact} {g2 : (ksSl b).view.WordExact} {g3 : DmaTarget.Typed (nD := nD) .hbm (.dma (kS b)) (.here (ksSl b) : DmaTarget nD τ sig Proc.tc .vmem S2048x128 .f32)}
    {α : Type} {kk : PUnit.{1} → Prog (TpuEff nD τ sig (Elt F) Λ₀ .tc) α} {Q : α → sProp 𝕄} :
    iprop(slK m c b x ∗ kPts m c h) ⊢ iprop((slK m c b (.fly h) -∗ Wp c (kk ⟨⟩) Q)
      -∗ Wp c (.op (.enqueueDma (kSl h) (.here (ksSl b)) (.dma (kS b)) g1 g2 g3) kk) Q) := by
  iintro ⟨HS, HK⟩ Hk
  ihave HS := (slK_free m c b hx) $$ HS
  icases HS with ⟨⟨%f, HS⟩, Hz⟩
  ihave HS := (Entails.of_eq (show ksPts c b f = ((ksSl b).view.loc (c : Thread nD τ) ↦[(ksSl b).view.set]{fullShare} f) from rfl)) $$ HS
  ihave HK := (Entails.of_eq (show kPts m c h = ((kSl h).view.loc (c : Thread nD τ) ↦[(kSl h).view.set]{fullShare} K0 m c) from rfl)) $$ HK
  iapply (Transfers.wp_dmaLocal EC 𝒱₀ (c : Thread nD τ) none (src := kSl h) (dst := ksSl b) (q := fullShare) (fs := K0 m c) (fd := f)
      (Sd := (ksSl b).view.set) () NK (show (ksSl b).view.amount (.dma (kS b)) = NK from credit_ks b) NK_pos (subset_refl _)) $$ [HS HK Hz]
  · isplitl [HK]; · iexact HK
    isplitl [HS]; · iexact HS
    iexact Hz
  iintro HF
  iapply Hk
  iapply (Entails.of_eq (show Transfers.Flight EC (c : Thread nD τ) (.dma (kS b)) () NK iprop(((ksSl b).view.loc (c : Thread nD τ) ↦[(ksSl b).view.set]{fullShare}
      (ksSl b).view.write (Elt F) f ((kSl h).view.read (Elt F) (K0 m c)) Finset.univ) ∗ ((kSl h).view.loc (c : Thread nD τ) ↦[(kSl h).view.set]{fullShare} K0 m c))
      = slK m c b (.fly h) by rw [pointsTo_congr (kWrite_on m c b h f)]; rfl))
  iexact HF
theorem vstart_core (b : Fin 2) (h : Fin 8) {x : Slot} (hx : x.Free)
    {g1 : (vSl h).view.WordExact} {g2 : (vsSl b).view.WordExact} {g3 : DmaTarget.Typed (nD := nD) .hbm (.dma (vS b)) (.here (vsSl b) : DmaTarget nD τ sig Proc.tc .vmem S2048x128 .f32)}
    {α : Type} {kk : PUnit.{1} → Prog (TpuEff nD τ sig (Elt F) Λ₀ .tc) α} {Q : α → sProp 𝕄} :
    iprop(slV m c b x ∗ vPts m c h) ⊢ iprop((slV m c b (.fly h) -∗ Wp c (kk ⟨⟩) Q)
      -∗ Wp c (.op (.enqueueDma (vSl h) (.here (vsSl b)) (.dma (vS b)) g1 g2 g3) kk) Q) := by
  iintro ⟨HS, HK⟩ Hk
  ihave HS := (slV_free m c b hx) $$ HS
  icases HS with ⟨⟨%f, HS⟩, Hz⟩
  ihave HS := (Entails.of_eq (show vsPts c b f = ((vsSl b).view.loc (c : Thread nD τ) ↦[(vsSl b).view.set]{fullShare} f) from rfl)) $$ HS
  ihave HK := (Entails.of_eq (show vPts m c h = ((vSl h).view.loc (c : Thread nD τ) ↦[(vSl h).view.set]{fullShare} V0 m c) from rfl)) $$ HK
  iapply (Transfers.wp_dmaLocal EC 𝒱₀ (c : Thread nD τ) none (src := vSl h) (dst := vsSl b) (q := fullShare) (fs := V0 m c) (fd := f)
      (Sd := (vsSl b).view.set) () NK (show (vsSl b).view.amount (.dma (vS b)) = NK from credit_vs b) NK_pos (subset_refl _)) $$ [HS HK Hz]
  · isplitl [HK]; · iexact HK
    isplitl [HS]; · iexact HS
    iexact Hz
  iintro HF
  iapply Hk
  iapply (Entails.of_eq (show Transfers.Flight EC (c : Thread nD τ) (.dma (vS b)) () NK iprop(((vsSl b).view.loc (c : Thread nD τ) ↦[(vsSl b).view.set]{fullShare}
      (vsSl b).view.write (Elt F) f ((vSl h).view.read (Elt F) (V0 m c)) Finset.univ) ∗ ((vSl h).view.loc (c : Thread nD τ) ↦[(vSl h).view.set]{fullShare} V0 m c))
      = slV m c b (.fly h) by rw [pointsTo_congr (vWrite_on m c b h f)]; rfl))
  iexact HF

theorem Comp_ow (s : S) : Comp m fr c s .ow = iprop(∃ W, owes (c : Thread nD τ) (Owe c s.sg s.t1 s.t2) W) := rfl
theorem Comp_kH (s : S) : Comp m fr c s .kH = heads (kPts m c) s.kA s.kB := rfl
theorem Comp_vH (s : S) : Comp m fr c s .vH = heads (vPts m c) s.vA s.vB := rfl
theorem Comp_kSl (s : S) (b : Fin 2) : Comp m fr c s (.kSl b) = slK m c b (s.kS b) := rfl
theorem Comp_vSl (s : S) (b : Fin 2) : Comp m fr c s (.vSl b) = slV m c b (s.vS b) := rfl
theorem setK_kS (s : S) (x : Slot) (b : Fin 2) : (S.setK s x b).kS b = x := by fin_cases b <;> rfl
theorem setK_sg (s : S) (x : Slot) (b : Fin 2) : (S.setK s x b).sg = s.sg := by fin_cases b <;> rfl
theorem setK_t1 (s : S) (x : Slot) (b : Fin 2) : (S.setK s x b).t1 = s.t1 := by fin_cases b <;> rfl
theorem setK_t2 (s : S) (x : Slot) (b : Fin 2) : (S.setK s x b).t2 = s.t2 := by fin_cases b <;> rfl
theorem setV_vS (s : S) (x : Slot) (b : Fin 2) : (S.setV s x b).vS b = x := by fin_cases b <;> rfl
theorem setV_sg (s : S) (x : Slot) (b : Fin 2) : (S.setV s x b).sg = s.sg := by fin_cases b <;> rfl
theorem setV_t1 (s : S) (x : Slot) (b : Fin 2) : (S.setV s x b).t1 = s.t1 := by fin_cases b <;> rfl
theorem setV_t2 (s : S) (x : Slot) (b : Fin 2) : (S.setV s x b).t2 = s.t2 := by fin_cases b <;> rfl

/-- The slot other than `b`. -/
abbrev S.kO (s : S) : Fin 2 → Slot | 0 => s.kB | 1 => s.kA
abbrev S.vO (s : S) : Fin 2 → Slot | 0 => s.vB | 1 => s.vA

theorem k_kstart {s : S} (b : Fin 2) (h : Fin 8) (hs : (s.kS b).Free) (ho : s.kO b ≠ .fly h)
    {g1 : (kSl h).view.WordExact} {g2 : (ksSl b).view.WordExact} {g3 : DmaTarget.Typed (nD := nD) .hbm (.dma (kS b)) (.here (ksSl b) : DmaTarget nD τ sig Proc.tc .vmem S2048x128 .f32)}
    {α : Type} {kk : PUnit.{1} → Prog (TpuEff nD τ sig (Elt F) Λ₀ .tc) α} {Q : α → sProp 𝕄}
    (hk : St m K fr c (S.setK s (.fly h) b) ⊢ Wp c (kk ⟨⟩) Q) :
    St m K fr c s ⊢ Wp c (Prog.lift (.enqueueDma (kSl h) (.here (ksSl b)) (.dma (kS b)) g1 g2 g3) >>= kk) Q := by
  have e : heads (kPts m c) s.kA s.kB ⊢ iprop(kPts m c h ∗ heads (kPts m c) (S.setK s (.fly h) b).kA
      (S.setK s (.fly h) b).kB) := by
    refine heads_take h ?_ ?_ ?_ <;> fin_cases b
    · rintro (e | e); · exact hs h e
      exact ho e
    · rintro (e | e); · exact ho e
      exact hs h e
    · exact .inl rfl
    · exact .inr rfl
    · exact fun q hq => flying_setA hs h q hq
    · exact fun q hq => (flying_comm _ _ _).trans ((flying_setA hs h q hq).trans (flying_comm _ _ _))
  refine St_step m K fr c [.kH, .kSl b] (by simp) (fun i hi => ?_) hk ?_
  · cases i
    case kSl b' =>
      fin_cases b <;> fin_cases b' <;> first | rfl | exact absurd (by simp) hi
    all_goals first | (fin_cases b <;> rfl) | (rename_i b'; fin_cases b <;> fin_cases b' <;> rfl) | exact absurd (by simp) hi
  simp only [bigSepL_step, bigSepL_singleton, Comp_ow, Comp_kH, Comp_kSl, setK_kS, setK_sg, setK_t1, setK_t2, Prog.lift, Prog.bind_op, Prog.bind_ret]
  iintro ⟨-, HH, HS⟩ Hk
  ihave HH := e $$ HH
  icases HH with ⟨HK, HH⟩
  iapply (kstart_core m c b h hs) $$ [HS HK]
  · isplitl [HS] <;> iassumption
  iintro HS
  iapply Hk
  isplitl [HH]; · iexact HH
  iexact HS

theorem k_vstart {s : S} (b : Fin 2) (h : Fin 8) (hs : (s.vS b).Free) (ho : s.vO b ≠ .fly h)
    {g1 : (vSl h).view.WordExact} {g2 : (vsSl b).view.WordExact} {g3 : DmaTarget.Typed (nD := nD) .hbm (.dma (vS b)) (.here (vsSl b) : DmaTarget nD τ sig Proc.tc .vmem S2048x128 .f32)}
    {α : Type} {kk : PUnit.{1} → Prog (TpuEff nD τ sig (Elt F) Λ₀ .tc) α} {Q : α → sProp 𝕄}
    (hk : St m K fr c (S.setV s (.fly h) b) ⊢ Wp c (kk ⟨⟩) Q) :
    St m K fr c s ⊢ Wp c (Prog.lift (.enqueueDma (vSl h) (.here (vsSl b)) (.dma (vS b)) g1 g2 g3) >>= kk) Q := by
  have e : heads (vPts m c) s.vA s.vB ⊢ iprop(vPts m c h ∗ heads (vPts m c) (S.setV s (.fly h) b).vA
      (S.setV s (.fly h) b).vB) := by
    refine heads_take h ?_ ?_ ?_ <;> fin_cases b
    · rintro (e | e); · exact hs h e
      exact ho e
    · rintro (e | e); · exact ho e
      exact hs h e
    · exact .inl rfl
    · exact .inr rfl
    · exact fun q hq => flying_setA hs h q hq
    · exact fun q hq => (flying_comm _ _ _).trans ((flying_setA hs h q hq).trans (flying_comm _ _ _))
  refine St_step m K fr c [.vH, .vSl b] (by simp) (fun i hi => ?_) hk ?_
  · cases i
    case vSl b' =>
      fin_cases b <;> fin_cases b' <;> first | rfl | exact absurd (by simp) hi
    all_goals first | (fin_cases b <;> rfl) | (rename_i b'; fin_cases b <;> fin_cases b' <;> rfl) | exact absurd (by simp) hi
  simp only [bigSepL_step, bigSepL_singleton, Comp_ow, Comp_vH, Comp_vSl, setV_vS, setV_sg, setV_t1, setV_t2, Prog.lift, Prog.bind_op, Prog.bind_ret]
  iintro ⟨-, HH, HS⟩ Hk
  ihave HH := e $$ HH
  icases HH with ⟨HK, HH⟩
  iapply (vstart_core m c b h hs) $$ [HS HK]
  · isplitl [HS] <;> iassumption
  iintro HS
  iapply Hk
  isplitl [HH]; · iexact HH
  iexact HS

/-! ## Waits for the copies -/

theorem lvS_kS (b : Fin 2) : lvS (.dma (kS b)) = 0 := by revert b; decide
theorem lvS_vS (b : Fin 2) : lvS (.dma (vS b)) = 0 := by revert b; decide

theorem copied_core {sm : DmaSem sig} (hl : lvS (.dma sm) = 0) (D : sProp 𝕄) (a b d : ℕ)
    {sp sp' : Space} {s s' : Shape} {e e' : EltTy} {srcw : Memref sig .tc sp' s' e'} {dstw : Memref sig .tc sp s e} (hN : dstw.view.dmaCredit = NK)
    {g1 : srcw.view.WordExact} {g2 : dstw.view.WordExact}
    {α : Type} {kk : PUnit.{1} → Prog (TpuEff nD τ sig (Elt F) Λ₀ .tc) α} {Q : α → sProp 𝕄} :
    iprop(Ctx m K ∗ Transfers.Flight EC (c : Thread nD τ) (.dma sm) () NK D ∗ (∃ W, owes (c : Thread nD τ) (Owe c a b d) W))
      ⊢ iprop(((D ∗ semVal ((c : Thread nD τ), .dma sm) 0 ∗ ∃ W, owes (c : Thread nD τ) (Owe c a b d) W) -∗ Wp c (kk ⟨⟩) Q)
          -∗ Wp c (.op (.waitDma2 sm srcw dstw g1 g2) kk) Q) := by
  iintro ⟨#HC, HF, ⟨%W, HO⟩⟩ Hk
  iapply (Transfers.wp_waitLocalO EC 𝒱₀ (c : Thread nD τ) none () hN (D := D) (O := Owe c a b d) (W := W)) $$ [HF HO]
  · isplitl [HF]; · iexact HF
    isplitl [HO]; · iexact HO
    iapply (mayWait c (.dma sm) a b d (fun _ => by rw [hl]; decide) (fun _ => by rw [hl]; decide) (by rw [hl]; decide))
    iapply (Ctx_lev m K); iexact HC
  iintro ⟨HD, Hz, HO⟩
  iapply Hk
  isplitl [HD]; · iexact HD
  isplitl [Hz]; · iexact Hz
  iexists _; iexact HO

theorem k_kwait {s : S} (b : Fin 2) (h : Fin 8) (hs : s.kS b = .fly h) (ho : s.kO b ≠ .fly h)
    {sp sp' : Space} {s1 s2 : Shape} {e1 e2 : EltTy} {srcw : Memref sig .tc sp' s1 e1} {dstw : Memref sig .tc sp s2 e2} (hN : dstw.view.dmaCredit = NK)
    {g1 : srcw.view.WordExact} {g2 : dstw.view.WordExact}
    {α : Type} {kk : PUnit.{1} → Prog (TpuEff nD τ sig (Elt F) Λ₀ .tc) α} {Q : α → sProp 𝕄}
    (hk : St m K fr c (S.setK s (.full h) b) ⊢ Wp c (kk ⟨⟩) Q) :
    St m K fr c s ⊢ Wp c (Prog.lift (.waitDma2 (kS b) srcw dstw g1 g2) >>= kk) Q := by
  have e : iprop(kPts m c h ∗ heads (kPts m c) s.kA s.kB) ⊢ heads (kPts m c) (S.setK s (.full h) b).kA
      (S.setK s (.full h) b).kB := by
    fin_cases b
    · rw [show s.kA = .fly h from hs]
      exact heads_put h (.inl rfl) (not_flying_full h ho) fun q hq => flying_full h q hq
    · rw [show s.kB = .fly h from hs]
      exact heads_put h (.inr rfl) (fun e => not_flying_full h ho ((flying_comm _ _ _).mp e)) fun q hq =>
        (flying_comm _ _ _).trans ((flying_full h q hq).trans (flying_comm _ _ _))
  refine St_step m K fr c [.ow, .kH, .kSl b] (by simp) (fun i hi => ?_) hk ?_
  · cases i
    case kSl b' =>
      fin_cases b <;> fin_cases b' <;> first | rfl | exact absurd (by simp) hi
    all_goals first | (fin_cases b <;> rfl) | (rename_i b'; fin_cases b <;> fin_cases b' <;> rfl) | exact absurd (by simp) hi
  simp only [bigSepL_step, bigSepL_singleton, Comp_ow, Comp_kH, Comp_kSl, setK_kS, setK_sg, setK_t1, setK_t2, Prog.lift, Prog.bind_op, Prog.bind_ret]
  iintro ⟨#HC, HO, HH, HS⟩ Hk
  ihave HS := (Entails.of_eq (show slK m c b (s.kS b) = Transfers.Flight EC (c : Thread nD τ) (.dma (kS b)) () NK iprop(ksPts c b (kStg m c b h) ∗ kPts m c h)
    from congrArg (slK m c b) hs)) $$ HS
  iapply (copied_core m K c (lvS_kS b) iprop(ksPts c b (kStg m c b h) ∗ kPts m c h) s.sg s.t1 s.t2 hN) $$ [HS HO]
  · isplitr; · iexact HC
    isplitl [HS]; · iexact HS
    iexact HO
  iintro ⟨⟨HS, HK⟩, Hz, HO⟩
  iapply Hk
  isplitl [HO]
  · iexact HO
  isplitl [HH HK]
  · iapply e
    isplitl [HK]; · iexact HK
    iexact HH
  iapply (Entails.of_eq (show iprop(ksPts c b (kStg m c b h) ∗ semVal ((c : Thread nD τ), .dma (kS b)) 0) = slK m c b (.full h) from rfl))
  isplitl [HS] <;> iassumption

theorem k_vwait {s : S} (b : Fin 2) (h : Fin 8) (hs : s.vS b = .fly h) (ho : s.vO b ≠ .fly h)
    {sp sp' : Space} {s1 s2 : Shape} {e1 e2 : EltTy} {srcw : Memref sig .tc sp' s1 e1} {dstw : Memref sig .tc sp s2 e2} (hN : dstw.view.dmaCredit = NK)
    {g1 : srcw.view.WordExact} {g2 : dstw.view.WordExact}
    {α : Type} {kk : PUnit.{1} → Prog (TpuEff nD τ sig (Elt F) Λ₀ .tc) α} {Q : α → sProp 𝕄}
    (hk : St m K fr c (S.setV s (.full h) b) ⊢ Wp c (kk ⟨⟩) Q) :
    St m K fr c s ⊢ Wp c (Prog.lift (.waitDma2 (vS b) srcw dstw g1 g2) >>= kk) Q := by
  have e : iprop(vPts m c h ∗ heads (vPts m c) s.vA s.vB) ⊢ heads (vPts m c) (S.setV s (.full h) b).vA
      (S.setV s (.full h) b).vB := by
    fin_cases b
    · rw [show s.vA = .fly h from hs]
      exact heads_put h (.inl rfl) (not_flying_full h ho) fun q hq => flying_full h q hq
    · rw [show s.vB = .fly h from hs]
      exact heads_put h (.inr rfl) (fun e => not_flying_full h ho ((flying_comm _ _ _).mp e)) fun q hq =>
        (flying_comm _ _ _).trans ((flying_full h q hq).trans (flying_comm _ _ _))
  refine St_step m K fr c [.ow, .vH, .vSl b] (by simp) (fun i hi => ?_) hk ?_
  · cases i
    case vSl b' =>
      fin_cases b <;> fin_cases b' <;> first | rfl | exact absurd (by simp) hi
    all_goals first | (fin_cases b <;> rfl) | (rename_i b'; fin_cases b <;> fin_cases b' <;> rfl) | exact absurd (by simp) hi
  simp only [bigSepL_step, bigSepL_singleton, Comp_ow, Comp_vH, Comp_vSl, setV_vS, setV_sg, setV_t1, setV_t2, Prog.lift, Prog.bind_op, Prog.bind_ret]
  iintro ⟨#HC, HO, HH, HS⟩ Hk
  ihave HS := (Entails.of_eq (show slV m c b (s.vS b) = Transfers.Flight EC (c : Thread nD τ) (.dma (vS b)) () NK iprop(vsPts c b (vStg m c b h) ∗ vPts m c h)
    from congrArg (slV m c b) hs)) $$ HS
  iapply (copied_core m K c (lvS_vS b) iprop(vsPts c b (vStg m c b h) ∗ vPts m c h) s.sg s.t1 s.t2 hN) $$ [HS HO]
  · isplitr; · iexact HC
    isplitl [HS]; · iexact HS
    iexact HO
  iintro ⟨⟨HS, HK⟩, Hz, HO⟩
  iapply Hk
  isplitl [HO]
  · iexact HO
  isplitl [HH HK]
  · iapply e
    isplitl [HK]; · iexact HK
    iexact HH
  iapply (Entails.of_eq (show iprop(vsPts c b (vStg m c b h) ∗ semVal ((c : Thread nD τ), .dma (vS b)) 0) = slV m c b (.full h) from rfl))
  isplitl [HS] <;> iassumption

end Cert.KernelIdeal.Hand
-- ==== Proof.Loads.lean ====
/-
The loads of the kernel.
-/
module

public import proofs.«01_k».proof.Proof.Copies

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

/-- A load from one component of the state, its contents known. -/
theorem k_ld {s : S} (i : Cmp) {cs : CoreSpace} {sh : Shape} {e : EltTy} {mm : Memref sig .tc cs sh e} {r : LoadRect sh} {hl : mm.view.LoadsAt r}
    {S0 : Finset (Idx (mm.view.loc (c : Thread nD τ)))} {q : PosShare TreeShare} (f : Buf (Elt F) (mm.view.loc (c : Thread nD τ)))
    (hS : mm.view.setOn r.set ⊆ S0)
    (h : Comp m fr c s i ⊢ iprop((mm.view.loc (c : Thread nD τ) ↦[S0]{q} f) ∗ ((mm.view.loc (c : Thread nD τ) ↦[S0]{q} f) -∗ Comp m fr c s i)))
    {α : Type} {kk : (r.shape.Idx → Elt F e) → Prog (TpuEff nD τ sig (Elt F) Λ₀ .tc) α} {Q : α → sProp 𝕄}
    (hk : St m K fr c s ⊢ Wp c (kk (mm.view.readAt (Elt F) r f)) Q) :
    St m K fr c s ⊢ Wp c (Prog.lift (.load mm r hl) >>= kk) Q := by
  refine St_step m K fr c (s' := s) [i] (by simp) (fun _ _ => rfl) hk ?_
  simp only [bigSepL_singleton, Prog.lift, Prog.bind_op, Prog.bind_ret]
  iintro ⟨-, HS⟩ Hk
  ihave HS := h $$ HS
  icases HS with ⟨HS, Hput⟩
  iapply (wp_load 𝒱₀ (c : Thread nD τ) none Set.univ (m := mm) hS) $$ HS
  iintro HS
  iapply Hk
  iapply Hput; iexact HS

/-- The same, its contents not known. -/
theorem k_ldx {s : S} (i : Cmp) {cs : CoreSpace} {sh : Shape} {e : EltTy} {mm : Memref sig .tc cs sh e} {r : LoadRect sh} {hl : mm.view.LoadsAt r}
    {S0 : Finset (Idx (mm.view.loc (c : Thread nD τ)))} {q : PosShare TreeShare}
    (hS : mm.view.setOn r.set ⊆ S0)
    (h : Comp m fr c s i ⊢ iprop(∃ f, (mm.view.loc (c : Thread nD τ) ↦[S0]{q} f) ∗ ((mm.view.loc (c : Thread nD τ) ↦[S0]{q} f) -∗ Comp m fr c s i)))
    {α : Type} {kk : (r.shape.Idx → Elt F e) → Prog (TpuEff nD τ sig (Elt F) Λ₀ .tc) α} {Q : α → sProp 𝕄}
    (hk : ∀ v, St m K fr c s ⊢ Wp c (kk v) Q) :
    St m K fr c s ⊢ Wp c (Prog.lift (.load mm r hl) >>= kk) Q := by
  simp only [Prog.lift, Prog.bind_op, Prog.bind_ret]
  have e : St m K fr c s ⊢ iprop(∃ f, (mm.view.loc (c : Thread nD τ) ↦[S0]{q} f) ∗ ((mm.view.loc (c : Thread nD τ) ↦[S0]{q} f) -∗ St m K fr c s)) := by
    refine St_step m K fr c (s' := s) [i] (by simp) (fun _ _ => rfl) .rfl ?_
    rw [bigSepL_singleton]
    iintro ⟨-, HS⟩ Hk
    ihave HS := h $$ HS
    icases HS with ⟨%f, HS, Hput⟩
    iexists f
    isplitl [HS]; · iexact HS
    iintro HS
    iapply Hk
    iapply Hput; iexact HS
  iintro H
  ihave H := e $$ H
  icases H with ⟨%f, HS, Hput⟩
  iapply (wp_load 𝒱₀ (c : Thread nD τ) none Set.univ (m := mm) hS) $$ HS
  iintro HS
  iapply (hk _)
  iapply Hput; iexact HS

theorem whole_on (b : Ref sig .tc) (A : Finset b.ty.shape.Idx) : (View.whole b).setOn A = A := Finset.map_refl

theorem keep (P : sProp 𝕄) : P ⊢ iprop(P ∗ (P -∗ P)) := by
  iintro H
  isplitl [H]; · iexact H
  iintro H; iexact H
theorem keep_ex {T : Type} (P : T → sProp 𝕄) : iprop(∃ f, P f) ⊢ iprop(∃ f, P f ∗ (P f -∗ ∃ f, P f)) := by
  iintro ⟨%f, H⟩
  iexists f
  isplitl [H]; · iexact H
  iintro H; iexists f; iexact H

/-! ## The staged arguments -/

theorem ld_x {s : S} {inb} {hl : xM.view.LoadsAt (Rect.unit (s := S1x512x1024) ![0, 0, 0] S1x512x1024.size inb).toLoadRect}
    {α : Type} {Q : α → sProp 𝕄} {kk : Vec F S1x512x1024 .f32 → Prog (TpuEff nD τ sig (Elt F) Λ₀ .tc) α} (hk : St m K fr c s ⊢ Wp c (kk (xstg m c)) Q) :
    St m K fr c s ⊢ Wp c (Prog.lift (.load xM (Rect.unit (s := S1x512x1024) ![0, 0, 0] S1x512x1024.size inb).toLoadRect hl) >>= kk) Q := by
  refine k_ld m K fr c .xs (mm := xM) (S0 := Finset.univ) (q := fullShare) (xstg m c) (Finset.subset_univ _) (keep _) ?_
  have e : xM.view.readAt (Elt F) (Rect.unit (s := S1x512x1024) ![0, 0, 0] S1x512x1024.size inb).toLoadRect (xstg m c) = xstg m c :=
      Memref.readAt_unit_zero (Elt F) cc0_stg0_0 (off := ![0, 0, 0]) (by decide) _ _
  rw [e]; exact hk
theorem ld_wq {s : S} {inb} {hl : wqM.view.LoadsAt (Rect.unit (s := S1024x1024) ![0, 0] S1024x1024.size inb).toLoadRect}
    {α : Type} {Q : α → sProp 𝕄} {kk : Vec F S1024x1024 .f32 → Prog (TpuEff nD τ sig (Elt F) Λ₀ .tc) α} (hk : St m K fr c s ⊢ Wp c (kk (wqstg m c)) Q) :
    St m K fr c s ⊢ Wp c (Prog.lift (.load wqM (Rect.unit (s := S1024x1024) ![0, 0] S1024x1024.size inb).toLoadRect hl) >>= kk) Q := by
  refine k_ld m K fr c .wqs (mm := wqM) (S0 := Finset.univ) (q := fullShare) (wqstg m c) (Finset.subset_univ _) (keep _) ?_
  have e : wqM.view.readAt (Elt F) (Rect.unit (s := S1024x1024) ![0, 0] S1024x1024.size inb).toLoadRect (wqstg m c) = wqstg m c :=
      Memref.readAt_unit_zero (Elt F) cc0_stg1_0 (off := ![0, 0]) (by decide) _ _
  rw [e]; exact hk
theorem ld_wo {s : S} {inb} {hl : woM.view.LoadsAt (Rect.unit (s := S1024x1024) ![0, 0] S1024x1024.size inb).toLoadRect}
    {α : Type} {Q : α → sProp 𝕄} {kk : Vec F S1024x1024 .f32 → Prog (TpuEff nD τ sig (Elt F) Λ₀ .tc) α} (hk : St m K fr c s ⊢ Wp c (kk (wostg m c)) Q) :
    St m K fr c s ⊢ Wp c (Prog.lift (.load woM (Rect.unit (s := S1024x1024) ![0, 0] S1024x1024.size inb).toLoadRect hl) >>= kk) Q := by
  refine k_ld m K fr c .wos (mm := woM) (S0 := Finset.univ) (q := fullShare) (wostg m c) (Finset.subset_univ _) (keep _) ?_
  have e : woM.view.readAt (Elt F) (Rect.unit (s := S1024x1024) ![0, 0] S1024x1024.size inb).toLoadRect (wostg m c) = wostg m c :=
      Memref.readAt_unit_zero (Elt F) cc0_stg2_0 (off := ![0, 0]) (by decide) _ _
  rw [e]; exact hk

/-! ## The staging slots and the narrowed heads -/

theorem ld_ks {s : S} (b : Fin 2) (h : Fin 8) (hs : s.kS b = .full h) {hl : ksM.view.LoadsAt (stageR b).toLoadRect}
    {α : Type} {Q : α → sProp 𝕄} {kk : Vec F S1x2048x128 .f32 → Prog (TpuEff nD τ sig (Elt F) Λ₀ .tc) α} (hk : St m K fr c s ⊢ Wp c (kk (kLd m c b h)) Q) :
    St m K fr c s ⊢ Wp c (Prog.lift (.load ksM (stageR b).toLoadRect hl) >>= kk) Q := by
  refine k_ld m K fr c (.kSl b) (mm := ksM) (S0 := (ksSl b).view.set) (q := fullShare) (kStg m c b h) ?_ ?_ hk
  · rw [set_ksSl]; exact (whole_on _ _).subset
  · rw [Comp_kSl, hs]
    show iprop(((ksSl b).view.loc (c : Thread nD τ) ↦[(ksSl b).view.set]{fullShare} kStg m c b h) ∗ semVal ((c : Thread nD τ), .dma (kS b)) 0) ⊢ iprop(((ksSl b).view.loc (c : Thread nD τ) ↦[(ksSl b).view.set]{fullShare} kStg m c b h) ∗ (((ksSl b).view.loc (c : Thread nD τ) ↦[(ksSl b).view.set]{fullShare} kStg m c b h) -∗ iprop(((ksSl b).view.loc (c : Thread nD τ) ↦[(ksSl b).view.set]{fullShare} kStg m c b h) ∗ semVal ((c : Thread nD τ), .dma (kS b)) 0)))
    iintro ⟨H1, H2⟩
    isplitl [H1]; · iexact H1
    iintro H1
    isplitl [H1] <;> iassumption
theorem ld_vs {s : S} (b : Fin 2) (h : Fin 8) (hs : s.vS b = .full h) {hl : vsM.view.LoadsAt (stageR b).toLoadRect}
    {α : Type} {Q : α → sProp 𝕄} {kk : Vec F S1x2048x128 .f32 → Prog (TpuEff nD τ sig (Elt F) Λ₀ .tc) α} (hk : St m K fr c s ⊢ Wp c (kk (vLd m c b h)) Q) :
    St m K fr c s ⊢ Wp c (Prog.lift (.load vsM (stageR b).toLoadRect hl) >>= kk) Q := by
  refine k_ld m K fr c (.vSl b) (mm := vsM) (S0 := (vsSl b).view.set) (q := fullShare) (vStg m c b h) ?_ ?_ hk
  · rw [set_vsSl]; exact (whole_on _ _).subset
  · rw [Comp_vSl, hs]
    show iprop(((vsSl b).view.loc (c : Thread nD τ) ↦[(vsSl b).view.set]{fullShare} vStg m c b h) ∗ semVal ((c : Thread nD τ), .dma (vS b)) 0) ⊢ iprop(((vsSl b).view.loc (c : Thread nD τ) ↦[(vsSl b).view.set]{fullShare} vStg m c b h) ∗ (((vsSl b).view.loc (c : Thread nD τ) ↦[(vsSl b).view.set]{fullShare} vStg m c b h) -∗ iprop(((vsSl b).view.loc (c : Thread nD τ) ↦[(vsSl b).view.set]{fullShare} vStg m c b h) ∗ semVal ((c : Thread nD τ), .dma (vS b)) 0)))
    iintro ⟨H1, H2⟩
    isplitl [H1]; · iexact H1
    iintro H1
    isplitl [H1] <;> iassumption

theorem ldx_kb {s : S} {r : LoadRect S8x2048x128} {hl : kbM.view.LoadsAt r}
    {α : Type} {Q : α → sProp 𝕄} {kk : (r.shape.Idx → Elt F .bf16) → Prog (TpuEff nD τ sig (Elt F) Λ₀ .tc) α} (hk : ∀ v, St m K fr c s ⊢ Wp c (kk v) Q) :
    St m K fr c s ⊢ Wp c (Prog.lift (.load kbM r hl) >>= kk) Q := by
  refine k_ldx m K fr c .kb (mm := kbM) (S0 := Finset.univ) (q := fullShare) (Finset.subset_univ _) ?_ hk
  show iprop(∃ f, ((c : Thread nD τ).loc cc0_scratch2) ↦{fullShare} KBn m c s.kb f) ⊢ iprop(∃ f : Vec F S8x2048x128 .bf16, (((c : Thread nD τ).loc cc0_scratch2) ↦{fullShare} f) ∗ ((((c : Thread nD τ).loc cc0_scratch2) ↦{fullShare} f) -∗ ∃ f, ((c : Thread nD τ).loc cc0_scratch2) ↦{fullShare} KBn m c s.kb f))
  iintro ⟨%f, H⟩
  iexists _
  isplitl [H]; · iexact H
  iintro H; iexists f; iexact H
theorem ldx_vb {s : S} {r : LoadRect S8x2048x256} {hl : vbM.view.LoadsAt r}
    {α : Type} {Q : α → sProp 𝕄} {kk : (r.shape.Idx → Elt F .bf16) → Prog (TpuEff nD τ sig (Elt F) Λ₀ .tc) α} (hk : ∀ v, St m K fr c s ⊢ Wp c (kk v) Q) :
    St m K fr c s ⊢ Wp c (Prog.lift (.load vbM r hl) >>= kk) Q := by
  refine k_ldx m K fr c .vb (mm := vbM) (S0 := Finset.univ) (q := fullShare) (Finset.subset_univ _) ?_ hk
  show iprop(∃ f, ((c : Thread nD τ).loc cc0_scratch3) ↦{fullShare} VBn m c s.vb f) ⊢ iprop(∃ f : Vec F S8x2048x256 .bf16, (((c : Thread nD τ).loc cc0_scratch3) ↦{fullShare} f) ∗ ((((c : Thread nD τ).loc cc0_scratch3) ↦{fullShare} f) -∗ ∃ f, ((c : Thread nD τ).loc cc0_scratch3) ↦{fullShare} VBn m c s.vb f))
  iintro ⟨%f, H⟩
  iexists _
  isplitl [H]; · iexact H
  iintro H; iexists f; iexact H

theorem KBn_all (f : Vec F S8x2048x128 .bf16) : KBn m c 8 f = KB m c := by
  funext i; exact if_pos (i 0 : Fin 8).isLt
theorem VBn_all (f : Vec F S8x2048x256 .bf16) : VBn m c 8 f = VB m c := by
  funext i; exact if_pos (i 0 : Fin 8).isLt

theorem ld_kb {s : S} (h : Fin 8) (hs : s.kb = 8) {hl : kbM.view.LoadsAt (kbR h).toLoadRect}
    {α : Type} {Q : α → sProp 𝕄} {kk : Vec F S1x2048x128 .bf16 → Prog (TpuEff nD τ sig (Elt F) Λ₀ .tc) α} (hk : St m K fr c s ⊢ Wp c (kk (kbLd m c h)) Q) :
    St m K fr c s ⊢ Wp c (Prog.lift (.load kbM (kbR h).toLoadRect hl) >>= kk) Q := by
  refine k_ld m K fr c .kb (mm := kbM) (S0 := Finset.univ) (q := fullShare) (KB m c) (Finset.subset_univ _) ?_ hk
  show iprop(∃ f, ((c : Thread nD τ).loc cc0_scratch2) ↦{fullShare} KBn m c s.kb f) ⊢ iprop((((c : Thread nD τ).loc cc0_scratch2) ↦{fullShare} KB m c) ∗ ((((c : Thread nD τ).loc cc0_scratch2) ↦{fullShare} KB m c) -∗ ∃ f, ((c : Thread nD τ).loc cc0_scratch2) ↦{fullShare} KBn m c s.kb f))
  simp only [hs, KBn_all]
  iintro ⟨%f, H⟩
  isplitl [H]; · iexact H
  iintro H; iexists f; iexact H
theorem ld_vb {s : S} (h : Fin 8) (hs : s.vb = 8) {hl : vbM.view.LoadsAt (vbR h).toLoadRect}
    {α : Type} {Q : α → sProp 𝕄} {kk : Vec F S1x2048x256 .bf16 → Prog (TpuEff nD τ sig (Elt F) Λ₀ .tc) α} (hk : St m K fr c s ⊢ Wp c (kk (vbLd m c h)) Q) :
    St m K fr c s ⊢ Wp c (Prog.lift (.load vbM (vbR h).toLoadRect hl) >>= kk) Q := by
  refine k_ld m K fr c .vb (mm := vbM) (S0 := Finset.univ) (q := fullShare) (VB m c) (Finset.subset_univ _) ?_ hk
  show iprop(∃ f, ((c : Thread nD τ).loc cc0_scratch3) ↦{fullShare} VBn m c s.vb f) ⊢ iprop((((c : Thread nD τ).loc cc0_scratch3) ↦{fullShare} VB m c) ∗ ((((c : Thread nD τ).loc cc0_scratch3) ↦{fullShare} VB m c) -∗ ∃ f, ((c : Thread nD τ).loc cc0_scratch3) ↦{fullShare} VBn m c s.vb f))
  simp only [hs, VBn_all]
  iintro ⟨%f, H⟩
  isplitl [H]; · iexact H
  iintro H; iexists f; iexact H

/-! ## The product, the scatter buffer, the reduced rows, the gathered rows -/

theorem ldx_pt {s : S} (b : Fin 2) (hs : s.pS b = 0) {hl : ptM.view.LoadsAt (blkR b).toLoadRect}
    {α : Type} {Q : α → sProp 𝕄} {kk : Vec F S256x1024 .bf16 → Prog (TpuEff nD τ sig (Elt F) Λ₀ .tc) α} (hk : ∀ v, St m K fr c s ⊢ Wp c (kk v) Q) :
    St m K fr c s ⊢ Wp c (Prog.lift (.load ptM (blkR b).toLoadRect hl) >>= kk) Q := by
  refine k_ldx m K fr c (.pt b) (mm := ptM) (S0 := (ptM.access (blkR b)).set) (q := fullShare) ?_ ?_ hk
  · exact subset_of_eq ((whole_on _ _).trans (View.set_slice_whole _ _).symm)
  · rw [show Comp m fr c s (.pt b) = iprop(∃ f, blkPts c b f) from if_pos hs]
    exact keep_ex _

theorem rect_own (c : Dev nD) (inb) : Rect.unit (s := S512x1024) (k0_off33 c) S32x1024.size inb = rowR c := by
  have e : k0_off33 c = ![32 * c.val, 0] := by revert c; decide
  simp only [rowR, e]

theorem ld_own {s : S} (hs : s.pl = 1) (hs' : s.ph = 1) {hl : ptM.view.LoadsAt (Rect.unit (s := S512x1024) (k0_off33 c) S32x1024.size (k0_off33_inb c)).toLoadRect}
    {α : Type} {Q : α → sProp 𝕄} {kk : Vec F S32x1024 .bf16 → Prog (TpuEff nD τ sig (Elt F) Λ₀ .tc) α} (hk : St m K fr c s ⊢ Wp c (kk (ownLd m c)) Q) :
    St m K fr c s ⊢ Wp c (Prog.lift (.load ptM (Rect.unit (s := S512x1024) (k0_off33 c) S32x1024.size (k0_off33_inb c)).toLoadRect hl) >>= kk) Q := by
  refine k_ld m K fr c (.pt (blkOf c)) (mm := ptM) (S0 := (ptRow c).view.set) (q := fullShare) (Part m c) ?_ ?_ hk
  · rw [set_ptRow, rect_own]; exact (whole_on _ _).subset
  · rw [Comp_pt m fr c s (blkOf c) (by generalize blkOf c = b; fin_cases b <;> assumption)]
    iintro H
    ihave H := (fam_step c (mem_rows c) (fun _ _ _ => rfl)) $$ H
    icases H with ⟨H, Hp⟩
    ihave H := (Entails.of_eq (elPt_own m c _ _)) $$ H
    ihave H := (Entails.of_eq (show ptPts c c (Part m c) = ((ptRow c).view.loc (c : Thread nD τ) ↦[(ptRow c).view.set]{fullShare} Part m c) from rfl)) $$ H
    isplitl [H]; · iexact H
    iintro H
    iapply Hp
    rw [elPt_own]
    iapply (Entails.of_eq (show ((ptRow c).view.loc (c : Thread nD τ) ↦[(ptRow c).view.set]{fullShare} Part m c) = ptPts c c (Part m c) from rfl)); iexact H

theorem rs_read (p : Dev nD) (h : p ≠ c) : rsM.view.readAt (Elt F) (rsR p).toLoadRect (RSp m c) = rsLd m c fr p := by
  refine View.readAt_congr fun i hi => ?_
  have hi : (i 0).val = p.val := mem_rsR.mp (whole_on cc0_scratch5 (rsR p).set ▸ hi)
  exact (if_neg (fun e => h (Fin.ext (hi.symm.trans e)))).symm

theorem rs_read_own : rsM.view.readAt (Elt F) (rsR c).toLoadRect fr = rsLd m c fr c := by
  refine View.readAt_congr fun i hi => ?_
  have hi : (i 0).val = c.val := mem_rsR.mp (whole_on cc0_scratch5 (rsR c).set ▸ hi)
  exact (if_pos hi).symm

theorem ld_rs {s : S} (p : Dev nD) (hs : s.w1 = 16) {hl : rsM.view.LoadsAt (rsR p).toLoadRect}
    {α : Type} {Q : α → sProp 𝕄} {kk : Vec F S1x32x1024 .bf16 → Prog (TpuEff nD τ sig (Elt F) Λ₀ .tc) α} (hk : St m K fr c s ⊢ Wp c (kk (rsLd m c fr p)) Q) :
    St m K fr c s ⊢ Wp c (Prog.lift (.load rsM (rsR p).toLoadRect hl) >>= kk) Q := by
  by_cases h : p = c
  · subst h
    refine k_ld m K fr p .rsO (mm := rsM) (S0 := (rsSl p).view.set) (q := fullShare) fr ?_ (keep _) ?_
    · rw [set_rsSl]; exact (whole_on _ _).subset
    · rw [rs_read_own]; exact hk
  · refine k_ld m K fr c .r1 (mm := rsM) (S0 := (rsSl p).view.set) (q := fullShare) (RSp m c) ?_ ?_ ?_
    · rw [set_rsSl]; exact (whole_on _ _).subset
    · rw [show Comp m fr c s .r1 = bigSep (Finset.univ.erase c) (elR1 m c s.w1) from rfl]
      iintro H
      ihave H := (fam_step p (mem_others fun e => h e.symm) (fun _ _ _ => rfl)) $$ H
      icases H with ⟨H, Hp⟩
      ihave H := (Entails.of_eq (elR1_done m c p s.w1 (by rw [hs]; exact p.isLt))) $$ H
      icases H with ⟨Hz, H⟩
      ihave H := (Entails.of_eq (show rsPts c p (RSp m c) = ((rsSl p).view.loc (c : Thread nD τ) ↦[(rsSl p).view.set]{fullShare} RSp m c) from rfl)) $$ H
      isplitl [H]; · iexact H
      iintro H
      iapply Hp
      rw [elR1_done m c p s.w1 (by rw [hs]; exact p.isLt)]
      isplitl [Hz]; · iexact Hz
      iapply (Entails.of_eq (show ((rsSl p).view.loc (c : Thread nD τ) ↦[(rsSl p).view.set]{fullShare} RSp m c) = rsPts c p (RSp m c) from rfl)); iexact H
    · rw [rs_read m fr c p h]; exact hk

theorem ld_rd {s : S} (hs : s.rd = 1) {inb} {hl : rdM.view.LoadsAt (Rect.unit (s := S32x1024) ![0, 0] S32x1024.size inb).toLoadRect}
    {α : Type} {Q : α → sProp 𝕄} {kk : Vec F S32x1024 .bf16 → Prog (TpuEff nD τ sig (Elt F) Λ₀ .tc) α} (hk : St m K fr c s ⊢ Wp c (kk (Red m c)) Q) :
    St m K fr c s ⊢ Wp c (Prog.lift (.load rdM (Rect.unit (s := S32x1024) ![0, 0] S32x1024.size inb).toLoadRect hl) >>= kk) Q := by
  refine k_ld m K fr c .red (mm := rdM) (S0 := rdM.view.set) (q := Transfers.shareDrop fullShare 16) (Red m c) ?_ ?_ ?_
  · exact View.setOn_subset_set _ _
  · have e : Comp m fr c s .red = iprop((rdM.view.loc (c : Thread nD τ) ↦[rdM.view.set]{Transfers.shareDrop fullShare 16} Red m c) ∗ bigSep Finset.univ (elRd m c s.t2 s.ws)) := by
      simp only [Comp, hs, one_ne_zero, if_false]
    rw [e]
    iintro ⟨H1, H2⟩
    isplitl [H1]; · iexact H1
    iintro H1
    isplitl [H1] <;> iassumption
  · have e : rdM.view.readAt (Elt F) (Rect.unit (s := S32x1024) ![0, 0] S32x1024.size inb).toLoadRect (Red m c) = Red m c :=
      Memref.readAt_unit_zero (Elt F) cc0_scratch6 (off := ![0, 0]) (by decide) _ _
    rw [e]; exact hk

theorem ldx_rd {s : S} (hs : s.rd = 0) {r : LoadRect S32x1024} {hl : rdM.view.LoadsAt r}
    {α : Type} {Q : α → sProp 𝕄} {kk : (r.shape.Idx → Elt F .bf16) → Prog (TpuEff nD τ sig (Elt F) Λ₀ .tc) α} (hk : ∀ v, St m K fr c s ⊢ Wp c (kk v) Q) :
    St m K fr c s ⊢ Wp c (Prog.lift (.load rdM r hl) >>= kk) Q := by
  refine k_ldx m K fr c .red (mm := rdM) (S0 := Finset.univ) (q := fullShare) (Finset.subset_univ _) ?_ hk
  have e : Comp m fr c s .red = iprop(∃ f : Vec F S32x1024 .bf16, ((c : Thread nD τ).loc cc0_scratch6) ↦{fullShare} f) := if_pos hs
  rw [e]
  exact keep_ex _

theorem ldx_own {s : S} (hs : s.go = 0) {inb} {hl : agM.view.LoadsAt (Rect.unit (s := S512x1024) (k0_off33 c) S32x1024.size inb).toLoadRect}
    {α : Type} {Q : α → sProp 𝕄} {kk : Vec F S32x1024 .bf16 → Prog (TpuEff nD τ sig (Elt F) Λ₀ .tc) α} (hk : ∀ v, St m K fr c s ⊢ Wp c (kk v) Q) :
    St m K fr c s ⊢ Wp c (Prog.lift (.load agM (Rect.unit (s := S512x1024) (k0_off33 c) S32x1024.size inb).toLoadRect hl) >>= kk) Q := by
  refine k_ldx m K fr c .agO (mm := agM) (S0 := (agRow c).view.set) (q := fullShare) ?_ ?_ hk
  · rw [set_agRow, rect_own]; exact (whole_on _ _).subset
  · rw [show Comp m fr c s .agO = iprop(∃ f, agPts c c f) from if_pos hs]
    exact keep_ex _

theorem ldx_out {s : S} (hs : s.ou = 0) {r : LoadRect S1x512x1024} {hl : oM.view.LoadsAt r}
    {α : Type} {Q : α → sProp 𝕄} {kk : (r.shape.Idx → Elt F .f32) → Prog (TpuEff nD τ sig (Elt F) Λ₀ .tc) α} (hk : ∀ v, St m K fr c s ⊢ Wp c (kk v) Q) :
    St m K fr c s ⊢ Wp c (Prog.lift (.load oM r hl) >>= kk) Q := by
  refine k_ldx m K fr c .ou (mm := oM) (S0 := Finset.univ) (q := fullShare) (Finset.subset_univ _) ?_ hk
  have e : Comp m fr c s .ou = iprop(∃ f : Vec F S1x512x1024 .f32, ((c : Thread nD τ).loc cc0_stg3_0) ↦{fullShare} f) := if_pos hs
  rw [e]
  exact keep_ex _

/-! ## All the gathered rows at once -/

theorem rows_cover : Finset.univ.biUnion (fun p : Dev nD => (agRow p).view.set) = (Finset.univ : Finset S512x1024.Idx) := by
  ext i
  simp only [Finset.mem_biUnion, Finset.mem_univ, true_and, iff_true]
  refine ⟨rowOf i, ?_⟩
  rw [set_agRow]
  exact mem_rowR.mpr rfl
theorem rows_disjoint (p p' : Dev nD) (h : p ≠ p') : Disjoint (agRow p).view.set (agRow p').view.set := by
  rw [Finset.disjoint_left]
  intro i h1 h2
  rw [set_agRow] at h1 h2
  exact h ((mem_rowR.mp h1).symm.trans (mem_rowR.mp h2))

theorem ag_join (f : Vec F S512x1024 .bf16) : (bigSep Finset.univ fun p : Dev nD => agPts c p f) = (agM.view.loc (c : Thread nD τ) ↦[Finset.univ]{fullShare} f : sProp 𝕄) := by
  have e := pointsTo_biUnion (nD := nD) (τ := τ) (sig := sig) (Ix := Unit) (Val := Elt F) (Name := ℕ) (U := UU) (Lvl := ℕ) (ℓ := agM.view.loc (c : Thread nD τ)) (q := fullShare) (f := f) Finset.univ (fun p : Dev nD => (agRow p).view.set)
    (fun p _ p' _ h => rows_disjoint p p' h)
  rw [rows_cover] at e
  exact e.symm

theorem ld_ag {s : S} (hs : s.go = 1) (hw : s.w2 = 16) {r : LoadRect S512x1024} {hl : agM.view.LoadsAt r}
    {α : Type} {Q : α → sProp 𝕄} {kk : (r.shape.Idx → Elt F .bf16) → Prog (TpuEff nD τ sig (Elt F) Λ₀ .tc) α} (hk : St m K fr c s ⊢ Wp c (kk (agM.view.readAt (Elt F) r (AG m c))) Q) :
    St m K fr c s ⊢ Wp c (Prog.lift (.load agM r hl) >>= kk) Q := by
  refine St_step m K fr c (s' := s) [.r2, .agO] (by decide) (fun _ _ => rfl) hk ?_
  have e1 : Comp m fr c s .agO = agPts c c (AG m c) := if_neg (by rw [hs]; decide)
  have e2 : Comp m fr c s .r2 = iprop(bigSep (Finset.univ.erase c) (fun p => semVal (fCell c 3 p) 0) ∗ bigSep (Finset.univ.erase c) (fun p => agPts c p (AG m c))) := by
    rw [← bigSep_both]
    exact bigSep_congr fun p _ => elR2_done m c p s.w2 (by rw [hw]; exact p.isLt)
  have e3 := ag_join (F := F) c (AG m c)
  rw [bigSep_take (Finset.mem_univ c)] at e3
  simp only [bigSepL_step, bigSepL_singleton, e1, e2, Prog.lift, Prog.bind_op, Prog.bind_ret]
  iintro ⟨-, ⟨Hz, H2⟩, H1⟩ Hk
  iapply (wp_load 𝒱₀ (c : Thread nD τ) none Set.univ (m := agM) (S := Finset.univ) (q := fullShare) (f := AG m c) (Finset.subset_univ _)) $$ [H1 H2]
  · iapply (Entails.of_eq e3)
    isplitl [H1] <;> iassumption
  iintro H
  ihave H := (Entails.of_eq e3.symm) $$ H
  icases H with ⟨H1, H2⟩
  iapply Hk
  isplitl [Hz H2]
  · isplitl [Hz] <;> iassumption
  iexact H1

end Cert.KernelIdeal.Hand
-- ==== Proof.Stores.lean ====
/-
The stores of the kernel.
-/
module

public import proofs.«01_k».proof.Proof.Loads

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

/-! ## What the stores leave -/

theorem mem_kbR {h : Fin 8} {i : S8x2048x128.Idx} : i ∈ (kbR h).set ↔ (i 0).val = h.val := by
  rw [Rect.mem_set_unit, Fin.forall_fin_succ, Fin.forall_fin_succ, Fin.forall_fin_succ]
  have h1 : (i 1).val < 2048 := (i 1).isLt
  have h2 : (i 2).val < 128 := (i 2).isLt
  constructor
  · rintro ⟨e, -⟩
    change h.val ≤ (i 0).val ∧ (i 0).val < h.val + 1 at e
    omega
  · intro e
    refine ⟨?_, ?_, ?_, fun a => a.elim0⟩
    · show h.val ≤ (i 0).val ∧ (i 0).val < h.val + 1
      omega
    · show 0 ≤ (i 1).val ∧ (i 1).val < 0 + 2048
      omega
    · show 0 ≤ (i 2).val ∧ (i 2).val < 0 + 128
      omega
theorem mem_vbR {h : Fin 8} {i : S8x2048x256.Idx} : i ∈ (vbR h).set ↔ (i 0).val = h.val := by
  rw [Rect.mem_set_unit, Fin.forall_fin_succ, Fin.forall_fin_succ, Fin.forall_fin_succ]
  have h1 : (i 1).val < 2048 := (i 1).isLt
  have h2 : (i 2).val < 256 := (i 2).isLt
  constructor
  · rintro ⟨e, -⟩
    change h.val ≤ (i 0).val ∧ (i 0).val < h.val + 1 at e
    omega
  · intro e
    refine ⟨?_, ?_, ?_, fun a => a.elim0⟩
    · show h.val ≤ (i 0).val ∧ (i 0).val < h.val + 1
      omega
    · show 0 ≤ (i 1).val ∧ (i 1).val < 0 + 2048
      omega
    · show 0 ≤ (i 2).val ∧ (i 2).val < 0 + 256
      omega
theorem mem_blkR {b : Fin 2} {i : S512x1024.Idx} : i ∈ (blkR b).set ↔ (i 0).val / 256 = b.val := by
  rw [Rect.mem_set_unit, Fin.forall_fin_succ, Fin.forall_fin_succ]
  have h1 : (i 1).val < 1024 := (i 1).isLt
  constructor
  · rintro ⟨h, -⟩
    change 256 * b.val ≤ (i 0).val ∧ (i 0).val < 256 * b.val + 256 at h
    omega
  · intro h
    refine ⟨?_, ?_, fun a => a.elim0⟩
    · show 256 * b.val ≤ (i 0).val ∧ (i 0).val < 256 * b.val + 256
      omega
    · show 0 ≤ (i 1).val ∧ (i 1).val < 0 + 1024
      omega

theorem KBn_step (h : Fin 8) (f : Vec F S8x2048x128 .bf16) :
    (kbM.access (kbR h)).write (Elt F) (KBn m c h.val f) (k0_pay3 (kLd m c (par h) h)) Finset.univ = KBn m c (h.val + 1) f := by
  funext i
  have hset : (kbM.access (kbR h)).set = (kbR h).set := View.set_slice_whole _ _
  by_cases hi : (i 0 : Fin 8) = h
  · have hin : i ∈ (kbM.access (kbR h)).set := by rw [hset]; exact mem_kbR.mpr (congrArg Fin.val hi)
    refine Eq.trans ?_ (if_pos (by rw [hi]; exact Nat.lt_succ_self _)).symm
    have e : KB m c i = (kbM.access (kbR h)).write (Elt F) (m ((c : Thread nD τ).loc cc0_scratch2)) (k0_pay3 (kLd m c (par h) h)) Finset.univ i := by
      unfold KB; rw [hi]
    rw [e]
    exact View.write_congr (fun x _ _ => rfl) fun hn => absurd hin hn
  · have hv : (i 0 : Fin 8).val ≠ h.val := fun e => hi (Fin.ext e)
    rw [View.write_of_not_mem]
    · show (if (i 0 : Fin 8).val < h.val then _ else _) = if (i 0 : Fin 8).val < h.val + 1 then _ else _
      by_cases hlt : (i 0 : Fin 8).val < h.val
      · rw [if_pos hlt, if_pos (Nat.lt_succ_of_lt hlt)]
      · rw [if_neg hlt, if_neg (by omega)]
    · rw [View.setOn_univ, hset]; exact fun e => hv (mem_kbR.mp e)
theorem VBn_step (h : Fin 8) (f : Vec F S8x2048x256 .bf16) :
    (vbM.access (vbR h)).write (Elt F) (VBn m c h.val f) (k0_pay7 (vLd m c (par h) h)) Finset.univ = VBn m c (h.val + 1) f := by
  funext i
  have hset : (vbM.access (vbR h)).set = (vbR h).set := View.set_slice_whole _ _
  by_cases hi : (i 0 : Fin 8) = h
  · have hin : i ∈ (vbM.access (vbR h)).set := by rw [hset]; exact mem_vbR.mpr (congrArg Fin.val hi)
    refine Eq.trans ?_ (if_pos (by rw [hi]; exact Nat.lt_succ_self _)).symm
    have e : VB m c i = (vbM.access (vbR h)).write (Elt F) (m ((c : Thread nD τ).loc cc0_scratch3)) (k0_pay7 (vLd m c (par h) h)) Finset.univ i := by
      unfold VB; rw [hi]
    rw [e]
    exact View.write_congr (fun x _ _ => rfl) fun hn => absurd hin hn
  · have hv : (i 0 : Fin 8).val ≠ h.val := fun e => hi (Fin.ext e)
    rw [View.write_of_not_mem]
    · show (if (i 0 : Fin 8).val < h.val then _ else _) = if (i 0 : Fin 8).val < h.val + 1 then _ else _
      by_cases hlt : (i 0 : Fin 8).val < h.val
      · rw [if_pos hlt, if_pos (Nat.lt_succ_of_lt hlt)]
      · rw [if_neg hlt, if_neg (by omega)]
    · rw [View.setOn_univ, hset]; exact fun e => hv (mem_vbR.mp e)

theorem Part_on (b : Fin 2) (f : Vec F S512x1024 .bf16) (i : S512x1024.Idx) (hi : i ∈ (ptM.access (blkR b)).set) :
    (ptM.access (blkR b)).write (Elt F) f (PB m c b) Finset.univ i = Part m c i := by
  have hset : (ptM.access (blkR b)).set = (blkR b).set := View.set_slice_whole _ _
  have hd : (i 0 : Fin 512).val / 256 = b.val := mem_blkR.mp (hset ▸ hi)
  unfold Part
  fin_cases b
  · rw [if_pos (by change _ = 0 at hd; omega)]
    exact View.write_congr (fun x _ _ => rfl) fun hn => absurd hi hn
  · rw [if_neg (by change _ = 1 at hd; omega)]
    exact View.write_congr (fun x _ _ => rfl) fun hn => absurd hi hn

theorem blk_cover (b : Fin 2) : (rows b).biUnion (fun p : Dev nD => (ptRow p).view.set) = (ptM.access (blkR b)).set := by
  ext i
  rw [show (ptM.access (blkR b)).set = (blkR b).set from View.set_slice_whole _ _, mem_blkR]
  constructor
  · intro h
    obtain ⟨p, hp, hi⟩ := Finset.mem_biUnion.mp h
    have hp : p.val / 8 = b.val := (Finset.mem_filter.mp hp).2
    have hi : (i 0).val / 32 = p.val := congrArg Fin.val (mem_rowR.mp (set_ptRow p ▸ hi))
    omega
  · intro h
    refine Finset.mem_biUnion.mpr ⟨rowOf i, Finset.mem_filter.mpr ⟨Finset.mem_univ _, ?_⟩, ?_⟩
    · show (i 0).val / 32 / 8 = b.val; omega
    · rw [set_ptRow]; exact mem_rowR.mpr rfl

theorem blk_split (b : Fin 2) (f : Vec F S512x1024 .bf16) : blkPts c b f = bigSep (rows b) fun p : Dev nD => ptPts c p f := by
  have e := pointsTo_biUnion (nD := nD) (τ := τ) (sig := sig) (Ix := Unit) (Val := Elt F) (Name := ℕ) (U := UU) (Lvl := ℕ) (ℓ := ptM.view.loc (c : Thread nD τ)) (q := fullShare) (f := f)
    (rows b) (fun p : Dev nD => (ptRow p).view.set) (fun p _ p' _ h => by rw [set_ptRow, set_ptRow, ← set_agRow, ← set_agRow]; exact rows_disjoint p p' h)
  rw [blk_cover] at e
  exact e

theorem off_own (c : Dev nD) : k0_off33 c = ![32 * c.val, 0] := by revert c; decide
theorem write_own (f : Vec F S512x1024 .bf16) (w : Vec F S32x1024 .bf16) (off : Fin 2 → ℕ) (h : off = ![32 * c.val, 0]) (inb) :
    (agM.access (Rect.unit (s := S512x1024) off S32x1024.size inb)).write (Elt F) f w Finset.univ = (agM.access (rowR c)).write (Elt F) f w Finset.univ := by
  subst h; rfl

theorem AG_own (f : Vec F S512x1024 .bf16) (inb) (i : S512x1024.Idx) (hi : i ∈ (agRow c).view.set) :
    (agM.access (Rect.unit (s := S512x1024) (k0_off33 c) S32x1024.size inb)).write (Elt F) f (Red m c) Finset.univ i = AG m c i := by
  have hr : rowOf i = c := mem_rowR.mp (set_agRow c ▸ hi)
  rw [write_own c f (Red m c) _ (off_own c) inb]
  unfold AG
  rw [hr]
  exact View.write_congr (fun x _ _ => rfl) fun hn => absurd hi hn

/-! ## The reduced rows do not depend on the device's own slot -/

/-- The slot of `p` as it is added up: zero in the device's own place. -/
def masked (r : Dev nD → Vec F S1x32x1024 .bf16) (p : Dev nD) : FVec F S32x1024 .f32 :=
  Scalar.select (Scalar.cmpi .eq (V2 c) (BitVec.ofNat 32 p.val)) (broadcast S32x1024 (Scalar.ofBits .f32 0x00000000#32))
    (extf .f32 (shapeCast S32x1024 (r p) shapeCasts_S1x32x1024_S32x1024) bitsLt_bf16_f32)

/-- Adding sixteen blocks to a first. -/
def addAll (o : Vec F S32x1024 .bf16) (g : Dev nD → FVec F S32x1024 .f32) : FVec F S32x1024 .f32 :=
  addf (addf (addf (addf (addf (addf (addf (addf (addf (addf (addf (addf (addf (addf (addf (addf (extf .f32 o bitsLt_bf16_f32) (g 0)) (g 1)) (g 2)) (g 3)) (g 4)) (g 5)) (g 6)) (g 7)) (g 8)) (g 9)) (g 10)) (g 11)) (g 12)) (g 13)) (g 14)) (g 15)

theorem sum49_eq (o : Vec F S32x1024 .bf16) (r : Dev nD → Vec F S1x32x1024 .bf16) :
    sum49 c o r = shapeCast S32x1024 (truncf .bf16 (addAll o (masked c r)) bitsLt_bf16_f32) shapeCasts_S32x1024_S32x1024 := rfl

theorem masked_own (r : Dev nD → Vec F S1x32x1024 .bf16) : masked c r c = broadcast S32x1024 (Scalar.ofBits .f32 0x00000000#32) := by
  have e : Scalar.cmpi .eq (V2 c) (BitVec.ofNat 32 c.val) = 1#1 := by revert c; decide
  unfold masked; rw [e]; rfl
theorem masked_other (r : Dev nD → Vec F S1x32x1024 .bf16) (p : Dev nD) (h : p ≠ c) : masked c r p = extf .f32 (shapeCast S32x1024 (r p) shapeCasts_S1x32x1024_S32x1024) bitsLt_bf16_f32 := by
  have e : Scalar.cmpi .eq (V2 c) (BitVec.ofNat 32 p.val) = 0#1 := by revert p c; decide
  unfold masked; rw [e]; rfl

theorem masked_congr (r r' : Dev nD → Vec F S1x32x1024 .bf16) (h : ∀ p, p ≠ c → r p = r' p) : masked c r = masked c r' := by
  funext p
  by_cases hp : p = c
  · subst hp; rw [masked_own, masked_own]
  · rw [masked_other c r p hp, masked_other c r' p hp, h p hp]

theorem Red_eq : sum49 c (ownLd m c) (rsLd m c fr) = Red m c := by
  unfold Red
  rw [sum49_eq, sum49_eq, masked_congr c (rsLd m c fr) (rsLd m c (m ((c : Thread nD τ).loc cc0_scratch5))) fun p hp => by
    rw [← rs_read m fr c p hp, ← rs_read m (m ((c : Thread nD τ).loc cc0_scratch5)) c p hp]]

/-! ## The stores -/

theorem st_kb {s : S} (h : Fin 8) (hs : s.kb = h.val) {w : Vec F S1x2048x128 .bf16} (hw : w = k0_pay3 (kLd m c (par h) h))
    {hx : (kbM.access (kbR h)).Stores Finset.univ} {hm}
    {α : Type} {Q : α → sProp 𝕄} {kk : PUnit.{1} → Prog (TpuEff nD τ sig (Elt F) Λ₀ .tc) α}
    (hk : St m K fr c { s with kb := h.val + 1 } ⊢ Wp c (kk ⟨⟩) Q) :
    St m K fr c s ⊢ Wp c (Prog.lift (.store kbM (kbR h) w Finset.univ hx hm) >>= kk) Q := by
  subst hw
  refine St_step m K fr c [.kb] (by decide) (fun i hi => by cases i <;> first | exact absurd (by decide) hi | rfl) hk ?_
  simp only [bigSepL_singleton, Comp, hs, Prog.lift, Prog.bind_op, Prog.bind_ret]
  iintro ⟨-, ⟨%f, H⟩⟩ Hk
  iapply (wp_store 𝒱₀ (c : Thread nD τ) none Set.univ (m := kbM) (r := kbR h) (Mk := Finset.univ) (S := Finset.univ) (f := KBn m c h.val f) (Finset.subset_univ _)) $$ H
  iintro H
  iapply Hk
  iexists f
  ihave H := (Entails.of_eq (show ((kbM.access (kbR h)).loc (c : Thread nD τ) ↦[Finset.univ]{fullShare} (kbM.access (kbR h)).write (Elt F) (KBn m c h.val f) (k0_pay3 (kLd m c (par h) h)) Finset.univ)
    = (((c : Thread nD τ).loc cc0_scratch2) ↦{fullShare} KBn m c (h.val + 1) f) by rw [KBn_step])) $$ H
  iexact H
theorem st_vb {s : S} (h : Fin 8) (hs : s.vb = h.val) {w : Vec F S1x2048x256 .bf16} (hw : w = k0_pay7 (vLd m c (par h) h))
    {hx : (vbM.access (vbR h)).Stores Finset.univ} {hm}
    {α : Type} {Q : α → sProp 𝕄} {kk : PUnit.{1} → Prog (TpuEff nD τ sig (Elt F) Λ₀ .tc) α}
    (hk : St m K fr c { s with vb := h.val + 1 } ⊢ Wp c (kk ⟨⟩) Q) :
    St m K fr c s ⊢ Wp c (Prog.lift (.store vbM (vbR h) w Finset.univ hx hm) >>= kk) Q := by
  subst hw
  refine St_step m K fr c [.vb] (by decide) (fun i hi => by cases i <;> first | exact absurd (by decide) hi | rfl) hk ?_
  simp only [bigSepL_singleton, Comp, hs, Prog.lift, Prog.bind_op, Prog.bind_ret]
  iintro ⟨-, ⟨%f, H⟩⟩ Hk
  iapply (wp_store 𝒱₀ (c : Thread nD τ) none Set.univ (m := vbM) (r := vbR h) (Mk := Finset.univ) (S := Finset.univ) (f := VBn m c h.val f) (Finset.subset_univ _)) $$ H
  iintro H
  iapply Hk
  iexists f
  ihave H := (Entails.of_eq (show ((vbM.access (vbR h)).loc (c : Thread nD τ) ↦[Finset.univ]{fullShare} (vbM.access (vbR h)).write (Elt F) (VBn m c h.val f) (k0_pay7 (vLd m c (par h) h)) Finset.univ)
    = (((c : Thread nD τ).loc cc0_scratch3) ↦{fullShare} VBn m c (h.val + 1) f) by rw [VBn_step])) $$ H
  iexact H

theorem setP_pS (s : S) (x : ℕ) (b : Fin 2) : (S.setP s x b).pS b = x := by fin_cases b <;> rfl
theorem setP_t1 (s : S) (x : ℕ) (b : Fin 2) : (S.setP s x b).t1 = s.t1 := by fin_cases b <;> rfl
theorem setP_ws (s : S) (x : ℕ) (b : Fin 2) : (S.setP s x b).ws = s.ws := by fin_cases b <;> rfl

theorem st_pt {s : S} (b : Fin 2) (hs : s.pS b = 0) (ht : s.t1 ≤ 8 * b.val) {w : Vec F S256x1024 .bf16} (hw : w = PB m c b)
    {hx : (ptM.access (blkR b)).Stores Finset.univ} {hm}
    {α : Type} {Q : α → sProp 𝕄} {kk : PUnit.{1} → Prog (TpuEff nD τ sig (Elt F) Λ₀ .tc) α}
    (hk : St m K fr c (S.setP s 1 b) ⊢ Wp c (kk ⟨⟩) Q) :
    St m K fr c s ⊢ Wp c (Prog.lift (.store ptM (blkR b) w Finset.univ hx hm) >>= kk) Q := by
  subst hw
  refine St_step m K fr c [.pt b] (by simp) (fun i hi => ?_) hk ?_
  · cases i
    case pt b' =>
      fin_cases b <;> fin_cases b' <;> first | rfl | exact absurd (by simp) hi
    all_goals first | (fin_cases b <;> rfl) | (rename_i b'; fin_cases b <;> fin_cases b' <;> rfl)
  have e : Comp m fr c (S.setP s 1 b) (.pt b) = blkPts c b (Part m c) := by
    rw [Comp_pt m fr c _ b (setP_pS s 1 b), setP_t1, setP_ws, blk_split]
    exact bigSep_congr fun p hp => elPt_here m c _ _ (.inl (by
      have h : p.val / 8 = b.val := (Finset.mem_filter.mp hp).2
      omega))
  simp only [bigSepL_singleton, e, Prog.lift, Prog.bind_op, Prog.bind_ret]
  rw [show Comp m fr c s (.pt b) = iprop(∃ f, blkPts c b f) from if_pos hs]
  iintro ⟨-, ⟨%f, H⟩⟩ Hk
  ihave H := (Entails.of_eq (show blkPts c b f = ((ptM.access (blkR b)).loc (c : Thread nD τ) ↦[(ptM.access (blkR b)).set]{fullShare} f) from rfl)) $$ H
  iapply (wp_store 𝒱₀ (c : Thread nD τ) none Set.univ (m := ptM) (r := blkR b) (Mk := Finset.univ) (S := (ptM.access (blkR b)).set) (f := f) (subset_refl _)) $$ H
  iintro H
  iapply Hk
  iapply (Entails.of_eq (show ((ptM.access (blkR b)).loc (c : Thread nD τ) ↦[(ptM.access (blkR b)).set]{fullShare} (ptM.access (blkR b)).write (Elt F) f (PB m c b) Finset.univ)
    = blkPts c b (Part m c) by rw [pointsTo_congr (Part_on m c b f)]; rfl))
  iexact H

theorem st_rd {s : S} (hs : s.rd = 0) (ht : s.t2 = 0) {w : Vec F S32x1024 .bf16} (hw : w = sum49 c (ownLd m c) (rsLd m c fr))
    {inb} {hx : (rdM.access (Rect.unit (s := S32x1024) ![0, 0] S32x1024.size inb)).Stores Finset.univ} {hm}
    {α : Type} {Q : α → sProp 𝕄} {kk : PUnit.{1} → Prog (TpuEff nD τ sig (Elt F) Λ₀ .tc) α}
    (hk : St m K fr c { s with rd := 1 } ⊢ Wp c (kk ⟨⟩) Q) :
    St m K fr c s ⊢ Wp c (Prog.lift (.store rdM (Rect.unit (s := S32x1024) ![0, 0] S32x1024.size inb) w Finset.univ hx hm) >>= kk) Q := by
  rw [Red_eq] at hw
  subst hw
  refine St_step m K fr c [.red] (by decide) (fun i hi => by cases i <;> first | rfl | exact absurd (by decide) hi) hk ?_
  simp only [bigSepL_singleton, Comp, hs, if_true, one_ne_zero, if_false, Prog.lift, Prog.bind_op, Prog.bind_ret]
  rw [bigSep_congr (s := Finset.univ) (Φ := elRd m c s.t2 s.ws) (Ψ := fun p : Dev nD => rdTok c p (Red m c)) fun p _ => elRd_here m c _ _ (.inl (by rw [ht]; exact Nat.zero_le _))]
  iintro ⟨-, ⟨%f, H⟩⟩ Hk
  iapply (wp_store 𝒱₀ (c : Thread nD τ) none Set.univ (m := rdM) (r := Rect.unit (s := S32x1024) ![0, 0] S32x1024.size inb) (Mk := Finset.univ) (S := Finset.univ) (f := f) (Finset.subset_univ _)) $$ H
  iintro H
  iapply Hk
  have e : (rdM.access (Rect.unit (s := S32x1024) ![0, 0] S32x1024.size inb)).write (Elt F) f (Red m c) Finset.univ = Red m c :=
    Memref.write_access_unit_zero_univ (Elt F) cc0_scratch6 (off := ![0, 0]) (by decide) _ _ _
  ihave H := (Entails.of_eq (show ((rdM.access (Rect.unit (s := S32x1024) ![0, 0] S32x1024.size inb)).loc (c : Thread nD τ) ↦[Finset.univ]{fullShare}
      (rdM.access (Rect.unit (s := S32x1024) ![0, 0] S32x1024.size inb)).write (Elt F) f (Red m c) Finset.univ)
    = (rdM.view.loc (c : Thread nD τ) ↦[rdM.view.set]{fullShare} Red m c) by rw [e, View.set_whole])) $$ H
  iapply (Transfers.pointsTo_toks_split fullShare 16)
  iexact H

theorem st_own {s : S} (hs : s.go = 0) {w : Vec F S32x1024 .bf16} (hw : w = Red m c)
    {inb} {hx : (agM.access (Rect.unit (s := S512x1024) (k0_off33 c) S32x1024.size inb)).Stores Finset.univ} {hm}
    {α : Type} {Q : α → sProp 𝕄} {kk : PUnit.{1} → Prog (TpuEff nD τ sig (Elt F) Λ₀ .tc) α}
    (hk : St m K fr c { s with go := 1 } ⊢ Wp c (kk ⟨⟩) Q) :
    St m K fr c s ⊢ Wp c (Prog.lift (.store agM (Rect.unit (s := S512x1024) (k0_off33 c) S32x1024.size inb) w Finset.univ hx hm) >>= kk) Q := by
  subst hw
  refine St_step m K fr c [.agO] (by decide) (fun i hi => by cases i <;> first | rfl | exact absurd (by decide) hi) hk ?_
  simp only [bigSepL_singleton, Comp, hs, if_true, one_ne_zero, if_false, Prog.lift, Prog.bind_op, Prog.bind_ret]
  iintro ⟨-, ⟨%f, H⟩⟩ Hk
  ihave H := (Entails.of_eq (show agPts c c f = ((agM.access (Rect.unit (s := S512x1024) (k0_off33 c) S32x1024.size inb)).loc (c : Thread nD τ) ↦[(agRow c).view.set]{fullShare} f) from rfl)) $$ H
  iapply (wp_store 𝒱₀ (c : Thread nD τ) none Set.univ (m := agM) (r := Rect.unit (s := S512x1024) (k0_off33 c) S32x1024.size inb) (Mk := Finset.univ) (f := f)
    (by rw [rect_own, View.setOn_univ, set_agRow])) $$ H
  iintro H
  iapply Hk
  iapply (Entails.of_eq (show ((agM.access (Rect.unit (s := S512x1024) (k0_off33 c) S32x1024.size inb)).loc (c : Thread nD τ) ↦[(agRow c).view.set]{fullShare}
      (agM.access (Rect.unit (s := S512x1024) (k0_off33 c) S32x1024.size inb)).write (Elt F) f (Red m c) Finset.univ)
    = agPts c c (AG m c) by rw [pointsTo_congr (AG_own m c f inb)]; rfl))
  iexact H

theorem st_out {s : S} (hs : s.ou = 0) {w : Vec F S1x512x1024 .f32} (hw : w = outV m c)
    {inb} {hx : (oM.access (Rect.unit (s := S1x512x1024) ![0, 0, 0] S1x512x1024.size inb)).Stores Finset.univ} {hm}
    {α : Type} {Q : α → sProp 𝕄} {kk : PUnit.{1} → Prog (TpuEff nD τ sig (Elt F) Λ₀ .tc) α}
    (hk : St m K fr c { s with ou := 1 } ⊢ Wp c (kk ⟨⟩) Q) :
    St m K fr c s ⊢ Wp c (Prog.lift (.store oM (Rect.unit (s := S1x512x1024) ![0, 0, 0] S1x512x1024.size inb) w Finset.univ hx hm) >>= kk) Q := by
  subst hw
  refine St_step m K fr c [.ou] (by decide) (fun i hi => by cases i <;> first | rfl | exact absurd (by decide) hi) hk ?_
  simp only [bigSepL_singleton, Comp, hs, if_true, one_ne_zero, if_false, Prog.lift, Prog.bind_op, Prog.bind_ret]
  iintro ⟨-, ⟨%f, H⟩⟩ Hk
  iapply (wp_store 𝒱₀ (c : Thread nD τ) none Set.univ (m := oM) (r := Rect.unit (s := S1x512x1024) ![0, 0, 0] S1x512x1024.size inb) (Mk := Finset.univ) (S := Finset.univ) (f := f) (Finset.subset_univ _)) $$ H
  iintro H
  iapply Hk
  have e : (oM.access (Rect.unit (s := S1x512x1024) ![0, 0, 0] S1x512x1024.size inb)).write (Elt F) f (outV m c) Finset.univ = outV m c :=
    Memref.write_access_unit_zero_univ (Elt F) cc0_stg3_0 (off := ![0, 0, 0]) (by decide) _ _ _
  ihave H := (Entails.of_eq (show ((oM.access (Rect.unit (s := S1x512x1024) ![0, 0, 0] S1x512x1024.size inb)).loc (c : Thread nD τ) ↦[Finset.univ]{fullShare}
      (oM.access (Rect.unit (s := S1x512x1024) ![0, 0, 0] S1x512x1024.size inb)).write (Elt F) f (outV m c) Finset.univ)
    = (((c : Thread nD τ).loc cc0_stg3_0) ↦{fullShare} outV m c) by rw [e])) $$ H
  iexact H

end Cert.KernelIdeal.Hand
-- ==== Proof.Parts.lean ====
/-
The parts of the kernel, run one after the other: the set-up of the copies.
-/
module

public import proofs.«01_k».proof.Proof.Stores

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

/-- A part of the kernel on the kernel's own memories. -/
abbrev onArgs {α : Type 1} (f : ∀ (arg0 : Memref sig .tc .vmem S1x512x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S1x2048x8x128 .f32) (harg3 : arg3.IsWhole) (arg4 : Memref sig .tc .hbm S1x2048x8x128 .f32) (harg4 : arg4.IsWhole) (arg5 : Memref sig .tc .vmem S1x512x1024 .f32) (harg5 : arg5.IsWhole) (arg6 : Memref sig .tc .vmem S2x2048x128 .f32) (harg6 : arg6.IsWhole) (arg7 : Memref sig .tc .vmem S2x2048x128 .f32) (harg7 : arg7.IsWhole) (arg8 : Memref sig .tc .vmem S8x2048x128 .bf16) (harg8 : arg8.IsWhole) (arg9 : Memref sig .tc .vmem S8x2048x256 .bf16) (harg9 : arg9.IsWhole) (arg10 : Memref sig .tc .vmem S512x1024 .bf16) (harg10 : arg10.IsWhole) (arg11 : Memref sig .tc .vmem S16x32x1024 .bf16) (harg11 : arg11.IsWhole) (arg12 : Memref sig .tc .vmem S32x1024 .bf16) (harg12 : arg12.IsWhole) (arg13 : Memref sig .tc .vmem S512x1024 .bf16) (harg13 : arg13.IsWhole) (arg14 : DmaSems sig S2) (arg15 : DmaSems sig S2) (arg16 : DmaSems sig S16) (arg17 : DmaSems sig S16) (arg18 : DmaSems sig S16) (arg19 : DmaSems sig S16), α) : α :=
  f xM (Memref.isWhole_whole _) wqM (Memref.isWhole_whole _) woM (Memref.isWhole_whole _) kM (Memref.isWhole_whole _) vM (Memref.isWhole_whole _) oM (Memref.isWhole_whole _) ksM (Memref.isWhole_whole _) vsM (Memref.isWhole_whole _) kbM (Memref.isWhole_whole _) vbM (Memref.isWhole_whole _) ptM (Memref.isWhole_whole _) rsM (Memref.isWhole_whole _) rdM (Memref.isWhole_whole _) agM (Memref.isWhole_whole _) cc0_scratch8 cc0_scratch9 cc0_scratch10 cc0_scratch11 cc0_scratch12 cc0_scratch13

theorem k_dev {s : S} {α : Type} {kk : Dev nD → Prog (TpuEff nD τ sig (Elt F) Λ₀ .tc) α} {Q : α → sProp 𝕄}
    (hk : St m K fr c s ⊢ Wp c (kk c) Q) : St m K fr c s ⊢ Wp c (Prog.lift .deviceId >>= kk) Q := by
  refine hk.trans (Entails.of_eq ?_)
  simp only [Prog.lift, Prog.bind_op, Prog.bind_ret]
  exact (wp_deviceId 𝒱₀ (c : Thread nD τ) none Set.univ (k := kk) (Q := Q)).symm

theorem k_ret {s : S} {α : Type} {v : α} {Q : α → sProp 𝕄} (hk : St m K fr c s ⊢ Q v) : St m K fr c s ⊢ Wp c (pure v) Q := by
  exact hk.trans (show Q v ⊢ |={Set.univ}[frame]=> Q v from fupd_intro)

theorem k_bind {s : S} {α β : Type} {p : Prog (TpuEff nD τ sig (Elt F) Λ₀ .tc) β} {kk : β → Prog (TpuEff nD τ sig (Elt F) Λ₀ .tc) α} {Q : α → sProp 𝕄}
    (h : St m K fr c s ⊢ Wp c p (fun v => Wp c (kk v) Q)) : St m K fr c s ⊢ Wp c (p >>= kk) Q := by
  unfold Wp
  rw [wp_bind]
  exact h

instance (x : Slot) : Decidable x.Free := inferInstanceAs (Decidable (∀ h, x ≠ .fly h))

/-- The state while the heads are being copied in. -/
abbrev A (sg : ℕ) (kA kB vA vB : Slot) (kb vb : ℕ) : S := ⟨sg, 0, kA, kB, vA, vB, kb, vb, 0, 0, 0, 0, 0, 0, 0, 0, 0, 0⟩

theorem part1 {Q : (Σ' (d0 : Dev nD) (v2 : BitVec 32), Sems sig S_) → sProp 𝕄} (hQ : St m K fr c (A 3 (.fly 0) .idle (.fly 0) .idle 0 0) ⊢ Q ⟨c, V2 c, SemArray.scalar (sig.barrier 0 rfl)⟩) :
    St m K fr c (A 0 .idle .idle .idle .idle 0 0) ⊢ Wp c (onArgs (k0_part1 (F := F))) Q := by
  rw [k0_part1_eq_skeleton]
  unfold onArgs k0_part1_skel
  refine k_dev m K fr c ?_
  refine k_kstart m K fr c 0 0 (by decide) (by decide) ?_
  refine k_vstart m K fr c 0 0 (by decide) (by decide) ?_
  refine k_signal m K fr c 0 rfl ((by decide : ∀ d, Iff (k0_cond1 d = 1#1) (d ≠ 0)) c) (jp := fun _ => _) (dv := fun h => ⟨k0_dev1, k0_dev1_lt c h⟩) (fun _ => rfl) ?_
  refine k_signal m K fr c 1 rfl ((by decide : ∀ d, Iff (k0_cond2 d = 1#1) (d ≠ 1)) c) (jp := fun _ => _) (dv := fun h => ⟨k0_dev2, k0_dev2_lt c h⟩) (fun _ => rfl) ?_
  refine k_signal m K fr c 2 rfl ((by decide : ∀ d, Iff (k0_cond3 d = 1#1) (d ≠ 2)) c) (jp := fun _ => _) (dv := fun h => ⟨k0_dev3, k0_dev3_lt c h⟩) (fun _ => rfl) ?_
  exact k_ret m K fr c hQ

theorem part2 {Q : PUnit.{1} → sProp 𝕄} (hQ : St m K fr c (A 13 (.fly 0) .idle (.fly 0) .idle 0 0) ⊢ Q ⟨⟩) :
    St m K fr c (A 3 (.fly 0) .idle (.fly 0) .idle 0 0) ⊢ Wp c (onArgs (k0_part2 (F := F)) c (V2 c) (SemArray.scalar (sig.barrier 0 rfl))) Q := by
  rw [k0_part2_eq_skeleton]
  unfold onArgs k0_part2_skel
  refine k_signal m K fr c 3 rfl ((by decide : ∀ d, Iff (k0_cond4 d = 1#1) (d ≠ 3)) c) (jp := fun _ => _) (dv := fun h => ⟨k0_dev4, k0_dev4_lt c h⟩) (fun _ => rfl) ?_
  refine k_signal m K fr c 4 rfl ((by decide : ∀ d, Iff (k0_cond5 d = 1#1) (d ≠ 4)) c) (jp := fun _ => _) (dv := fun h => ⟨k0_dev5, k0_dev5_lt c h⟩) (fun _ => rfl) ?_
  refine k_signal m K fr c 5 rfl ((by decide : ∀ d, Iff (k0_cond6 d = 1#1) (d ≠ 5)) c) (jp := fun _ => _) (dv := fun h => ⟨k0_dev6, k0_dev6_lt c h⟩) (fun _ => rfl) ?_
  refine k_signal m K fr c 6 rfl ((by decide : ∀ d, Iff (k0_cond7 d = 1#1) (d ≠ 6)) c) (jp := fun _ => _) (dv := fun h => ⟨k0_dev7, k0_dev7_lt c h⟩) (fun _ => rfl) ?_
  refine k_signal m K fr c 7 rfl ((by decide : ∀ d, Iff (k0_cond8 d = 1#1) (d ≠ 7)) c) (jp := fun _ => _) (dv := fun h => ⟨k0_dev8, k0_dev8_lt c h⟩) (fun _ => rfl) ?_
  refine k_signal m K fr c 8 rfl ((by decide : ∀ d, Iff (k0_cond9 d = 1#1) (d ≠ 8)) c) (jp := fun _ => _) (dv := fun h => ⟨k0_dev9, k0_dev9_lt c h⟩) (fun _ => rfl) ?_
  refine k_signal m K fr c 9 rfl ((by decide : ∀ d, Iff (k0_cond10 d = 1#1) (d ≠ 9)) c) (jp := fun _ => _) (dv := fun h => ⟨k0_dev10, k0_dev10_lt c h⟩) (fun _ => rfl) ?_
  refine k_signal m K fr c 10 rfl ((by decide : ∀ d, Iff (k0_cond11 d = 1#1) (d ≠ 10)) c) (jp := fun _ => _) (dv := fun h => ⟨k0_dev11, k0_dev11_lt c h⟩) (fun _ => rfl) ?_
  refine k_signal m K fr c 11 rfl ((by decide : ∀ d, Iff (k0_cond12 d = 1#1) (d ≠ 11)) c) (jp := fun _ => _) (dv := fun h => ⟨k0_dev12, k0_dev12_lt c h⟩) (fun _ => rfl) ?_
  refine k_signal m K fr c 12 rfl ((by decide : ∀ d, Iff (k0_cond13 d = 1#1) (d ≠ 12)) c) (jp := fun _ => _) (dv := fun h => ⟨k0_dev13, k0_dev13_lt c h⟩) (fun _ => rfl) ?_
  exact k_ret m K fr c hQ

theorem part3 {Q : (Σ' (v73 : FVec F S512x1024 .bf16), FVec F S1024x1024 .bf16) → sProp 𝕄} (hQ : St m K fr c (A 16 (.fly 0) (.fly 1) (.fly 0) .idle 0 0) ⊢ Q ⟨q73 m c, w76 m c⟩) :
    St m K fr c (A 13 (.fly 0) .idle (.fly 0) .idle 0 0) ⊢ Wp c (onArgs (k0_part3 (F := F)) c (V2 c) (SemArray.scalar (sig.barrier 0 rfl))) Q := by
  rw [k0_part3_eq_skeleton]
  unfold onArgs k0_part3_skel
  refine k_signal m K fr c 13 rfl ((by decide : ∀ d, Iff (k0_cond14 d = 1#1) (d ≠ 13)) c) (jp := fun _ => _) (dv := fun h => ⟨k0_dev14, k0_dev14_lt c h⟩) (fun _ => rfl) ?_
  refine k_signal m K fr c 14 rfl ((by decide : ∀ d, Iff (k0_cond15 d = 1#1) (d ≠ 14)) c) (jp := fun _ => _) (dv := fun h => ⟨k0_dev15, k0_dev15_lt c h⟩) (fun _ => rfl) ?_
  refine k_signal m K fr c 15 rfl ((by decide : ∀ d, Iff (k0_cond16 d = 1#1) (d ≠ 15)) c) (jp := fun _ => _) (dv := fun h => ⟨k0_dev16, k0_dev16_lt c h⟩) (fun _ => rfl) ?_
  refine ld_x m K fr c ?_
  refine ld_wq m K fr c ?_
  refine ld_wo m K fr c ?_
  refine k_kstart m K fr c 1 1 (by decide) (by decide) ?_
  exact k_ret m K fr c hQ

theorem part4 {Q : FVec F S2048x256 .bf16 → sProp 𝕄} (hQ : St m K fr c (A 16 (.full 0) (.fly 1) (.full 0) (.fly 1) 1 0) ⊢ Q (k0_pay4 (vLd m c 0 0))) :
    St m K fr c (A 16 (.fly 0) (.fly 1) (.fly 0) .idle 0 0) ⊢ Wp c (onArgs (k0_part4 (F := F))) Q := by
  rw [k0_part4_eq_skeleton]
  unfold onArgs k0_part4_skel
  refine k_vstart m K fr c 1 1 (by decide) (by decide) ?_
  refine k_kwait m K fr c 0 0 (dstw := ksSl 0) rfl (by decide) rfl ?_
  refine k_vwait m K fr c 0 0 (dstw := vsSl 0) rfl (by decide) rfl ?_
  refine ld_ks m K fr c 0 0 rfl ?_
  refine ldx_kb m K fr c fun _ => ?_
  refine st_kb m K fr c 0 rfl rfl ?_
  refine ld_vs m K fr c 0 0 rfl ?_
  exact k_ret m K fr c hQ

theorem part5 {Q : PUnit.{1} → sProp 𝕄} (hQ : St m K fr c (A 16 (.fly 2) (.full 1) (.fly 2) (.fly 1) 1 1) ⊢ Q ⟨⟩) :
    St m K fr c (A 16 (.full 0) (.fly 1) (.full 0) (.fly 1) 1 0) ⊢ Wp c (onArgs (k0_part5 (F := F)) (k0_pay4 (vLd m c 0 0))) Q := by
  rw [k0_part5_eq_skeleton]
  unfold onArgs k0_part5_skel
  refine ldx_vb m K fr c fun _ => ?_
  refine st_vb m K fr c 0 rfl rfl ?_
  refine k_kstart m K fr c 0 2 (by decide) (by decide) ?_
  refine k_vstart m K fr c 0 2 (by decide) (by decide) ?_
  refine k_kwait m K fr c 1 1 (dstw := ksSl 1) rfl (by decide) rfl ?_
  exact k_ret m K fr c hQ

theorem part6 {Q : PUnit.{1} → sProp 𝕄} (hQ : St m K fr c (A 16 (.fly 2) (.fly 3) (.fly 2) (.full 1) 2 2) ⊢ Q ⟨⟩) :
    St m K fr c (A 16 (.fly 2) (.full 1) (.fly 2) (.fly 1) 1 1) ⊢ Wp c (onArgs (k0_part6 (F := F))) Q := by
  rw [k0_part6_eq_skeleton]
  unfold onArgs k0_part6_skel
  refine k_vwait m K fr c 1 1 (dstw := vsSl 1) rfl (by decide) rfl ?_
  refine ld_ks m K fr c 1 1 rfl ?_
  refine ldx_kb m K fr c fun _ => ?_
  refine st_kb m K fr c 1 rfl rfl ?_
  refine ld_vs m K fr c 1 1 rfl ?_
  refine ldx_vb m K fr c fun _ => ?_
  refine st_vb m K fr c 1 rfl rfl ?_
  refine k_kstart m K fr c 1 3 (by decide) (by decide) ?_
  exact k_ret m K fr c hQ

theorem part7 {Q : FVec F S2048x256 .bf16 → sProp 𝕄} (hQ : St m K fr c (A 16 (.full 2) (.fly 3) (.full 2) (.fly 3) 3 2) ⊢ Q (k0_pay9 (vLd m c 0 2))) :
    St m K fr c (A 16 (.fly 2) (.fly 3) (.fly 2) (.full 1) 2 2) ⊢ Wp c (onArgs (k0_part7 (F := F))) Q := by
  rw [k0_part7_eq_skeleton]
  unfold onArgs k0_part7_skel
  refine k_vstart m K fr c 1 3 (by decide) (by decide) ?_
  refine k_kwait m K fr c 0 2 (dstw := ksSl 0) rfl (by decide) rfl ?_
  refine k_vwait m K fr c 0 2 (dstw := vsSl 0) rfl (by decide) rfl ?_
  refine ld_ks m K fr c 0 2 rfl ?_
  refine ldx_kb m K fr c fun _ => ?_
  refine st_kb m K fr c 2 rfl rfl ?_
  refine ld_vs m K fr c 0 2 rfl ?_
  refine ldx_vb m K fr c fun _ => ?_
  exact k_ret m K fr c hQ

theorem part8 {Q : PUnit.{1} → sProp 𝕄} (hQ : St m K fr c (A 16 (.fly 4) (.full 3) (.fly 4) (.fly 3) 3 3) ⊢ Q ⟨⟩) :
    St m K fr c (A 16 (.full 2) (.fly 3) (.full 2) (.fly 3) 3 2) ⊢ Wp c (onArgs (k0_part8 (F := F)) (k0_pay9 (vLd m c 0 2))) Q := by
  rw [k0_part8_eq_skeleton]
  unfold onArgs k0_part8_skel
  refine st_vb m K fr c 2 rfl rfl ?_
  refine k_kstart m K fr c 0 4 (by decide) (by decide) ?_
  refine k_vstart m K fr c 0 4 (by decide) (by decide) ?_
  refine k_kwait m K fr c 1 3 (dstw := ksSl 1) rfl (by decide) rfl ?_
  exact k_ret m K fr c hQ

theorem part9 {Q : PUnit.{1} → sProp 𝕄} (hQ : St m K fr c (A 16 (.fly 4) (.fly 5) (.fly 4) (.full 3) 4 4) ⊢ Q ⟨⟩) :
    St m K fr c (A 16 (.fly 4) (.full 3) (.fly 4) (.fly 3) 3 3) ⊢ Wp c (onArgs (k0_part9 (F := F))) Q := by
  rw [k0_part9_eq_skeleton]
  unfold onArgs k0_part9_skel
  refine k_vwait m K fr c 1 3 (dstw := vsSl 1) rfl (by decide) rfl ?_
  refine ld_ks m K fr c 1 3 rfl ?_
  refine ldx_kb m K fr c fun _ => ?_
  refine st_kb m K fr c 3 rfl rfl ?_
  refine ld_vs m K fr c 1 3 rfl ?_
  refine ldx_vb m K fr c fun _ => ?_
  refine st_vb m K fr c 3 rfl rfl ?_
  refine k_kstart m K fr c 1 5 (by decide) (by decide) ?_
  exact k_ret m K fr c hQ

theorem part10 {Q : PUnit.{1} → sProp 𝕄} (hQ : St m K fr c (A 16 (.full 4) (.fly 5) (.full 4) (.fly 5) 5 5) ⊢ Q ⟨⟩) :
    St m K fr c (A 16 (.fly 4) (.fly 5) (.fly 4) (.full 3) 4 4) ⊢ Wp c (onArgs (k0_part10 (F := F))) Q := by
  rw [k0_part10_eq_skeleton]
  unfold onArgs k0_part10_skel
  refine k_vstart m K fr c 1 5 (by decide) (by decide) ?_
  refine k_kwait m K fr c 0 4 (dstw := ksSl 0) rfl (by decide) rfl ?_
  refine k_vwait m K fr c 0 4 (dstw := vsSl 0) rfl (by decide) rfl ?_
  refine ld_ks m K fr c 0 4 rfl ?_
  refine ldx_kb m K fr c fun _ => ?_
  refine st_kb m K fr c 4 rfl rfl ?_
  refine ld_vs m K fr c 0 4 rfl ?_
  refine ldx_vb m K fr c fun _ => ?_
  refine st_vb m K fr c 4 rfl rfl ?_
  exact k_ret m K fr c hQ

theorem part11 {Q : PUnit.{1} → sProp 𝕄} (hQ : St m K fr c (A 16 (.fly 6) (.full 5) (.fly 6) (.full 5) 5 5) ⊢ Q ⟨⟩) :
    St m K fr c (A 16 (.full 4) (.fly 5) (.full 4) (.fly 5) 5 5) ⊢ Wp c (onArgs (k0_part11 (F := F))) Q := by
  rw [k0_part11_eq_skeleton]
  unfold onArgs k0_part11_skel
  refine k_kstart m K fr c 0 6 (by decide) (by decide) ?_
  refine k_vstart m K fr c 0 6 (by decide) (by decide) ?_
  refine k_kwait m K fr c 1 5 (dstw := ksSl 1) rfl (by decide) rfl ?_
  refine k_vwait m K fr c 1 5 (dstw := vsSl 1) rfl (by decide) rfl ?_
  exact k_ret m K fr c hQ

theorem part12 {Q : PUnit.{1} → sProp 𝕄} (hQ : St m K fr c (A 16 (.fly 6) (.fly 7) (.fly 6) (.fly 7) 6 6) ⊢ Q ⟨⟩) :
    St m K fr c (A 16 (.fly 6) (.full 5) (.fly 6) (.full 5) 5 5) ⊢ Wp c (onArgs (k0_part12 (F := F))) Q := by
  rw [k0_part12_eq_skeleton]
  unfold onArgs k0_part12_skel
  refine ld_ks m K fr c 1 5 rfl ?_
  refine ldx_kb m K fr c fun _ => ?_
  refine st_kb m K fr c 5 rfl rfl ?_
  refine ld_vs m K fr c 1 5 rfl ?_
  refine ldx_vb m K fr c fun _ => ?_
  refine st_vb m K fr c 5 rfl rfl ?_
  refine k_kstart m K fr c 1 7 (by decide) (by decide) ?_
  refine k_vstart m K fr c 1 7 (by decide) (by decide) ?_
  exact k_ret m K fr c hQ

theorem part13 {Q : PUnit.{1} → sProp 𝕄} (hQ : St m K fr c (A 16 (.full 6) (.fly 7) (.full 6) (.fly 7) 7 7) ⊢ Q ⟨⟩) :
    St m K fr c (A 16 (.fly 6) (.fly 7) (.fly 6) (.fly 7) 6 6) ⊢ Wp c (onArgs (k0_part13 (F := F))) Q := by
  rw [k0_part13_eq_skeleton]
  unfold onArgs k0_part13_skel
  refine k_kwait m K fr c 0 6 (dstw := ksSl 0) rfl (by decide) rfl ?_
  refine k_vwait m K fr c 0 6 (dstw := vsSl 0) rfl (by decide) rfl ?_
  refine ld_ks m K fr c 0 6 rfl ?_
  refine ldx_kb m K fr c fun _ => ?_
  refine st_kb m K fr c 6 rfl rfl ?_
  refine ld_vs m K fr c 0 6 rfl ?_
  refine ldx_vb m K fr c fun _ => ?_
  refine st_vb m K fr c 6 rfl rfl ?_
  exact k_ret m K fr c hQ

theorem part14 {Q : FVec F S256x128 .bf16 → sProp 𝕄} (hQ : St m K fr c (A 16 (.full 6) (.full 7) (.full 6) (.full 7) 8 8) ⊢ Q (k0_pay21 (q73 m c))) :
    St m K fr c (A 16 (.full 6) (.fly 7) (.full 6) (.fly 7) 7 7) ⊢ Wp c (onArgs (k0_part14 (F := F)) (q73 m c)) Q := by
  rw [k0_part14_eq_skeleton]
  unfold onArgs k0_part14_skel
  refine k_kwait m K fr c 1 7 (dstw := ksSl 1) rfl (by decide) rfl ?_
  refine k_vwait m K fr c 1 7 (dstw := vsSl 1) rfl (by decide) rfl ?_
  refine ld_ks m K fr c 1 7 rfl ?_
  refine ldx_kb m K fr c fun _ => ?_
  refine st_kb m K fr c 7 rfl rfl ?_
  refine ld_vs m K fr c 1 7 rfl ?_
  refine ldx_vb m K fr c fun _ => ?_
  refine st_vb m K fr c 7 rfl rfl ?_
  exact k_ret m K fr c hQ

end Cert.KernelIdeal.Hand
-- ==== Proof.Parts2.lean ====
/-
The parts of the kernel from the attention to the gather.
-/
module

public import proofs.«01_k».proof.Proof.Parts

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

/-- The state once the heads are in: what remains is the product, the two transfers and the result. -/
abbrev B (bw pl ph t1 w1 rd t2 go w2 ws ou : ℕ) : S :=
  ⟨16, bw, .full 6, .full 7, .full 6, .full 7, 8, 8, pl, ph, t1, w1, rd, t2, go, w2, ws, ou⟩

/-- The guard of a transfer with the device of number `w`. -/
abbrev gd (d : Dev nD) (w : BitVec 32) : BitVec 1 := Scalar.cmpi .ne (Scalar.extui (Scalar.cmpi .ne (V2 d) w)) 0#32

theorem site1 {s : S} (p : Dev nD) (hs : s.t1 = p.val) (hb : s.bw = 1) (hw : s.ws = 0) (hP : s.pS (blkOf p) = 1) {cnd : BitVec 1}
    (hc : Iff (cnd = 1#1) (c ≠ p)) {dv : cnd = 1#1 → Dev nD} (hd : ∀ h, dv h = p)
    {o1 : Fin 1 → ℕ} (h1 : o1 = ![c.val]) {i1 : cnd = 1#1 → ∀ a, o1 a + S1.size a ≤ S16.size a}
    {o2 : Fin 3 → ℕ} (h2 : o2 = ![c.val, 0, 0]) {i2 : cnd = 1#1 → ∀ a, o2 a + S1x32x1024.size a ≤ S16x32x1024.size a}
    {sS : DmaSem sig} (hsS : sS = fS 0 p)
    {hsc : ∀ h, ((rsM.slice (Rect.unit (s := S16x32x1024) o2 S1x32x1024.size (i2 h)) (fun _ => rfl)).squeeze S32x1024 squeezes_S1x32x1024_S32x1024).view.ref.isScScratch = false}
    {g1 : ∀ h : cnd = 1#1, (ptRow p).view.WordExact} {g2 : ∀ h, ((rsM.slice (Rect.unit (s := S16x32x1024) o2 S1x32x1024.size (i2 h)) (fun _ => rfl)).squeeze S32x1024 squeezes_S1x32x1024_S32x1024).view.WordExact}
    {g3 : ∀ h, DmaTarget.Typed .vmem (.dma ((cc0_scratch11.slice (Rect.unit (s := S16) o1 S1.size (i1 h))).squeeze S_ squeezes_S1_S_).sem) (.remote (Dev.tc (dv h) : Thread nD τ) ((rsM.slice (Rect.unit (s := S16x32x1024) o2 S1x32x1024.size (i2 h)) (fun _ => rfl)).squeeze S32x1024 squeezes_S1x32x1024_S32x1024) (.dma sS) (hsc h))}
    {α : Type} {jp : PUnit.{1} → Prog (TpuEff nD τ sig (Elt F) Λ₀ .tc) α} {Q : α → sProp 𝕄}
    (hk : St m K fr c { s with t1 := p.val + 1 } ⊢ Wp c (jp ⟨⟩) Q) :
    St m K fr c s ⊢ Wp c (if h : cnd = 1#1 then
        (Prog.lift (.enqueueDma (ptRow p) (.remote (Dev.tc (dv h) : Thread nD τ)
          ((rsM.slice (Rect.unit (s := S16x32x1024) o2 S1x32x1024.size (i2 h)) (fun _ => rfl)).squeeze S32x1024 squeezes_S1x32x1024_S32x1024)
          (.dma sS) (hsc h)) (.dma ((cc0_scratch11.slice (Rect.unit (s := S16) o1 S1.size (i1 h))).squeeze S_ squeezes_S1_S_).sem) (g1 h) (g2 h) (g3 h))
          >>= fun _ => jp ⟨⟩)
      else jp ⟨⟩) Q := by
  subst h1 h2
  exact k_send1 m K fr c p hs hb hw hP hc hd (src := fun _ => ptRow p) (fun _ => rfl) (dst := fun _ => rsSl c) (fun _ => rfl)
    (sS := fun _ => sS) (fun _ => hsS) (sm := fun h => ((cc0_scratch11.slice (Rect.unit (s := S16) ![c.val] S1.size (i1 h))).squeeze S_ squeezes_S1_S_).sem)
    (fun h => by generalize i1 h = z; clear * -; revert z; revert c; decide) hk

theorem site2 {s : S} (p : Dev nD) (hs : s.t2 = p.val) (hb : s.bw = 1) (hw : s.ws = 0) (hP : s.rd = 1) {cnd : BitVec 1}
    (hc : Iff (cnd = 1#1) (c ≠ p)) {dv : cnd = 1#1 → Dev nD} (hd : ∀ h, dv h = p)
    {o1 : Fin 1 → ℕ} (h1 : o1 = ![c.val]) {i1 : cnd = 1#1 → ∀ a, o1 a + S1.size a ≤ S16.size a}
    {o2 : Fin 2 → ℕ} (h2 : o2 = ![32 * c.val, 0]) {i2 : cnd = 1#1 → ∀ a, o2 a + S32x1024.size a ≤ S512x1024.size a}
    {sS : DmaSem sig} (hsS : sS = fS 2 p)
    {hsc : ∀ h, (agM.slice (Rect.unit (s := S512x1024) o2 S32x1024.size (i2 h)) (fun _ => rfl)).view.ref.isScScratch = false}
    {g1 : ∀ h : cnd = 1#1, rdM.view.WordExact} {g2 : ∀ h, (agM.slice (Rect.unit (s := S512x1024) o2 S32x1024.size (i2 h)) (fun _ => rfl)).view.WordExact}
    {g3 : ∀ h, DmaTarget.Typed .vmem (.dma ((cc0_scratch13.slice (Rect.unit (s := S16) o1 S1.size (i1 h))).squeeze S_ squeezes_S1_S_).sem) (.remote (Dev.tc (dv h) : Thread nD τ) (agM.slice (Rect.unit (s := S512x1024) o2 S32x1024.size (i2 h)) (fun _ => rfl)) (.dma sS) (hsc h))}
    {α : Type} {jp : PUnit.{1} → Prog (TpuEff nD τ sig (Elt F) Λ₀ .tc) α} {Q : α → sProp 𝕄}
    (hk : St m K fr c { s with t2 := p.val + 1 } ⊢ Wp c (jp ⟨⟩) Q) :
    St m K fr c s ⊢ Wp c (if h : cnd = 1#1 then
        (Prog.lift (.enqueueDma rdM (.remote (Dev.tc (dv h) : Thread nD τ)
          (agM.slice (Rect.unit (s := S512x1024) o2 S32x1024.size (i2 h)) (fun _ => rfl))
          (.dma sS) (hsc h)) (.dma ((cc0_scratch13.slice (Rect.unit (s := S16) o1 S1.size (i1 h))).squeeze S_ squeezes_S1_S_).sem) (g1 h) (g2 h) (g3 h))
          >>= fun _ => jp ⟨⟩)
      else jp ⟨⟩) Q := by
  subst h1 h2
  exact k_send2 m K fr c p hs hb hw hP hc hd (src := fun _ => rdM) (fun _ => rfl) (dst := fun _ => agRow c) (fun _ => rfl)
    (sS := fun _ => sS) (fun _ => hsS) (sm := fun h => ((cc0_scratch13.slice (Rect.unit (s := S16) ![c.val] S1.size (i1 h))).squeeze S_ squeezes_S1_S_).sem)
    (fun h => by generalize i1 h = z; clear * -; revert z; revert c; decide) hk

theorem part15 {Q : (Σ' (x0 : FVec F S256x128 .bf16) (x1 : FVec F S256x128 .bf16), FVec F S256x128 .bf16) → sProp 𝕄} (hQ : St m K fr c (B 0 0 0 0 0 0 0 0 0 0 0) ⊢ Q ⟨(k0_pay22 (k0_pay21 (q73 m c)) (kbLd m c 0) (vbLd m c 0)), (k0_pay23 (q73 m c) (kbLd m c 1) (vbLd m c 1)), (k0_pay24 (q73 m c) (kbLd m c 2) (vbLd m c 2))⟩) :
    St m K fr c (B 0 0 0 0 0 0 0 0 0 0 0) ⊢ Wp c (onArgs (k0_part15 (F := F)) (q73 m c) (k0_pay21 (q73 m c))) Q := by
  rw [k0_part15_eq_skeleton]
  unfold onArgs k0_part15_skel
  refine ld_kb m K fr c 0 rfl ?_
  refine ld_vb m K fr c 0 rfl ?_
  refine ld_kb m K fr c 1 rfl ?_
  refine ld_vb m K fr c 1 rfl ?_
  refine ld_kb m K fr c 2 rfl ?_
  refine ld_vb m K fr c 2 rfl ?_
  exact k_ret m K fr c hQ

theorem part16 {Q : (Σ' (x0 : FVec F S256x128 .bf16) (x1 : FVec F S256x128 .bf16) (x2 : FVec F S256x256 .f32), FVec F S256x128 .f32) → sProp 𝕄} (hQ : St m K fr c (B 0 0 0 0 0 0 0 0 0 0 0) ⊢ Q ⟨(k0_pay25 (q73 m c) (kbLd m c 3) (vbLd m c 3)), (k0_pay26 (q73 m c) (kbLd m c 4) (vbLd m c 4)), (k0_pay27 (q73 m c) (kbLd m c 5) (vbLd m c 5)), (k0_pay28 (q73 m c) (kbLd m c 5) (vbLd m c 5))⟩) :
    St m K fr c (B 0 0 0 0 0 0 0 0 0 0 0) ⊢ Wp c (onArgs (k0_part16 (F := F)) (q73 m c)) Q := by
  rw [k0_part16_eq_skeleton]
  unfold onArgs k0_part16_skel
  refine ld_kb m K fr c 3 rfl ?_
  refine ld_vb m K fr c 3 rfl ?_
  refine ld_kb m K fr c 4 rfl ?_
  refine ld_vb m K fr c 4 rfl ?_
  refine ld_kb m K fr c 5 rfl ?_
  refine ld_vb m K fr c 5 rfl ?_
  exact k_ret m K fr c hQ

theorem part17 {Q : BitVec 1 → sProp 𝕄} (hQ : St m K fr c (B 1 1 0 0 0 0 0 0 0 0 0) ⊢ Q (Scalar.cmpi .ne (V2 c) 0#32)) :
    St m K fr c (B 0 0 0 0 0 0 0 0 0 0 0) ⊢ Wp c (onArgs (k0_part17 (F := F)) (V2 c) (SemArray.scalar (sig.barrier 0 rfl)) (q73 m c) (w76 m c) (k0_pay22 (k0_pay21 (q73 m c)) (kbLd m c 0) (vbLd m c 0)) (k0_pay23 (q73 m c) (kbLd m c 1) (vbLd m c 1)) (k0_pay24 (q73 m c) (kbLd m c 2) (vbLd m c 2)) (k0_pay25 (q73 m c) (kbLd m c 3) (vbLd m c 3)) (k0_pay26 (q73 m c) (kbLd m c 4) (vbLd m c 4)) (k0_pay27 (q73 m c) (kbLd m c 5) (vbLd m c 5)) (k0_pay28 (q73 m c) (kbLd m c 5) (vbLd m c 5))) Q := by
  rw [k0_part17_eq_skeleton]
  unfold onArgs k0_part17_skel
  refine ld_kb m K fr c 6 rfl ?_
  refine ld_vb m K fr c 6 rfl ?_
  refine ld_kb m K fr c 7 rfl ?_
  refine ld_vb m K fr c 7 rfl ?_
  refine ldx_pt m K fr c 0 rfl (fun _ => ?_)
  refine st_pt m K fr c 0 rfl (by decide) (if_pos rfl).symm ?_
  refine k_barrier m K fr c rfl rfl rfl rfl rfl ?_
  exact k_ret m K fr c hQ

theorem part18 {Q : (Σ' (x0 : FVec F S256x2048 .bf16), Vec F S1x2048x256 .bf16) → sProp 𝕄} (hQ : St m K fr c (B 1 1 0 8 0 0 0 0 0 0 0) ⊢ Q ⟨(k0_pay30 (q73 m c) (kbLd m c 0)), vbLd m c 0⟩) :
    St m K fr c (B 1 1 0 0 0 0 0 0 0 0 0) ⊢ Wp c (onArgs (k0_part18 (F := F)) c (V2 c) (q73 m c) (Scalar.cmpi .ne (V2 c) 0#32)) Q := by
  rw [k0_part18_eq_skeleton]
  unfold onArgs k0_part18_skel
  refine site1 m K fr c 0 rfl rfl rfl rfl ((by decide : ∀ d, Iff (k0_cond17 d = 1#1) (d ≠ 0)) c) (jp := fun _ => _) (dv := fun h => ⟨k0_dev17, k0_dev17_lt c h⟩) (fun _ => rfl)
    ((by decide : ∀ d, k0_off1 d = ![d.val]) c) ((by decide : ∀ d, k0_off2 d = ![d.val, 0, 0]) c) rfl ?_
  refine site1 m K fr c 1 rfl rfl rfl rfl ((by decide : ∀ d, Iff (k0_cond18 d = 1#1) (d ≠ 1)) c) (jp := fun _ => _) (dv := fun h => ⟨k0_dev18, k0_dev18_lt c h⟩) (fun _ => rfl)
    ((by decide : ∀ d, k0_off3 d = ![d.val]) c) ((by decide : ∀ d, k0_off4 d = ![d.val, 0, 0]) c) rfl ?_
  refine site1 m K fr c 2 rfl rfl rfl rfl ((by decide : ∀ d, Iff (k0_cond19 d = 1#1) (d ≠ 2)) c) (jp := fun _ => _) (dv := fun h => ⟨k0_dev19, k0_dev19_lt c h⟩) (fun _ => rfl)
    ((by decide : ∀ d, k0_off5 d = ![d.val]) c) ((by decide : ∀ d, k0_off6 d = ![d.val, 0, 0]) c) rfl ?_
  refine site1 m K fr c 3 rfl rfl rfl rfl ((by decide : ∀ d, Iff (k0_cond20 d = 1#1) (d ≠ 3)) c) (jp := fun _ => _) (dv := fun h => ⟨k0_dev20, k0_dev20_lt c h⟩) (fun _ => rfl)
    ((by decide : ∀ d, k0_off7 d = ![d.val]) c) ((by decide : ∀ d, k0_off8 d = ![d.val, 0, 0]) c) rfl ?_
  refine site1 m K fr c 4 rfl rfl rfl rfl ((by decide : ∀ d, Iff (k0_cond21 d = 1#1) (d ≠ 4)) c) (jp := fun _ => _) (dv := fun h => ⟨k0_dev21, k0_dev21_lt c h⟩) (fun _ => rfl)
    ((by decide : ∀ d, k0_off9 d = ![d.val]) c) ((by decide : ∀ d, k0_off10 d = ![d.val, 0, 0]) c) rfl ?_
  refine site1 m K fr c 5 rfl rfl rfl rfl ((by decide : ∀ d, Iff (k0_cond22 d = 1#1) (d ≠ 5)) c) (jp := fun _ => _) (dv := fun h => ⟨k0_dev22, k0_dev22_lt c h⟩) (fun _ => rfl)
    ((by decide : ∀ d, k0_off11 d = ![d.val]) c) ((by decide : ∀ d, k0_off12 d = ![d.val, 0, 0]) c) rfl ?_
  refine site1 m K fr c 6 rfl rfl rfl rfl ((by decide : ∀ d, Iff (k0_cond23 d = 1#1) (d ≠ 6)) c) (jp := fun _ => _) (dv := fun h => ⟨k0_dev23, k0_dev23_lt c h⟩) (fun _ => rfl)
    ((by decide : ∀ d, k0_off13 d = ![d.val]) c) ((by decide : ∀ d, k0_off14 d = ![d.val, 0, 0]) c) rfl ?_
  refine site1 m K fr c 7 rfl rfl rfl rfl ((by decide : ∀ d, Iff (k0_cond24 d = 1#1) (d ≠ 7)) c) (jp := fun _ => _) (dv := fun h => ⟨k0_dev24, k0_dev24_lt c h⟩) (fun _ => rfl)
    ((by decide : ∀ d, k0_off15 d = ![d.val]) c) ((by decide : ∀ d, k0_off16 d = ![d.val, 0, 0]) c) rfl ?_
  refine ld_kb m K fr c 0 rfl ?_
  refine ld_vb m K fr c 0 rfl ?_
  exact k_ret m K fr c hQ

theorem part19 {Q : (Σ' (x0 : FVec F S256x128 .bf16) (x1 : FVec F S256x128 .bf16) (x2 : FVec F S256x128 .bf16), FVec F S256x2048 .bf16) → sProp 𝕄} (hQ : St m K fr c (B 1 1 0 8 0 0 0 0 0 0 0) ⊢ Q ⟨(k0_pay31 (k0_pay30 (q73 m c) (kbLd m c 0)) (vbLd m c 0)), (k0_pay32 (q73 m c) (kbLd m c 1) (vbLd m c 1)), (k0_pay33 (q73 m c) (kbLd m c 2) (vbLd m c 2)), (k0_pay34 (q73 m c) (kbLd m c 3))⟩) :
    St m K fr c (B 1 1 0 8 0 0 0 0 0 0 0) ⊢ Wp c (onArgs (k0_part19 (F := F)) (q73 m c) (k0_pay30 (q73 m c) (kbLd m c 0)) (vbLd m c 0)) Q := by
  rw [k0_part19_eq_skeleton]
  unfold onArgs k0_part19_skel
  refine ld_kb m K fr c 1 rfl ?_
  refine ld_vb m K fr c 1 rfl ?_
  refine ld_kb m K fr c 2 rfl ?_
  refine ld_vb m K fr c 2 rfl ?_
  refine ld_kb m K fr c 3 rfl ?_
  exact k_ret m K fr c hQ

theorem part20 {Q : (Σ' (x0 : FVec F S256x128 .bf16) (x1 : FVec F S256x128 .bf16) (x2 : FVec F S256x128 .bf16), FVec F S256x2048 .f32) → sProp 𝕄} (hQ : St m K fr c (B 1 1 0 8 0 0 0 0 0 0 0) ⊢ Q ⟨(k0_pay35 (k0_pay34 (q73 m c) (kbLd m c 3)) (vbLd m c 3)), (k0_pay36 (q73 m c) (kbLd m c 4) (vbLd m c 4)), (k0_pay37 (q73 m c) (kbLd m c 5) (vbLd m c 5)), (k0_pay38 (q73 m c) (kbLd m c 6))⟩) :
    St m K fr c (B 1 1 0 8 0 0 0 0 0 0 0) ⊢ Wp c (onArgs (k0_part20 (F := F)) (q73 m c) (k0_pay34 (q73 m c) (kbLd m c 3))) Q := by
  rw [k0_part20_eq_skeleton]
  unfold onArgs k0_part20_skel
  refine ld_vb m K fr c 3 rfl ?_
  refine ld_kb m K fr c 4 rfl ?_
  refine ld_vb m K fr c 4 rfl ?_
  refine ld_kb m K fr c 5 rfl ?_
  refine ld_vb m K fr c 5 rfl ?_
  refine ld_kb m K fr c 6 rfl ?_
  exact k_ret m K fr c hQ

theorem part21 {Q : (Σ' (x0 : BitVec 32), BitVec 32) → sProp 𝕄} (hQ : St m K fr c (B 1 1 1 10 0 0 0 0 0 0 0) ⊢ Q ⟨Scalar.extui (Scalar.cmpi .ne (V2 c) 10#32), 0#32⟩) :
    St m K fr c (B 1 1 0 8 0 0 0 0 0 0 0) ⊢ Wp c (onArgs (k0_part21 (F := F)) c (V2 c) (q73 m c) (w76 m c) (k0_pay31 (k0_pay30 (q73 m c) (kbLd m c 0)) (vbLd m c 0)) (k0_pay32 (q73 m c) (kbLd m c 1) (vbLd m c 1)) (k0_pay33 (q73 m c) (kbLd m c 2) (vbLd m c 2)) (k0_pay35 (k0_pay34 (q73 m c) (kbLd m c 3)) (vbLd m c 3)) (k0_pay36 (q73 m c) (kbLd m c 4) (vbLd m c 4)) (k0_pay37 (q73 m c) (kbLd m c 5) (vbLd m c 5)) (k0_pay38 (q73 m c) (kbLd m c 6))) Q := by
  rw [k0_part21_eq_skeleton]
  unfold onArgs k0_part21_skel
  refine ld_vb m K fr c 6 rfl ?_
  refine ld_kb m K fr c 7 rfl ?_
  refine ld_vb m K fr c 7 rfl ?_
  refine ldx_pt m K fr c 1 rfl (fun _ => ?_)
  refine st_pt m K fr c 1 rfl (by decide) (if_neg (by decide)).symm ?_
  refine site1 m K fr c 8 rfl rfl rfl rfl ((by decide : ∀ d, Iff (k0_cond25 d = 1#1) (d ≠ 8)) c) (jp := fun _ => _) (dv := fun h => ⟨k0_dev25, k0_dev25_lt c h⟩) (fun _ => rfl)
    ((by decide : ∀ d, k0_off17 d = ![d.val]) c) ((by decide : ∀ d, k0_off18 d = ![d.val, 0, 0]) c) rfl ?_
  refine site1 m K fr c 9 rfl rfl rfl rfl ((by decide : ∀ d, Iff (k0_cond26 d = 1#1) (d ≠ 9)) c) (jp := fun _ => _) (dv := fun h => ⟨k0_dev26, k0_dev26_lt c h⟩) (fun _ => rfl)
    ((by decide : ∀ d, k0_off19 d = ![d.val]) c) ((by decide : ∀ d, k0_off20 d = ![d.val, 0, 0]) c) rfl ?_
  exact k_ret m K fr c hQ

theorem part22 {Q : (Σ' (x0 : BitVec 32), BitVec 32) → sProp 𝕄} (hQ : St m K fr c (B 1 1 1 16 4 0 0 0 0 0 0) ⊢ Q ⟨(Scalar.extui (Scalar.cmpi .ne (V2 c) 4#32)), 0#32⟩) :
    St m K fr c (B 1 1 1 10 0 0 0 0 0 0 0) ⊢ Wp c (onArgs (k0_part22 (F := F)) c (V2 c) (Scalar.extui (Scalar.cmpi .ne (V2 c) 10#32)) 0#32) Q := by
  rw [k0_part22_eq_skeleton]
  unfold onArgs k0_part22_skel
  refine site1 m K fr c 10 rfl rfl rfl rfl ((by decide : ∀ d, Iff (k0_cond27 d = 1#1) (d ≠ 10)) c) (jp := fun _ => _) (dv := fun h => ⟨k0_dev27, k0_dev27_lt c h⟩) (fun _ => rfl)
    ((by decide : ∀ d, k0_off21 d = ![d.val]) c) ((by decide : ∀ d, k0_off22 d = ![d.val, 0, 0]) c) rfl ?_
  refine site1 m K fr c 11 rfl rfl rfl rfl ((by decide : ∀ d, Iff (k0_cond28 d = 1#1) (d ≠ 11)) c) (jp := fun _ => _) (dv := fun h => ⟨k0_dev28, k0_dev28_lt c h⟩) (fun _ => rfl)
    ((by decide : ∀ d, k0_off23 d = ![d.val]) c) ((by decide : ∀ d, k0_off24 d = ![d.val, 0, 0]) c) rfl ?_
  refine site1 m K fr c 12 rfl rfl rfl rfl ((by decide : ∀ d, Iff (k0_cond29 d = 1#1) (d ≠ 12)) c) (jp := fun _ => _) (dv := fun h => ⟨k0_dev29, k0_dev29_lt c h⟩) (fun _ => rfl)
    ((by decide : ∀ d, k0_off25 d = ![d.val]) c) ((by decide : ∀ d, k0_off26 d = ![d.val, 0, 0]) c) rfl ?_
  refine site1 m K fr c 13 rfl rfl rfl rfl ((by decide : ∀ d, Iff (k0_cond30 d = 1#1) (d ≠ 13)) c) (jp := fun _ => _) (dv := fun h => ⟨k0_dev30, k0_dev30_lt c h⟩) (fun _ => rfl)
    ((by decide : ∀ d, k0_off27 d = ![d.val]) c) ((by decide : ∀ d, k0_off28 d = ![d.val, 0, 0]) c) rfl ?_
  refine site1 m K fr c 14 rfl rfl rfl rfl ((by decide : ∀ d, Iff (k0_cond31 d = 1#1) (d ≠ 14)) c) (jp := fun _ => _) (dv := fun h => ⟨k0_dev31, k0_dev31_lt c h⟩) (fun _ => rfl)
    ((by decide : ∀ d, k0_off29 d = ![d.val]) c) ((by decide : ∀ d, k0_off30 d = ![d.val, 0, 0]) c) rfl ?_
  refine site1 m K fr c 15 rfl rfl rfl rfl ((by decide : ∀ d, Iff (k0_cond32 d = 1#1) (d ≠ 15)) c) (jp := fun _ => _) (dv := fun h => ⟨k0_dev32, k0_dev32_lt c h⟩) (fun _ => rfl)
    ((by decide : ∀ d, k0_off31 d = ![d.val]) c) ((by decide : ∀ d, k0_off32 d = ![d.val, 0, 0]) c) rfl ?_
  refine k_recv1 m K fr c 0 rfl rfl rfl ((by decide : ∀ d, Iff (gd d 0#32 = 1#1) (d ≠ 0)) c) (jp := fun _ => _) (sem := fun _ => fS 1 0) (fun _ => rfl) (dstw := fun _ => rsSl 0) (fun _ => rfl) ?_
  refine k_recv1 m K fr c 1 rfl rfl rfl ((by decide : ∀ d, Iff (gd d 1#32 = 1#1) (d ≠ 1)) c) (jp := fun _ => _) (sem := fun _ => fS 1 1) (fun _ => rfl) (dstw := fun _ => rsSl 1) (fun _ => rfl) ?_
  refine k_recv1 m K fr c 2 rfl rfl rfl ((by decide : ∀ d, Iff (gd d 2#32 = 1#1) (d ≠ 2)) c) (jp := fun _ => _) (sem := fun _ => fS 1 2) (fun _ => rfl) (dstw := fun _ => rsSl 2) (fun _ => rfl) ?_
  refine k_recv1 m K fr c 3 rfl rfl rfl ((by decide : ∀ d, Iff (gd d 3#32 = 1#1) (d ≠ 3)) c) (jp := fun _ => _) (sem := fun _ => fS 1 3) (fun _ => rfl) (dstw := fun _ => rsSl 3) (fun _ => rfl) ?_
  exact k_ret m K fr c hQ

theorem part23 {Q : (Σ' (x0 : BitVec 32), BitVec 32) → sProp 𝕄} (hQ : St m K fr c (B 1 1 1 16 14 0 0 0 0 0 0) ⊢ Q ⟨(Scalar.extui (Scalar.cmpi .ne (V2 c) 14#32)), 0#32⟩) :
    St m K fr c (B 1 1 1 16 4 0 0 0 0 0 0) ⊢ Wp c (onArgs (k0_part23 (F := F)) (V2 c) (Scalar.extui (Scalar.cmpi .ne (V2 c) 4#32)) 0#32) Q := by
  rw [k0_part23_eq_skeleton]
  unfold onArgs k0_part23_skel
  refine k_recv1 m K fr c 4 rfl rfl rfl ((by decide : ∀ d, Iff (gd d 4#32 = 1#1) (d ≠ 4)) c) (jp := fun _ => _) (sem := fun _ => fS 1 4) (fun _ => rfl) (dstw := fun _ => rsSl 4) (fun _ => rfl) ?_
  refine k_recv1 m K fr c 5 rfl rfl rfl ((by decide : ∀ d, Iff (gd d 5#32 = 1#1) (d ≠ 5)) c) (jp := fun _ => _) (sem := fun _ => fS 1 5) (fun _ => rfl) (dstw := fun _ => rsSl 5) (fun _ => rfl) ?_
  refine k_recv1 m K fr c 6 rfl rfl rfl ((by decide : ∀ d, Iff (gd d 6#32 = 1#1) (d ≠ 6)) c) (jp := fun _ => _) (sem := fun _ => fS 1 6) (fun _ => rfl) (dstw := fun _ => rsSl 6) (fun _ => rfl) ?_
  refine k_recv1 m K fr c 7 rfl rfl rfl ((by decide : ∀ d, Iff (gd d 7#32 = 1#1) (d ≠ 7)) c) (jp := fun _ => _) (sem := fun _ => fS 1 7) (fun _ => rfl) (dstw := fun _ => rsSl 7) (fun _ => rfl) ?_
  refine k_recv1 m K fr c 8 rfl rfl rfl ((by decide : ∀ d, Iff (gd d 8#32 = 1#1) (d ≠ 8)) c) (jp := fun _ => _) (sem := fun _ => fS 1 8) (fun _ => rfl) (dstw := fun _ => rsSl 8) (fun _ => rfl) ?_
  refine k_recv1 m K fr c 9 rfl rfl rfl ((by decide : ∀ d, Iff (gd d 9#32 = 1#1) (d ≠ 9)) c) (jp := fun _ => _) (sem := fun _ => fS 1 9) (fun _ => rfl) (dstw := fun _ => rsSl 9) (fun _ => rfl) ?_
  refine k_recv1 m K fr c 10 rfl rfl rfl ((by decide : ∀ d, Iff (gd d 10#32 = 1#1) (d ≠ 10)) c) (jp := fun _ => _) (sem := fun _ => fS 1 10) (fun _ => rfl) (dstw := fun _ => rsSl 10) (fun _ => rfl) ?_
  refine k_recv1 m K fr c 11 rfl rfl rfl ((by decide : ∀ d, Iff (gd d 11#32 = 1#1) (d ≠ 11)) c) (jp := fun _ => _) (sem := fun _ => fS 1 11) (fun _ => rfl) (dstw := fun _ => rsSl 11) (fun _ => rfl) ?_
  refine k_recv1 m K fr c 12 rfl rfl rfl ((by decide : ∀ d, Iff (gd d 12#32 = 1#1) (d ≠ 12)) c) (jp := fun _ => _) (sem := fun _ => fS 1 12) (fun _ => rfl) (dstw := fun _ => rsSl 12) (fun _ => rfl) ?_
  refine k_recv1 m K fr c 13 rfl rfl rfl ((by decide : ∀ d, Iff (gd d 13#32 = 1#1) (d ≠ 13)) c) (jp := fun _ => _) (sem := fun _ => fS 1 13) (fun _ => rfl) (dstw := fun _ => rsSl 13) (fun _ => rfl) ?_
  exact k_ret m K fr c hQ

end Cert.KernelIdeal.Hand
-- ==== Proof.Parts3.lean ====
/-
The parts of the kernel from the sum over the devices to the end.
-/
module

public import proofs.«01_k».proof.Proof.Parts2

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

theorem part24 {Q : (Σ' (x0 : FVec F S32x1024 .f32) (x1 : BitVec 1) (x2 : FVec F S32x1024 .f32), FVec F S32x1024 .f32) → sProp 𝕄} (hQ : St m K fr c (B 1 1 1 16 16 0 0 0 0 0 0) ⊢ Q ⟨(sum40 c (ownLd m c) (rsLd m c fr)), (Scalar.cmpi .eq (V2 c) 3#32), (k0_pay41 (rsLd m c fr 3)), k0_pay42⟩) :
    St m K fr c (B 1 1 1 16 14 0 0 0 0 0 0) ⊢ Wp c (onArgs (k0_part24 (F := F)) c (V2 c) (Scalar.extui (Scalar.cmpi .ne (V2 c) 14#32)) 0#32) Q := by
  rw [k0_part24_eq_skeleton]
  unfold onArgs k0_part24_skel
  refine k_recv1 m K fr c 14 rfl rfl rfl ((by decide : ∀ d, Iff (gd d 14#32 = 1#1) (d ≠ 14)) c) (jp := fun _ => _) (sem := fun _ => fS 1 14) (fun _ => rfl) (dstw := fun _ => rsSl 14) (fun _ => rfl) ?_
  refine k_recv1 m K fr c 15 rfl rfl rfl ((by decide : ∀ d, Iff (gd d 15#32 = 1#1) (d ≠ 15)) c) (jp := fun _ => _) (sem := fun _ => fS 1 15) (fun _ => rfl) (dstw := fun _ => rsSl 15) (fun _ => rfl) ?_
  refine ld_own m K fr c rfl rfl ?_
  refine ld_rs m K fr c 0 rfl ?_
  refine ld_rs m K fr c 1 rfl ?_
  refine ld_rs m K fr c 2 rfl ?_
  refine ld_rs m K fr c 3 rfl ?_
  exact k_ret m K fr c hQ

theorem part25 {Q : (Σ' (x0 : FVec F S32x1024 .f32) (x1 : BitVec 1) (x2 : FVec F S32x1024 .f32), FVec F S32x1024 .f32) → sProp 𝕄} (hQ : St m K fr c (B 1 1 1 16 16 0 0 0 0 0 0) ⊢ Q ⟨(sum43 c (ownLd m c) (rsLd m c fr)), (Scalar.cmpi .eq (V2 c) 8#32), (k0_pay44 (rsLd m c fr 8)), k0_pay45⟩) :
    St m K fr c (B 1 1 1 16 16 0 0 0 0 0 0) ⊢ Wp c (onArgs (k0_part25 (F := F)) (V2 c) (sum40 c (ownLd m c) (rsLd m c fr)) (Scalar.cmpi .eq (V2 c) 3#32) (k0_pay41 (rsLd m c fr 3)) k0_pay42) Q := by
  rw [k0_part25_eq_skeleton]
  unfold onArgs k0_part25_skel
  refine ld_rs m K fr c 4 rfl ?_
  refine ld_rs m K fr c 5 rfl ?_
  refine ld_rs m K fr c 6 rfl ?_
  refine ld_rs m K fr c 7 rfl ?_
  refine ld_rs m K fr c 8 rfl ?_
  exact k_ret m K fr c hQ

theorem part26 {Q : (Σ' (x0 : FVec F S32x1024 .f32) (x1 : BitVec 1) (x2 : FVec F S32x1024 .f32), FVec F S32x1024 .f32) → sProp 𝕄} (hQ : St m K fr c (B 1 1 1 16 16 0 0 0 0 0 0) ⊢ Q ⟨(sum46 c (ownLd m c) (rsLd m c fr)), (Scalar.cmpi .eq (V2 c) 13#32), (k0_pay47 (rsLd m c fr 13)), k0_pay48⟩) :
    St m K fr c (B 1 1 1 16 16 0 0 0 0 0 0) ⊢ Wp c (onArgs (k0_part26 (F := F)) (V2 c) (sum43 c (ownLd m c) (rsLd m c fr)) (Scalar.cmpi .eq (V2 c) 8#32) (k0_pay44 (rsLd m c fr 8)) k0_pay45) Q := by
  rw [k0_part26_eq_skeleton]
  unfold onArgs k0_part26_skel
  refine ld_rs m K fr c 9 rfl ?_
  refine ld_rs m K fr c 10 rfl ?_
  refine ld_rs m K fr c 11 rfl ?_
  refine ld_rs m K fr c 12 rfl ?_
  refine ld_rs m K fr c 13 rfl ?_
  exact k_ret m K fr c hQ

theorem part27 {Q : BitVec 32 → sProp 𝕄} (hQ : St m K fr c (B 1 1 1 16 16 1 4 0 0 0 0) ⊢ Q (Scalar.extui (Scalar.cmpi .ne (V2 c) 4#32))) :
    St m K fr c (B 1 1 1 16 16 0 0 0 0 0 0) ⊢ Wp c (onArgs (k0_part27 (F := F)) c (V2 c) (sum46 c (ownLd m c) (rsLd m c fr)) (Scalar.cmpi .eq (V2 c) 13#32) (k0_pay47 (rsLd m c fr 13)) k0_pay48) Q := by
  rw [k0_part27_eq_skeleton]
  unfold onArgs k0_part27_skel
  refine ld_rs m K fr c 14 rfl ?_
  refine ld_rs m K fr c 15 rfl ?_
  refine ldx_rd m K fr c rfl (fun _ => ?_)
  refine st_rd m K fr c rfl rfl rfl ?_
  refine site2 m K fr c 0 rfl rfl rfl rfl ((by decide : ∀ d, Iff (k0_cond49 d = 1#1) (d ≠ 0)) c) (jp := fun _ => _) (dv := fun h => ⟨k0_dev33, k0_dev33_lt c h⟩) (fun _ => rfl)
    ((by decide : ∀ d, k0_off34 d = ![d.val]) c) ((by decide : ∀ d, k0_off35 d = ![32 * d.val, 0]) c) rfl ?_
  refine site2 m K fr c 1 rfl rfl rfl rfl ((by decide : ∀ d, Iff (k0_cond50 d = 1#1) (d ≠ 1)) c) (jp := fun _ => _) (dv := fun h => ⟨k0_dev34, k0_dev34_lt c h⟩) (fun _ => rfl)
    ((by decide : ∀ d, k0_off36 d = ![d.val]) c) ((by decide : ∀ d, k0_off37 d = ![32 * d.val, 0]) c) rfl ?_
  refine site2 m K fr c 2 rfl rfl rfl rfl ((by decide : ∀ d, Iff (k0_cond51 d = 1#1) (d ≠ 2)) c) (jp := fun _ => _) (dv := fun h => ⟨k0_dev35, k0_dev35_lt c h⟩) (fun _ => rfl)
    ((by decide : ∀ d, k0_off38 d = ![d.val]) c) ((by decide : ∀ d, k0_off39 d = ![32 * d.val, 0]) c) rfl ?_
  refine site2 m K fr c 3 rfl rfl rfl rfl ((by decide : ∀ d, Iff (k0_cond52 d = 1#1) (d ≠ 3)) c) (jp := fun _ => _) (dv := fun h => ⟨k0_dev36, k0_dev36_lt c h⟩) (fun _ => rfl)
    ((by decide : ∀ d, k0_off40 d = ![d.val]) c) ((by decide : ∀ d, k0_off41 d = ![32 * d.val, 0]) c) rfl ?_
  exact k_ret m K fr c hQ

theorem part28 {Q : BitVec 32 → sProp 𝕄} (hQ : St m K fr c (B 1 1 1 16 16 1 14 0 0 0 0) ⊢ Q (Scalar.extui (Scalar.cmpi .ne (V2 c) 14#32))) :
    St m K fr c (B 1 1 1 16 16 1 4 0 0 0 0) ⊢ Wp c (onArgs (k0_part28 (F := F)) c (V2 c) (Scalar.extui (Scalar.cmpi .ne (V2 c) 4#32))) Q := by
  rw [k0_part28_eq_skeleton]
  unfold onArgs k0_part28_skel
  refine site2 m K fr c 4 rfl rfl rfl rfl ((by decide : ∀ d, Iff (k0_cond53 d = 1#1) (d ≠ 4)) c) (jp := fun _ => _) (dv := fun h => ⟨k0_dev37, k0_dev37_lt c h⟩) (fun _ => rfl)
    ((by decide : ∀ d, k0_off42 d = ![d.val]) c) ((by decide : ∀ d, k0_off43 d = ![32 * d.val, 0]) c) rfl ?_
  refine site2 m K fr c 5 rfl rfl rfl rfl ((by decide : ∀ d, Iff (k0_cond54 d = 1#1) (d ≠ 5)) c) (jp := fun _ => _) (dv := fun h => ⟨k0_dev38, k0_dev38_lt c h⟩) (fun _ => rfl)
    ((by decide : ∀ d, k0_off44 d = ![d.val]) c) ((by decide : ∀ d, k0_off45 d = ![32 * d.val, 0]) c) rfl ?_
  refine site2 m K fr c 6 rfl rfl rfl rfl ((by decide : ∀ d, Iff (k0_cond55 d = 1#1) (d ≠ 6)) c) (jp := fun _ => _) (dv := fun h => ⟨k0_dev39, k0_dev39_lt c h⟩) (fun _ => rfl)
    ((by decide : ∀ d, k0_off46 d = ![d.val]) c) ((by decide : ∀ d, k0_off47 d = ![32 * d.val, 0]) c) rfl ?_
  refine site2 m K fr c 7 rfl rfl rfl rfl ((by decide : ∀ d, Iff (k0_cond56 d = 1#1) (d ≠ 7)) c) (jp := fun _ => _) (dv := fun h => ⟨k0_dev40, k0_dev40_lt c h⟩) (fun _ => rfl)
    ((by decide : ∀ d, k0_off48 d = ![d.val]) c) ((by decide : ∀ d, k0_off49 d = ![32 * d.val, 0]) c) rfl ?_
  refine site2 m K fr c 8 rfl rfl rfl rfl ((by decide : ∀ d, Iff (k0_cond57 d = 1#1) (d ≠ 8)) c) (jp := fun _ => _) (dv := fun h => ⟨k0_dev41, k0_dev41_lt c h⟩) (fun _ => rfl)
    ((by decide : ∀ d, k0_off50 d = ![d.val]) c) ((by decide : ∀ d, k0_off51 d = ![32 * d.val, 0]) c) rfl ?_
  refine site2 m K fr c 9 rfl rfl rfl rfl ((by decide : ∀ d, Iff (k0_cond58 d = 1#1) (d ≠ 9)) c) (jp := fun _ => _) (dv := fun h => ⟨k0_dev42, k0_dev42_lt c h⟩) (fun _ => rfl)
    ((by decide : ∀ d, k0_off52 d = ![d.val]) c) ((by decide : ∀ d, k0_off53 d = ![32 * d.val, 0]) c) rfl ?_
  refine site2 m K fr c 10 rfl rfl rfl rfl ((by decide : ∀ d, Iff (k0_cond59 d = 1#1) (d ≠ 10)) c) (jp := fun _ => _) (dv := fun h => ⟨k0_dev43, k0_dev43_lt c h⟩) (fun _ => rfl)
    ((by decide : ∀ d, k0_off54 d = ![d.val]) c) ((by decide : ∀ d, k0_off55 d = ![32 * d.val, 0]) c) rfl ?_
  refine site2 m K fr c 11 rfl rfl rfl rfl ((by decide : ∀ d, Iff (k0_cond60 d = 1#1) (d ≠ 11)) c) (jp := fun _ => _) (dv := fun h => ⟨k0_dev44, k0_dev44_lt c h⟩) (fun _ => rfl)
    ((by decide : ∀ d, k0_off56 d = ![d.val]) c) ((by decide : ∀ d, k0_off57 d = ![32 * d.val, 0]) c) rfl ?_
  refine site2 m K fr c 12 rfl rfl rfl rfl ((by decide : ∀ d, Iff (k0_cond61 d = 1#1) (d ≠ 12)) c) (jp := fun _ => _) (dv := fun h => ⟨k0_dev45, k0_dev45_lt c h⟩) (fun _ => rfl)
    ((by decide : ∀ d, k0_off58 d = ![d.val]) c) ((by decide : ∀ d, k0_off59 d = ![32 * d.val, 0]) c) rfl ?_
  refine site2 m K fr c 13 rfl rfl rfl rfl ((by decide : ∀ d, Iff (k0_cond62 d = 1#1) (d ≠ 13)) c) (jp := fun _ => _) (dv := fun h => ⟨k0_dev46, k0_dev46_lt c h⟩) (fun _ => rfl)
    ((by decide : ∀ d, k0_off60 d = ![d.val]) c) ((by decide : ∀ d, k0_off61 d = ![32 * d.val, 0]) c) rfl ?_
  exact k_ret m K fr c hQ

theorem pay50_eq (v : Vec F S32x1024 .bf16) : k0_pay50 v = v :=
  funext fun i => congrArg v (Shape.reshapeEquiv_self _ i)

theorem part29 {Q : (Σ' (x0 : BitVec 32), BitVec 32) → sProp 𝕄} (hQ : St m K fr c (B 1 1 1 16 16 1 16 1 6 0 0) ⊢ Q ⟨(Scalar.extui (Scalar.cmpi .ne (V2 c) 6#32)), 0#32⟩) :
    St m K fr c (B 1 1 1 16 16 1 14 0 0 0 0) ⊢ Wp c (onArgs (k0_part29 (F := F)) c (V2 c) (Scalar.extui (Scalar.cmpi .ne (V2 c) 14#32))) Q := by
  rw [k0_part29_eq_skeleton]
  unfold onArgs k0_part29_skel
  refine site2 m K fr c 14 rfl rfl rfl rfl ((by decide : ∀ d, Iff (k0_cond63 d = 1#1) (d ≠ 14)) c) (jp := fun _ => _) (dv := fun h => ⟨k0_dev47, k0_dev47_lt c h⟩) (fun _ => rfl)
    ((by decide : ∀ d, k0_off62 d = ![d.val]) c) ((by decide : ∀ d, k0_off63 d = ![32 * d.val, 0]) c) rfl ?_
  refine site2 m K fr c 15 rfl rfl rfl rfl ((by decide : ∀ d, Iff (k0_cond64 d = 1#1) (d ≠ 15)) c) (jp := fun _ => _) (dv := fun h => ⟨k0_dev48, k0_dev48_lt c h⟩) (fun _ => rfl)
    ((by decide : ∀ d, k0_off64 d = ![d.val]) c) ((by decide : ∀ d, k0_off65 d = ![32 * d.val, 0]) c) rfl ?_
  refine ld_rd m K fr c rfl ?_
  refine ldx_own m K fr c rfl (fun _ => ?_)
  refine st_own m K fr c rfl (pay50_eq _) ?_
  refine k_recv2 m K fr c 0 rfl rfl rfl rfl ((by decide : ∀ d, Iff (gd d 0#32 = 1#1) (d ≠ 0)) c) (jp := fun _ => _) (sem := fun _ => fS 3 0) (fun _ => rfl) (dstw := fun _ => agRow 0) (fun _ => rfl) ?_
  refine k_recv2 m K fr c 1 rfl rfl rfl rfl ((by decide : ∀ d, Iff (gd d 1#32 = 1#1) (d ≠ 1)) c) (jp := fun _ => _) (sem := fun _ => fS 3 1) (fun _ => rfl) (dstw := fun _ => agRow 1) (fun _ => rfl) ?_
  refine k_recv2 m K fr c 2 rfl rfl rfl rfl ((by decide : ∀ d, Iff (gd d 2#32 = 1#1) (d ≠ 2)) c) (jp := fun _ => _) (sem := fun _ => fS 3 2) (fun _ => rfl) (dstw := fun _ => agRow 2) (fun _ => rfl) ?_
  refine k_recv2 m K fr c 3 rfl rfl rfl rfl ((by decide : ∀ d, Iff (gd d 3#32 = 1#1) (d ≠ 3)) c) (jp := fun _ => _) (sem := fun _ => fS 3 3) (fun _ => rfl) (dstw := fun _ => agRow 3) (fun _ => rfl) ?_
  refine k_recv2 m K fr c 4 rfl rfl rfl rfl ((by decide : ∀ d, Iff (gd d 4#32 = 1#1) (d ≠ 4)) c) (jp := fun _ => _) (sem := fun _ => fS 3 4) (fun _ => rfl) (dstw := fun _ => agRow 4) (fun _ => rfl) ?_
  refine k_recv2 m K fr c 5 rfl rfl rfl rfl ((by decide : ∀ d, Iff (gd d 5#32 = 1#1) (d ≠ 5)) c) (jp := fun _ => _) (sem := fun _ => fS 3 5) (fun _ => rfl) (dstw := fun _ => agRow 5) (fun _ => rfl) ?_
  exact k_ret m K fr c hQ

theorem part30 {Q : FVec F S512x1024 .f32 → sProp 𝕄} (hQ : St m K fr c (B 1 1 1 16 16 1 16 1 16 0 0) ⊢ Q (k0_pay51 (agM.view.readAt (Elt F) (Rect.unit (s := S512x1024) ![0, 0] S512x1024.size inb_S512x1024_S512x1024_0_0).toLoadRect (AG m c)))) :
    St m K fr c (B 1 1 1 16 16 1 16 1 6 0 0) ⊢ Wp c (onArgs (k0_part30 (F := F)) (V2 c) (Scalar.extui (Scalar.cmpi .ne (V2 c) 6#32)) 0#32) Q := by
  rw [k0_part30_eq_skeleton]
  unfold onArgs k0_part30_skel
  refine k_recv2 m K fr c 6 rfl rfl rfl rfl ((by decide : ∀ d, Iff (gd d 6#32 = 1#1) (d ≠ 6)) c) (jp := fun _ => _) (sem := fun _ => fS 3 6) (fun _ => rfl) (dstw := fun _ => agRow 6) (fun _ => rfl) ?_
  refine k_recv2 m K fr c 7 rfl rfl rfl rfl ((by decide : ∀ d, Iff (gd d 7#32 = 1#1) (d ≠ 7)) c) (jp := fun _ => _) (sem := fun _ => fS 3 7) (fun _ => rfl) (dstw := fun _ => agRow 7) (fun _ => rfl) ?_
  refine k_recv2 m K fr c 8 rfl rfl rfl rfl ((by decide : ∀ d, Iff (gd d 8#32 = 1#1) (d ≠ 8)) c) (jp := fun _ => _) (sem := fun _ => fS 3 8) (fun _ => rfl) (dstw := fun _ => agRow 8) (fun _ => rfl) ?_
  refine k_recv2 m K fr c 9 rfl rfl rfl rfl ((by decide : ∀ d, Iff (gd d 9#32 = 1#1) (d ≠ 9)) c) (jp := fun _ => _) (sem := fun _ => fS 3 9) (fun _ => rfl) (dstw := fun _ => agRow 9) (fun _ => rfl) ?_
  refine k_recv2 m K fr c 10 rfl rfl rfl rfl ((by decide : ∀ d, Iff (gd d 10#32 = 1#1) (d ≠ 10)) c) (jp := fun _ => _) (sem := fun _ => fS 3 10) (fun _ => rfl) (dstw := fun _ => agRow 10) (fun _ => rfl) ?_
  refine k_recv2 m K fr c 11 rfl rfl rfl rfl ((by decide : ∀ d, Iff (gd d 11#32 = 1#1) (d ≠ 11)) c) (jp := fun _ => _) (sem := fun _ => fS 3 11) (fun _ => rfl) (dstw := fun _ => agRow 11) (fun _ => rfl) ?_
  refine k_recv2 m K fr c 12 rfl rfl rfl rfl ((by decide : ∀ d, Iff (gd d 12#32 = 1#1) (d ≠ 12)) c) (jp := fun _ => _) (sem := fun _ => fS 3 12) (fun _ => rfl) (dstw := fun _ => agRow 12) (fun _ => rfl) ?_
  refine k_recv2 m K fr c 13 rfl rfl rfl rfl ((by decide : ∀ d, Iff (gd d 13#32 = 1#1) (d ≠ 13)) c) (jp := fun _ => _) (sem := fun _ => fS 3 13) (fun _ => rfl) (dstw := fun _ => agRow 13) (fun _ => rfl) ?_
  refine k_recv2 m K fr c 14 rfl rfl rfl rfl ((by decide : ∀ d, Iff (gd d 14#32 = 1#1) (d ≠ 14)) c) (jp := fun _ => _) (sem := fun _ => fS 3 14) (fun _ => rfl) (dstw := fun _ => agRow 14) (fun _ => rfl) ?_
  refine k_recv2 m K fr c 15 rfl rfl rfl rfl ((by decide : ∀ d, Iff (gd d 15#32 = 1#1) (d ≠ 15)) c) (jp := fun _ => _) (sem := fun _ => fS 3 15) (fun _ => rfl) (dstw := fun _ => agRow 15) (fun _ => rfl) ?_
  refine ld_ag m K fr c rfl rfl ?_
  exact k_ret m K fr c hQ

theorem part31 {Q : BitVec 1 → sProp 𝕄} (hQ : St m K fr c (B 1 1 1 16 16 1 16 1 16 8 1) ⊢ Q (gd c 8#32)) :
    St m K fr c (B 1 1 1 16 16 1 16 1 16 0 0) ⊢ Wp c (onArgs (k0_part31 (F := F)) (V2 c) (k0_pay51 (agM.view.readAt (Elt F) (Rect.unit (s := S512x1024) ![0, 0] S512x1024.size inb_S512x1024_S512x1024_0_0).toLoadRect (AG m c)))) Q := by
  rw [k0_part31_eq_skeleton]
  unfold onArgs k0_part31_skel
  refine ldx_out m K fr c rfl (fun _ => ?_)
  refine st_out m K fr c rfl rfl ?_
  refine k_sent m K fr c 0 rfl rfl rfl rfl rfl rfl rfl ((by decide : ∀ d, Iff (gd d 0#32 = 1#1) (d ≠ 0)) c) (jp := fun _ => _) (sA := fun _ => fS 0 0) (fun _ => rfl) (sB := fun _ => fS 2 0) (fun _ => rfl)
    (dstA := fun _ => ptRow 0) (fun _ => rfl) (dstB := fun _ => rdM) (fun _ => rfl) ?_
  refine k_sent m K fr c 1 rfl rfl rfl rfl rfl rfl rfl ((by decide : ∀ d, Iff (gd d 1#32 = 1#1) (d ≠ 1)) c) (jp := fun _ => _) (sA := fun _ => fS 0 1) (fun _ => rfl) (sB := fun _ => fS 2 1) (fun _ => rfl)
    (dstA := fun _ => ptRow 1) (fun _ => rfl) (dstB := fun _ => rdM) (fun _ => rfl) ?_
  refine k_sent m K fr c 2 rfl rfl rfl rfl rfl rfl rfl ((by decide : ∀ d, Iff (gd d 2#32 = 1#1) (d ≠ 2)) c) (jp := fun _ => _) (sA := fun _ => fS 0 2) (fun _ => rfl) (sB := fun _ => fS 2 2) (fun _ => rfl)
    (dstA := fun _ => ptRow 2) (fun _ => rfl) (dstB := fun _ => rdM) (fun _ => rfl) ?_
  refine k_sent m K fr c 3 rfl rfl rfl rfl rfl rfl rfl ((by decide : ∀ d, Iff (gd d 3#32 = 1#1) (d ≠ 3)) c) (jp := fun _ => _) (sA := fun _ => fS 0 3) (fun _ => rfl) (sB := fun _ => fS 2 3) (fun _ => rfl)
    (dstA := fun _ => ptRow 3) (fun _ => rfl) (dstB := fun _ => rdM) (fun _ => rfl) ?_
  refine k_sent m K fr c 4 rfl rfl rfl rfl rfl rfl rfl ((by decide : ∀ d, Iff (gd d 4#32 = 1#1) (d ≠ 4)) c) (jp := fun _ => _) (sA := fun _ => fS 0 4) (fun _ => rfl) (sB := fun _ => fS 2 4) (fun _ => rfl)
    (dstA := fun _ => ptRow 4) (fun _ => rfl) (dstB := fun _ => rdM) (fun _ => rfl) ?_
  refine k_sent m K fr c 5 rfl rfl rfl rfl rfl rfl rfl ((by decide : ∀ d, Iff (gd d 5#32 = 1#1) (d ≠ 5)) c) (jp := fun _ => _) (sA := fun _ => fS 0 5) (fun _ => rfl) (sB := fun _ => fS 2 5) (fun _ => rfl)
    (dstA := fun _ => ptRow 5) (fun _ => rfl) (dstB := fun _ => rdM) (fun _ => rfl) ?_
  refine k_sent m K fr c 6 rfl rfl rfl rfl rfl rfl rfl ((by decide : ∀ d, Iff (gd d 6#32 = 1#1) (d ≠ 6)) c) (jp := fun _ => _) (sA := fun _ => fS 0 6) (fun _ => rfl) (sB := fun _ => fS 2 6) (fun _ => rfl)
    (dstA := fun _ => ptRow 6) (fun _ => rfl) (dstB := fun _ => rdM) (fun _ => rfl) ?_
  refine k_sent m K fr c 7 rfl rfl rfl rfl rfl rfl rfl ((by decide : ∀ d, Iff (gd d 7#32 = 1#1) (d ≠ 7)) c) (jp := fun _ => _) (sA := fun _ => fS 0 7) (fun _ => rfl) (sB := fun _ => fS 2 7) (fun _ => rfl)
    (dstA := fun _ => ptRow 7) (fun _ => rfl) (dstB := fun _ => rdM) (fun _ => rfl) ?_
  exact k_ret m K fr c hQ

theorem part32 {Q : (Σ' (x0 : BitVec 32) (x1 : BitVec 32), BitVec 32) → sProp 𝕄} (hQ : St m K fr c (B 1 1 1 16 16 1 16 1 16 13 1) ⊢ Q ⟨V2 c, (Scalar.extui (Scalar.cmpi .ne (V2 c) 13#32)), 0#32⟩) :
    St m K fr c (A 0 .idle .idle .idle .idle 0 0) ⊢ Wp c (onArgs (k0_part32 (F := F))) Q := by
  rw [k0_part32_eq_skeleton]
  unfold onArgs k0_part32_skel
  refine k_bind m K fr c (part1 m K fr c ?_)
  refine k_bind m K fr c (part2 m K fr c ?_)
  refine k_bind m K fr c (part3 m K fr c ?_)
  refine k_bind m K fr c (part4 m K fr c ?_)
  refine k_bind m K fr c (part5 m K fr c ?_)
  refine k_bind m K fr c (part6 m K fr c ?_)
  refine k_bind m K fr c (part7 m K fr c ?_)
  refine k_bind m K fr c (part8 m K fr c ?_)
  refine k_bind m K fr c (part9 m K fr c ?_)
  refine k_bind m K fr c (part10 m K fr c ?_)
  refine k_bind m K fr c (part11 m K fr c ?_)
  refine k_bind m K fr c (part12 m K fr c ?_)
  refine k_bind m K fr c (part13 m K fr c ?_)
  refine k_bind m K fr c (part14 m K fr c ?_)
  refine k_bind m K fr c (part15 m K fr c ?_)
  refine k_bind m K fr c (part16 m K fr c ?_)
  refine k_bind m K fr c (part17 m K fr c ?_)
  refine k_bind m K fr c (part18 m K fr c ?_)
  refine k_bind m K fr c (part19 m K fr c ?_)
  refine k_bind m K fr c (part20 m K fr c ?_)
  refine k_bind m K fr c (part21 m K fr c ?_)
  refine k_bind m K fr c (part22 m K fr c ?_)
  refine k_bind m K fr c (part23 m K fr c ?_)
  refine k_bind m K fr c (part24 m K fr c ?_)
  refine k_bind m K fr c (part25 m K fr c ?_)
  refine k_bind m K fr c (part26 m K fr c ?_)
  refine k_bind m K fr c (part27 m K fr c ?_)
  refine k_bind m K fr c (part28 m K fr c ?_)
  refine k_bind m K fr c (part29 m K fr c ?_)
  refine k_bind m K fr c (part30 m K fr c ?_)
  refine k_bind m K fr c (part31 m K fr c ?_)
  refine k_sent m K fr c 8 rfl rfl rfl rfl rfl rfl rfl ((by decide : ∀ d, Iff (gd d 8#32 = 1#1) (d ≠ 8)) c) (jp := fun _ => _) (sA := fun _ => fS 0 8) (fun _ => rfl) (sB := fun _ => fS 2 8) (fun _ => rfl)
    (dstA := fun _ => ptRow 8) (fun _ => rfl) (dstB := fun _ => rdM) (fun _ => rfl) ?_
  refine k_sent m K fr c 9 rfl rfl rfl rfl rfl rfl rfl ((by decide : ∀ d, Iff (gd d 9#32 = 1#1) (d ≠ 9)) c) (jp := fun _ => _) (sA := fun _ => fS 0 9) (fun _ => rfl) (sB := fun _ => fS 2 9) (fun _ => rfl)
    (dstA := fun _ => ptRow 9) (fun _ => rfl) (dstB := fun _ => rdM) (fun _ => rfl) ?_
  refine k_sent m K fr c 10 rfl rfl rfl rfl rfl rfl rfl ((by decide : ∀ d, Iff (gd d 10#32 = 1#1) (d ≠ 10)) c) (jp := fun _ => _) (sA := fun _ => fS 0 10) (fun _ => rfl) (sB := fun _ => fS 2 10) (fun _ => rfl)
    (dstA := fun _ => ptRow 10) (fun _ => rfl) (dstB := fun _ => rdM) (fun _ => rfl) ?_
  refine k_sent m K fr c 11 rfl rfl rfl rfl rfl rfl rfl ((by decide : ∀ d, Iff (gd d 11#32 = 1#1) (d ≠ 11)) c) (jp := fun _ => _) (sA := fun _ => fS 0 11) (fun _ => rfl) (sB := fun _ => fS 2 11) (fun _ => rfl)
    (dstA := fun _ => ptRow 11) (fun _ => rfl) (dstB := fun _ => rdM) (fun _ => rfl) ?_
  refine k_sent m K fr c 12 rfl rfl rfl rfl rfl rfl rfl ((by decide : ∀ d, Iff (gd d 12#32 = 1#1) (d ≠ 12)) c) (jp := fun _ => _) (sA := fun _ => fS 0 12) (fun _ => rfl) (sB := fun _ => fS 2 12) (fun _ => rfl)
    (dstA := fun _ => ptRow 12) (fun _ => rfl) (dstB := fun _ => rdM) (fun _ => rfl) ?_
  exact k_ret m K fr c hQ

/-- The whole kernel, from the first state to the last. -/
theorem body_run {Q : PUnit.{1} → sProp 𝕄} (hQ : St m K fr c (B 1 1 1 16 16 1 16 1 16 16 1) ⊢ Q ⟨⟩) :
    St m K fr c (A 0 .idle .idle .idle .idle 0 0) ⊢ Wp c (onArgs (cc0_body (F := F))) Q := by
  rw [cc0_body_eq_skeleton]
  unfold onArgs cc0_body_skel
  refine k_bind m K fr c (part32 m K fr c ?_)
  refine k_sent m K fr c 13 rfl rfl rfl rfl rfl rfl rfl ((by decide : ∀ d, Iff (gd d 13#32 = 1#1) (d ≠ 13)) c) (jp := fun _ => _) (sA := fun _ => fS 0 13) (fun _ => rfl) (sB := fun _ => fS 2 13) (fun _ => rfl)
    (dstA := fun _ => ptRow 13) (fun _ => rfl) (dstB := fun _ => rdM) (fun _ => rfl) ?_
  refine k_sent m K fr c 14 rfl rfl rfl rfl rfl rfl rfl ((by decide : ∀ d, Iff (gd d 14#32 = 1#1) (d ≠ 14)) c) (jp := fun _ => _) (sA := fun _ => fS 0 14) (fun _ => rfl) (sB := fun _ => fS 2 14) (fun _ => rfl)
    (dstA := fun _ => ptRow 14) (fun _ => rfl) (dstB := fun _ => rdM) (fun _ => rfl) ?_
  refine k_sent m K fr c 15 rfl rfl rfl rfl rfl rfl rfl ((by decide : ∀ d, Iff (gd d 15#32 = 1#1) (d ≠ 15)) c) (jp := fun _ => _) (sA := fun _ => fS 0 15) (fun _ => rfl) (sB := fun _ => fS 2 15) (fun _ => rfl)
    (dstA := fun _ => ptRow 15) (fun _ => rfl) (dstB := fun _ => rdM) (fun _ => rfl) ?_
  exact k_ret m K fr c hQ

end Cert.KernelIdeal.Hand
-- ==== Proof.Pieces.lean ====
/-
Buffers cut into the pieces the devices hand to each other, and put together again; the state a device starts
from and the one it ends in.
-/
module

public import proofs.«01_k».proof.Proof.Parts3

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

/-! ## Families -/

theorem fam2 (Φ : Fin 2 → sProp 𝕄) : bigSep Finset.univ Φ = iprop(Φ 0 ∗ Φ 1) := bigSep_univ_eq_bigSepL [0, 1] (by decide) (by decide) Φ
theorem fam4 (Φ : Fin 4 → sProp 𝕄) : bigSep Finset.univ Φ = iprop(Φ 0 ∗ Φ 1 ∗ Φ 2 ∗ Φ 3) := bigSep_univ_eq_bigSepL [0, 1, 2, 3] (by decide) (by decide) Φ
theorem fam_self {Φ : Dev nD → sProp 𝕄} : bigSep Finset.univ Φ = iprop(Φ c ∗ bigSep (Finset.univ.erase c) Φ) := bigSep_take (Finset.mem_univ c)

/-- A buffer is its pieces, when these cover it without overlap; -/
theorem cut {I : Type} [DecidableEq I] [Fintype I] {ℓ : Loc nD τ sig} (A : I → Finset (Idx ℓ)) (h1 : Finset.univ.biUnion A = Finset.univ)
    (h2 : ∀ p p', p ≠ p' → Disjoint (A p) (A p')) (f : Buf (Elt F) ℓ) :
    (ℓ ↦{fullShare} f : sProp 𝕄) = bigSep Finset.univ fun p => (ℓ ↦[A p]{fullShare} f : sProp 𝕄) := by
  have e := pointsTo_biUnion (nD := nD) (τ := τ) (sig := sig) (Ix := Unit) (Val := Elt F) (Name := ℕ) (U := UU) (Lvl := ℕ) (ℓ := ℓ) (q := fullShare) (f := f)
    Finset.univ A (fun p _ p' _ h => h2 p p' h)
  rw [h1] at e
  exact e
/-- and the pieces at any contents are the buffer at some. -/
theorem glue {I : Type} [DecidableEq I] [Fintype I] {ℓ : Loc nD τ sig} (A : I → Finset (Idx ℓ)) (h1 : Finset.univ.biUnion A = Finset.univ)
    (h2 : ∀ p p', p ≠ p' → Disjoint (A p) (A p')) (fs : I → Buf (Elt F) ℓ) (f0 : Buf (Elt F) ℓ) :
    (bigSep Finset.univ fun p => (ℓ ↦[A p]{fullShare} fs p : sProp 𝕄)) ⊢ iprop(∃ g, ℓ ↦{fullShare} g) := by
  have e := pointsTo_biUnion_join (nD := nD) (τ := τ) (sig := sig) (Ix := Unit) (Val := Elt F) (Name := ℕ) (U := UU) (Lvl := ℕ) (ℓ := ℓ) (q := fullShare)
    Finset.univ A fs f0 (fun p _ p' _ h => h2 p p' h)
  rw [h1] at e
  iintro H
  ihave H := e $$ H
  icases H with ⟨%g, -, H⟩
  iexists g; iexact H

/-- Pieces told apart by one number. -/
theorem cover_of {I T : Type} [DecidableEq I] [Fintype I] [DecidableEq T] [Fintype T] (A : I → Finset T) (n : T → I) (h : ∀ p i, i ∈ A p ↔ n i = p) :
    Finset.univ.biUnion A = Finset.univ := by
  ext i
  simp only [Finset.mem_biUnion, Finset.mem_univ, true_and, iff_true]
  exact ⟨n i, (h _ _).mpr rfl⟩
theorem disj_of {I T : Type} [DecidableEq T] (A : I → Finset T) (n : T → I) (h : ∀ p i, i ∈ A p ↔ n i = p) (p p' : I) (hp : p ≠ p') :
    Disjoint (A p) (A p') :=
  Finset.disjoint_left.mpr fun i h1 h2 => hp (((h _ _).mp h1).symm.trans ((h _ _).mp h2))

/-! ## The pieces of each buffer -/

theorem mem_stageR (b : Fin 2) (i : S2x2048x128.Idx) : i ∈ (stageR b).set ↔ (⟨(i 0).val, (i 0).isLt⟩ : Fin 2) = b := by
  rw [Rect.mem_set_unit, Fin.forall_fin_succ, Fin.forall_fin_succ, Fin.forall_fin_succ]
  have h1 : (i 1).val < 2048 := (i 1).isLt
  have h2 : (i 2).val < 128 := (i 2).isLt
  constructor
  · rintro ⟨h, -⟩
    change b.val ≤ (i 0).val ∧ (i 0).val < b.val + 1 at h
    exact Fin.ext (by show (i 0).val = b.val; omega)
  · intro h
    have h : (i 0).val = b.val := congrArg Fin.val h
    refine ⟨?_, ?_, ?_, fun a => a.elim0⟩
    · show b.val ≤ (i 0).val ∧ (i 0).val < b.val + 1
      omega
    · show 0 ≤ (i 1).val ∧ (i 1).val < 0 + 2048
      omega
    · show 0 ≤ (i 2).val ∧ (i 2).val < 0 + 128
      omega

theorem mem_hbmR (b : Fin 8) (i : S1x2048x8x128.Idx) : i ∈ (hbmR b).set ↔ (⟨(i 2).val, (i 2).isLt⟩ : Fin 8) = b := by
  rw [Rect.mem_set_unit, Fin.forall_fin_succ, Fin.forall_fin_succ, Fin.forall_fin_succ, Fin.forall_fin_succ]
  have h0 : (i 0).val < 1 := (i 0).isLt
  have h1 : (i 1).val < 2048 := (i 1).isLt
  have h3 : (i 3).val < 128 := (i 3).isLt
  constructor
  · rintro ⟨-, -, h, -⟩
    change b.val ≤ (i 2).val ∧ (i 2).val < b.val + 1 at h
    exact Fin.ext (by show (i 2).val = b.val; omega)
  · intro h
    have h : (i 2).val = b.val := congrArg Fin.val h
    refine ⟨?_, ?_, ?_, ?_, fun a => a.elim0⟩
    · show 0 ≤ (i 0).val ∧ (i 0).val < 0 + 1
      omega
    · show 0 ≤ (i 1).val ∧ (i 1).val < 0 + 2048
      omega
    · show b.val ≤ (i 2).val ∧ (i 2).val < b.val + 1
      omega
    · show 0 ≤ (i 3).val ∧ (i 3).val < 0 + 128
      omega

theorem mem_ks (b : Fin 2) (i : S2x2048x128.Idx) : i ∈ (ksSl b).view.set ↔ (⟨(i 0).val, (i 0).isLt⟩ : Fin 2) = b := by
  rw [set_ksSl]; exact mem_stageR b i
theorem mem_vs (b : Fin 2) (i : S2x2048x128.Idx) : i ∈ (vsSl b).view.set ↔ (⟨(i 0).val, (i 0).isLt⟩ : Fin 2) = b := by
  rw [set_vsSl]; exact mem_stageR b i
theorem mem_kH (b : Fin 8) (i : S1x2048x8x128.Idx) : i ∈ (kSl b).view.set ↔ (⟨(i 2).val, (i 2).isLt⟩ : Fin 8) = b := by
  rw [show (kSl b).view.set = (hbmR b).set from (View.set_reshape _ _).trans (View.set_slice_whole _ _)]; exact mem_hbmR b i
theorem mem_vH (b : Fin 8) (i : S1x2048x8x128.Idx) : i ∈ (vSl b).view.set ↔ (⟨(i 2).val, (i 2).isLt⟩ : Fin 8) = b := by
  rw [show (vSl b).view.set = (hbmR b).set from (View.set_reshape _ _).trans (View.set_slice_whole _ _)]; exact mem_hbmR b i
theorem mem_rs (p : Dev nD) (i : S16x32x1024.Idx) : i ∈ (rsSl p).view.set ↔ (⟨(i 0).val, (i 0).isLt⟩ : Dev nD) = p := by
  rw [set_rsSl, mem_rsR]; exact ⟨fun h => Fin.ext h, fun h => congrArg Fin.val h⟩
theorem mem_blk (b : Fin 2) (i : S512x1024.Idx) : i ∈ (ptM.access (blkR b)).set ↔ (⟨(i 0).val / 256, Nat.div_lt_of_lt_mul (i 0).isLt⟩ : Fin 2) = b := by
  rw [show (ptM.access (blkR b)).set = (blkR b).set from View.set_slice_whole _ _, mem_blkR]
  exact ⟨fun h => Fin.ext h, fun h => congrArg Fin.val h⟩

theorem ks_cut (f : Vec F S2x2048x128 .f32) : (((c : Thread nD τ).loc cc0_scratch0) ↦{fullShare} f : sProp 𝕄) = iprop(ksPts c 0 f ∗ ksPts c 1 f) :=
  (cut (ℓ := (c : Thread nD τ).loc cc0_scratch0) _ (cover_of _ _ mem_ks) (disj_of _ _ mem_ks) f).trans (fam2 fun b => ksPts c b f)
theorem vs_cut (f : Vec F S2x2048x128 .f32) : (((c : Thread nD τ).loc cc0_scratch1) ↦{fullShare} f : sProp 𝕄) = iprop(vsPts c 0 f ∗ vsPts c 1 f) :=
  (cut (ℓ := (c : Thread nD τ).loc cc0_scratch1) _ (cover_of _ _ mem_vs) (disj_of _ _ mem_vs) f).trans (fam2 fun b => vsPts c b f)
theorem pt_cut (f : Vec F S512x1024 .bf16) : (((c : Thread nD τ).loc cc0_scratch4) ↦{fullShare} f : sProp 𝕄) = iprop(blkPts c 0 f ∗ blkPts c 1 f) :=
  (cut (ℓ := (c : Thread nD τ).loc cc0_scratch4) _ (cover_of _ _ mem_blk) (disj_of _ _ mem_blk) f).trans (fam2 fun b => blkPts c b f)
theorem rs_cut (f : Vec F S16x32x1024 .bf16) : (((c : Thread nD τ).loc cc0_scratch5) ↦{fullShare} f : sProp 𝕄) = bigSep Finset.univ fun p => rsPts c p f :=
  cut (ℓ := (c : Thread nD τ).loc cc0_scratch5) _ (cover_of _ _ mem_rs) (disj_of _ _ mem_rs) f
theorem kH_cut : (((c : Thread nD τ).loc main_arg2) ↦{fullShare} K0 m c : sProp 𝕄) = bigSep Finset.univ fun h => kPts m c h :=
  cut (ℓ := (c : Thread nD τ).loc main_arg2) _ (cover_of _ _ mem_kH) (disj_of _ _ mem_kH) (K0 m c)
theorem vH_cut : (((c : Thread nD τ).loc main_arg3) ↦{fullShare} V0 m c : sProp 𝕄) = bigSep Finset.univ fun h => vPts m c h :=
  cut (ℓ := (c : Thread nD τ).loc main_arg3) _ (cover_of _ _ mem_vH) (disj_of _ _ mem_vH) (V0 m c)

theorem ks_glue (f g : Vec F S2x2048x128 .f32) : iprop(ksPts c 0 f ∗ ksPts c 1 g) ⊢ (iprop(∃ f, ((c : Thread nD τ).loc cc0_scratch0) ↦{fullShare} f) : sProp 𝕄) :=
  (Entails.of_eq (fam2 fun b => ksPts c b (if b = 0 then f else g)).symm).trans
    (glue (ℓ := (c : Thread nD τ).loc cc0_scratch0) _ (cover_of _ _ mem_ks) (disj_of _ _ mem_ks) (fun b => if b = 0 then f else g) f)
theorem vs_glue (f g : Vec F S2x2048x128 .f32) : iprop(vsPts c 0 f ∗ vsPts c 1 g) ⊢ (iprop(∃ f, ((c : Thread nD τ).loc cc0_scratch1) ↦{fullShare} f) : sProp 𝕄) :=
  (Entails.of_eq (fam2 fun b => vsPts c b (if b = 0 then f else g)).symm).trans
    (glue (ℓ := (c : Thread nD τ).loc cc0_scratch1) _ (cover_of _ _ mem_vs) (disj_of _ _ mem_vs) (fun b => if b = 0 then f else g) f)
theorem rs_glue (f g : Vec F S16x32x1024 .bf16) : iprop(rsPts c c f ∗ bigSep (Finset.univ.erase c) fun p => rsPts c p g)
    ⊢ (iprop(∃ f, ((c : Thread nD τ).loc cc0_scratch5) ↦{fullShare} f) : sProp 𝕄) := by
  refine (Entails.of_eq ?_).trans (glue (ℓ := (c : Thread nD τ).loc cc0_scratch5) _ (cover_of _ _ mem_rs) (disj_of _ _ mem_rs) (fun p => if p = c then f else g) f)
  refine Eq.trans ?_ (fam_self c (Φ := fun p => rsPts c p (if p = c then f else g))).symm
  rw [if_pos rfl]
  congr 1
  exact bigSep_congr fun p hp => by rw [if_neg (Finset.ne_of_mem_erase hp)]

/-! ## The state a device starts from -/

/-- The tokens device `c` pays with: of every device's barrier, of its own sends, of the receipts of its sends. -/
def payToks : sProp 𝕄 :=
  iprop((bigSep Finset.univ fun p : Dev nD => dutyTok ER (barCell p) 0 c)
    ∗ (bigSep Finset.univ fun p : Dev nD => dutyTok ER (fCell c 0 p) 0 0) ∗ (bigSep Finset.univ fun p : Dev nD => dutyTok ER (fCell p 1 c) 0 0)
    ∗ (bigSep Finset.univ fun p : Dev nD => dutyTok ER (fCell c 2 p) 0 0) ∗ bigSep Finset.univ fun p : Dev nD => dutyTok ER (fCell p 3 c) 0 0)
/-- Where device `c` stands at its cells. -/
def places : sProp 𝕄 :=
  iprop(atPos ER (barCell c) 0 ∅ 0 ∗ (bigSep Finset.univ fun p : Dev nD => atPos ER (fCell c 0 p) 0 ∅ 0)
    ∗ (bigSep Finset.univ fun p : Dev nD => atPos ER (fCell c 1 p) 0 ∅ 0) ∗ (bigSep Finset.univ fun p : Dev nD => atPos ER (fCell c 2 p) 0 ∅ 0)
    ∗ bigSep Finset.univ fun p : Dev nD => atPos ER (fCell c 3 p) 0 ∅ 0)
/-- The semaphores of the local copies. -/
def copySems : sProp 𝕄 :=
  iprop((bigSep Finset.univ fun b : Fin 2 => semVal ((c : Thread nD τ), .dma (kS b)) 0) ∗ bigSep Finset.univ fun b : Fin 2 => semVal ((c : Thread nD τ), .dma (vS b)) 0)
/-- What the launch credits device `c` with. -/
def startCred : sProp 𝕄 :=
  iprop(cred (tallyAt (barCell c) () 15) ∗ (bigSep (Finset.univ.erase c) fun p : Dev nD => cred (tallyAt (fCell c 1 p) () NB))
    ∗ bigSep (Finset.univ.erase c) fun p : Dev nD => cred (tallyAt (fCell c 3 p) () NB))
/-- The keys and the values in the device's memory. -/
def hbm : sProp 𝕄 := iprop((((c : Thread nD τ).loc main_arg2) ↦{fullShare} m ((c : Thread nD τ).loc main_arg2)) ∗ ((c : Thread nD τ).loc main_arg3) ↦{fullShare} m ((c : Thread nD τ).loc main_arg3))
/-- The buffers of the kernel's scope. -/
def scratch : sProp 𝕄 :=
  iprop((∃ f : Vec F S2x2048x128 .f32, ((c : Thread nD τ).loc cc0_scratch0) ↦{fullShare} f) ∗ (∃ f : Vec F S2x2048x128 .f32, ((c : Thread nD τ).loc cc0_scratch1) ↦{fullShare} f)
    ∗ (∃ f : Vec F S8x2048x128 .bf16, ((c : Thread nD τ).loc cc0_scratch2) ↦{fullShare} f) ∗ (∃ f : Vec F S8x2048x256 .bf16, ((c : Thread nD τ).loc cc0_scratch3) ↦{fullShare} f)
    ∗ (∃ f : Vec F S512x1024 .bf16, ((c : Thread nD τ).loc cc0_scratch4) ↦{fullShare} f) ∗ (∃ f : Vec F S16x32x1024 .bf16, ((c : Thread nD τ).loc cc0_scratch5) ↦{fullShare} f)
    ∗ (∃ f : Vec F S32x1024 .bf16, ((c : Thread nD τ).loc cc0_scratch6) ↦{fullShare} f) ∗ ∃ f : Vec F S512x1024 .bf16, ((c : Thread nD τ).loc cc0_scratch7) ↦{fullShare} f)
/-- The three staged operands. -/
def staged : sProp 𝕄 :=
  iprop((((c : Thread nD τ).loc cc0_stg0_0) ↦{fullShare} xstg m c) ∗ (((c : Thread nD τ).loc cc0_stg1_0) ↦{fullShare} wqstg m c) ∗ ((c : Thread nD τ).loc cc0_stg2_0) ↦{fullShare} wostg m c)
/-- Where device `c` stands at the four cells no transfer uses, those of itself. -/
def ownPlaces : sProp 𝕄 :=
  iprop(atPos ER (fCell c 0 c) 0 ∅ 0 ∗ atPos ER (fCell c 1 c) 0 ∅ 0 ∗ atPos ER (fCell c 2 c) 0 ∅ 0 ∗ atPos ER (fCell c 3 c) 0 ∅ 0)
def ownSems : sProp 𝕄 :=
  iprop(semVal (fCell c 0 c) 0 ∗ semVal (fCell c 1 c) 0 ∗ semVal (fCell c 2 c) 0 ∗ semVal (fCell c 3 c) 0)

theorem St_eq (s : S) : St m K fr c s = iprop(Ctx m K ∗ bigSepL cmps (Comp m fr c s)) := by
  unfold St; rw [bigSep_univ_eq_bigSepL cmps (by decide) (by decide)]

abbrev s0 : S := A 0 .idle .idle .idle .idle 0 0
abbrev s1 : S := B 1 1 1 16 16 1 16 1 16 16 1

theorem start_sg : iprop((bigSep (Finset.univ.erase c) fun p : Dev nD => dutyTok ER (barCell p) 0 c) ∗ (bigSep (Finset.univ.erase c) fun p => rsPts c p fr)
    ∗ bigSep (Finset.univ.erase c) fun p => (iprop(∃ f, agPts c p f) : sProp 𝕄)) ⊢ Comp m fr c s0 .sg := by
  rw [← bigSep_both, ← bigSep_both]
  refine bigSep_wk fun p _ => ?_
  show _ ⊢ elSg c 0 p
  rw [show elSg (F := F) c 0 p = iprop(dutyTok ER (barCell p) 0 c ∗ barPay c p) from if_neg (Nat.not_lt_zero _)]
  unfold barPay
  iintro ⟨H1, H2, H3⟩
  isplitl [H1]; · iexact H1
  isplitl [H2]; · iexists fr; iexact H2
  iexact H3
theorem start_s1 : iprop((bigSep (Finset.univ.erase c) fun p : Dev nD => dutyTok ER (fCell c 0 p) 0 0) ∗ (bigSep (Finset.univ.erase c) fun p : Dev nD => dutyTok ER (fCell p 1 c) 0 0)
    ∗ bigSep (Finset.univ.erase c) fun p => (atPos ER (fCell c 0 p) 0 ∅ 0 : sProp 𝕄)) ⊢ Comp m fr c s0 .s1 := by
  rw [← bigSep_both, ← bigSep_both]
  refine bigSep_wk fun p _ => ?_
  show _ ⊢ elS1 c 0 0 0 p
  rw [show elS1 (F := F) c 0 0 0 p = iprop(dutyTok ER (fCell c 0 p) 0 0 ∗ dutyTok ER (fCell p 1 c) 0 0 ∗ atPos ER (fCell c 0 p) 0 ∅ 0 ∗ emp) from
    (if_neg (Nat.not_lt_zero _)).trans (if_neg (Nat.not_lt_zero _))]
  iintro ⟨H1, H2, H3⟩
  isplitl [H1]; · iexact H1
  isplitl [H2]; · iexact H2
  isplitl [H3]; · iexact H3
  iempintro
theorem start_s2 : iprop((bigSep (Finset.univ.erase c) fun p : Dev nD => dutyTok ER (fCell c 2 p) 0 0) ∗ (bigSep (Finset.univ.erase c) fun p : Dev nD => dutyTok ER (fCell p 3 c) 0 0)
    ∗ bigSep (Finset.univ.erase c) fun p => (atPos ER (fCell c 2 p) 0 ∅ 0 : sProp 𝕄)) ⊢ Comp m fr c s0 .s2 := by
  rw [← bigSep_both, ← bigSep_both]
  refine bigSep_wk fun p _ => ?_
  show _ ⊢ elS2 c 0 0 0 p
  rw [show elS2 (F := F) c 0 0 0 p = iprop(dutyTok ER (fCell c 2 p) 0 0 ∗ dutyTok ER (fCell p 3 c) 0 0 ∗ atPos ER (fCell c 2 p) 0 ∅ 0 ∗ emp) from
    (if_neg (Nat.not_lt_zero _)).trans (if_neg (Nat.not_lt_zero _))]
  iintro ⟨H1, H2, H3⟩
  isplitl [H1]; · iexact H1
  isplitl [H2]; · iexact H2
  isplitl [H3]; · iexact H3
  iempintro
theorem start_r1 : iprop((bigSep (Finset.univ.erase c) fun p : Dev nD => cred (tallyAt (fCell c 1 p) () NB))
    ∗ bigSep (Finset.univ.erase c) fun p => (atPos ER (fCell c 1 p) 0 ∅ 0 : sProp 𝕄)) ⊢ Comp m fr c s0 .r1 := by
  rw [← bigSep_both]
  refine bigSep_wk fun p _ => ?_
  show _ ⊢ elR1 m c 0 p
  rw [show elR1 (F := F) m c 0 p = iprop(cred (tallyAt (fCell c 1 p) () NB) ∗ atPos ER (fCell c 1 p) 0 ∅ 0) from if_neg (Nat.not_lt_zero _)]
theorem start_r2 : iprop((bigSep (Finset.univ.erase c) fun p : Dev nD => cred (tallyAt (fCell c 3 p) () NB))
    ∗ bigSep (Finset.univ.erase c) fun p => (atPos ER (fCell c 3 p) 0 ∅ 0 : sProp 𝕄)) ⊢ Comp m fr c s0 .r2 := by
  rw [← bigSep_both]
  refine bigSep_wk fun p _ => ?_
  show _ ⊢ elR2 m c 0 p
  rw [show elR2 (F := F) m c 0 p = iprop(cred (tallyAt (fCell c 3 p) () NB) ∗ atPos ER (fCell c 3 p) 0 ∅ 0) from if_neg (Nat.not_lt_zero _)]
theorem start_kH : (((c : Thread nD τ).loc main_arg2) ↦{fullShare} K0 m c : sProp 𝕄) ⊢ Comp m fr c s0 .kH := by
  classical
  rw [kH_cut]
  exact bigSep_wk fun h _ => Entails.of_eq (if_neg (by rintro (e | e) <;> cases e)).symm
theorem start_vH : (((c : Thread nD τ).loc main_arg3) ↦{fullShare} V0 m c : sProp 𝕄) ⊢ Comp m fr c s0 .vH := by
  classical
  rw [vH_cut]
  exact bigSep_wk fun h _ => Entails.of_eq (if_neg (by rintro (e | e) <;> cases e)).symm

end Cert.KernelIdeal.Hand
-- ==== Proof.Ends.lean ====
/-
What a device starts from makes its first state, and its last state gives back what it must return.
-/
module

public import proofs.«01_k».proof.Proof.Pieces

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ck → ℕ) (fr : Vec F S16x32x1024 .bf16) (c : Dev nD)

theorem drop_self {Φ : Dev nD → sProp 𝕄} : bigSep Finset.univ Φ ⊢ bigSep (Finset.univ.erase c) Φ := bigSep_subset (Finset.erase_subset _ _)

theorem bar_before (s : S) (h : s.bw = 0) : Comp m fr c s .bar = iprop(cred (tallyAt (barCell c) () 15) ∗ atPos ER (barCell c) 0 ∅ 0) := if_pos h
theorem bar_after (s : S) (h : s.bw = 1) : Comp m fr c s .bar = semVal (barCell c) 0 := if_neg (by rw [h]; decide)
theorem agO_before (s : S) (h : s.go = 0) : Comp m fr c s .agO = iprop(∃ f, agPts c c f) := if_pos h
theorem agO_after (s : S) (h : s.go = 1) : Comp m fr c s .agO = agPts c c (AG m c) := if_neg (by rw [h]; decide)
theorem pt_before (s : S) (b : Fin 2) (h : s.pS b = 0) : Comp m fr c s (.pt b) = iprop(∃ f, blkPts c b f) := if_pos h
theorem red_before (s : S) (h : s.rd = 0) : Comp m fr c s .red = iprop(∃ f : Vec F S32x1024 .bf16, ((c : Thread nD τ).loc cc0_scratch6) ↦{fullShare} f) := if_pos h
theorem red_after (s : S) (h : s.rd = 1) : Comp m fr c s .red
    = iprop((rdM.view.loc (c : Thread nD τ) ↦[rdM.view.set]{Transfers.shareDrop fullShare 16} Red m c) ∗ bigSep Finset.univ (elRd m c s.t2 s.ws)) := if_neg (by rw [h]; decide)
theorem red_last (s : S) (h : s.rd = 1) (h2 : s.t2 = 16) (h3 : s.ws = 16) : Comp m fr c s .red
    = iprop((rdM.view.loc (c : Thread nD τ) ↦[rdM.view.set]{Transfers.shareDrop fullShare 16} Red m c) ∗ bigSep Finset.univ (elRd m c 16 16)) := by
  rw [red_after m fr c s h, h2, h3]
theorem elRd_last (p : Dev nD) : elRd m c 16 16 p = (rdM.view.loc (c : Thread nD τ) ↦[rdM.view.set]{Transfers.shareTok fullShare 16 p} Red m c : sProp 𝕄) :=
  elRd_here m c 16 16 (.inr p.isLt)
theorem ou_before (s : S) (h : s.ou = 0) : Comp m fr c s .ou = iprop(∃ f : Vec F S1x512x1024 .f32, ((c : Thread nD τ).loc cc0_stg3_0) ↦{fullShare} f) := if_pos h
theorem ou_after (s : S) (h : s.ou = 1) : Comp m fr c s .ou = (((c : Thread nD τ).loc cc0_stg3_0) ↦{fullShare} outV m c) := if_neg (by rw [h]; decide)

theorem St_start : iprop(Ctx m K ∗ payToks c ∗ places c ∗ copySems c ∗ startCred c ∗ hbm m c ∗ scratch c ∗ staged m c
      ∗ (∃ f : Vec F S1x512x1024 .f32, ((c : Thread nD τ).loc cc0_stg3_0) ↦{fullShare} f) ∗ ∃ W, owes (c : Thread nD τ) (Owe c 0 0 0) W)
    ⊢ iprop((∃ fr, St m K fr c s0) ∗ ownPlaces c) := by
  unfold payToks places copySems startCred hbm scratch staged ownPlaces
  iintro ⟨HC, ⟨Tb, T0, T1, T2, T3⟩, ⟨Ab, A0, A1, A2, A3⟩, ⟨Sk, Sv⟩, ⟨Cb, C1, C3⟩, ⟨HK, HV⟩,
    ⟨⟨%fks, Hks⟩, ⟨%fvs, Hvs⟩, ⟨%fkb, Hkb⟩, ⟨%fvb, Hvb⟩, ⟨%fpt, Hpt⟩, ⟨%frs, Hrs⟩, Hrd, ⟨%fag, Hag⟩⟩, ⟨Hx, Hwq, Hwo⟩, Hou, Ho⟩
  ihave A0 := (Entails.of_eq (fam_self c (Φ := fun p : Dev nD => (atPos ER (fCell c 0 p) 0 ∅ 0 : sProp 𝕄)))) $$ A0
  icases A0 with ⟨A0', A0⟩
  ihave A1 := (Entails.of_eq (fam_self c (Φ := fun p : Dev nD => (atPos ER (fCell c 1 p) 0 ∅ 0 : sProp 𝕄)))) $$ A1
  icases A1 with ⟨A1', A1⟩
  ihave A2 := (Entails.of_eq (fam_self c (Φ := fun p : Dev nD => (atPos ER (fCell c 2 p) 0 ∅ 0 : sProp 𝕄)))) $$ A2
  icases A2 with ⟨A2', A2⟩
  ihave A3 := (Entails.of_eq (fam_self c (Φ := fun p : Dev nD => (atPos ER (fCell c 3 p) 0 ∅ 0 : sProp 𝕄)))) $$ A3
  icases A3 with ⟨A3', A3⟩
  isplitr [A0' A1' A2' A3']
  · iexists frs
    rw [St_eq]
    isplitl [HC]; · iexact HC
    simp only [cmps, bigSepL_step, bigSepL_singleton]
    ihave Hrs := (Entails.of_eq ((rs_cut c frs).trans (fam_self c))) $$ Hrs
    icases Hrs with ⟨Rown, Rs⟩
    ihave Hag := (Entails.of_eq ((ag_join c fag).symm.trans (fam_self c))) $$ Hag
    icases Hag with ⟨Aown, Ag⟩
    ihave Hks := (Entails.of_eq (ks_cut c fks)) $$ Hks
    icases Hks with ⟨Ks0, Ks1⟩
    ihave Hvs := (Entails.of_eq (vs_cut c fvs)) $$ Hvs
    icases Hvs with ⟨Vs0, Vs1⟩
    ihave Hpt := (Entails.of_eq (pt_cut c fpt)) $$ Hpt
    icases Hpt with ⟨Pt0, Pt1⟩
    ihave Sk := (Entails.of_eq (fam2 _)) $$ Sk
    icases Sk with ⟨Sk0, Sk1⟩
    ihave Sv := (Entails.of_eq (fam2 _)) $$ Sv
    icases Sv with ⟨Sv0, Sv1⟩
    isplitl [Ho]
    · ihave H := (Entails.of_eq (show iprop(∃ W, owes (c : Thread nD τ) (Owe c 0 0 0) W) = Comp m frs c s0 .ow from rfl)) $$ Ho
      iexact H
    isplitl [Tb Rs Ag]
    · iapply (start_sg m frs c)
      isplitl [Tb]; · iapply (drop_self c); iexact Tb
      isplitl [Rs]; · iexact Rs
      iapply (bigSep_wk (A := Finset.univ.erase c) (Φ := fun p => agPts c p fag) (Ψ := fun p => iprop(∃ f, agPts c p f)) fun p _ => by
        iintro H; iexists fag; iexact H)
      iexact Ag
    isplitl [Cb Ab]
    · ihave H := (Entails.of_eq (bar_before m frs c s0 rfl).symm) $$ [Cb Ab]
      · isplitl [Cb] <;> iassumption
      iexact H
    isplitl [T0 T1 A0]
    · iapply (start_s1 m frs c)
      isplitl [T0]; · iapply (drop_self c); iexact T0
      isplitl [T1]; · iapply (drop_self c); iexact T1
      iexact A0
    isplitl [T2 T3 A2]
    · iapply (start_s2 m frs c)
      isplitl [T2]; · iapply (drop_self c); iexact T2
      isplitl [T3]; · iapply (drop_self c); iexact T3
      iexact A2
    isplitl [C1 A1]
    · iapply (start_r1 m frs c)
      isplitl [C1] <;> iassumption
    isplitl [C3 A3]
    · iapply (start_r2 m frs c)
      isplitl [C3] <;> iassumption
    isplitl [Rown]
    · ihave H := (Entails.of_eq (show rsPts c c frs = Comp m frs c s0 .rsO from rfl)) $$ Rown
      iexact H
    isplitl [Aown]
    · ihave H := (Entails.of_eq (agO_before m frs c s0 rfl).symm) $$ [Aown]
      · iexists fag; iexact Aown
      iexact H
    isplitl [Pt0]
    · ihave H := (Entails.of_eq (pt_before m frs c s0 0 rfl).symm) $$ [Pt0]
      · iexists fpt; iexact Pt0
      iexact H
    isplitl [Pt1]
    · ihave H := (Entails.of_eq (pt_before m frs c s0 1 rfl).symm) $$ [Pt1]
      · iexists fpt; iexact Pt1
      iexact H
    isplitl [Hrd]
    · ihave H := (Entails.of_eq (red_before m frs c s0 rfl).symm) $$ Hrd
      iexact H
    isplitl [HK]; · iapply (start_kH m frs c); iexact HK
    isplitl [HV]; · iapply (start_vH m frs c); iexact HV
    isplitl [Ks0 Sk0]
    · ihave H := (Entails.of_eq (show iprop((∃ f, ksPts c 0 f) ∗ semVal ((c : Thread nD τ), .dma (kS 0)) 0) = Comp m frs c s0 (.kSl 0) from rfl)) $$ [Ks0 Sk0]
      · isplitl [Ks0]; · iexists fks; iexact Ks0
        iexact Sk0
      iexact H
    isplitl [Ks1 Sk1]
    · ihave H := (Entails.of_eq (show iprop((∃ f, ksPts c 1 f) ∗ semVal ((c : Thread nD τ), .dma (kS 1)) 0) = Comp m frs c s0 (.kSl 1) from rfl)) $$ [Ks1 Sk1]
      · isplitl [Ks1]; · iexists fks; iexact Ks1
        iexact Sk1
      iexact H
    isplitl [Vs0 Sv0]
    · ihave H := (Entails.of_eq (show iprop((∃ f, vsPts c 0 f) ∗ semVal ((c : Thread nD τ), .dma (vS 0)) 0) = Comp m frs c s0 (.vSl 0) from rfl)) $$ [Vs0 Sv0]
      · isplitl [Vs0]; · iexists fvs; iexact Vs0
        iexact Sv0
      iexact H
    isplitl [Vs1 Sv1]
    · ihave H := (Entails.of_eq (show iprop((∃ f, vsPts c 1 f) ∗ semVal ((c : Thread nD τ), .dma (vS 1)) 0) = Comp m frs c s0 (.vSl 1) from rfl)) $$ [Vs1 Sv1]
      · isplitl [Vs1]; · iexists fvs; iexact Vs1
        iexact Sv1
      iexact H
    isplitl [Hkb]
    · ihave H := (Entails.of_eq (show iprop(∃ f, ((c : Thread nD τ).loc cc0_scratch2) ↦{fullShare} KBn m c 0 f) = Comp m frs c s0 .kb from rfl)) $$ [Hkb]
      · iexists fkb
        rw [show KBn m c 0 fkb = fkb from funext fun i => if_neg (Nat.not_lt_zero _)]
        iexact Hkb
      iexact H
    isplitl [Hvb]
    · ihave H := (Entails.of_eq (show iprop(∃ f, ((c : Thread nD τ).loc cc0_scratch3) ↦{fullShare} VBn m c 0 f) = Comp m frs c s0 .vb from rfl)) $$ [Hvb]
      · iexists fvb
        rw [show VBn m c 0 fvb = fvb from funext fun i => if_neg (Nat.not_lt_zero _)]
        iexact Hvb
      iexact H
    isplitl [Hx]
    · ihave H := (Entails.of_eq (show (((c : Thread nD τ).loc cc0_stg0_0) ↦{fullShare} xstg m c) = Comp m frs c s0 .xs from rfl)) $$ Hx
      iexact H
    isplitl [Hwq]
    · ihave H := (Entails.of_eq (show (((c : Thread nD τ).loc cc0_stg1_0) ↦{fullShare} wqstg m c) = Comp m frs c s0 .wqs from rfl)) $$ Hwq
      iexact H
    isplitl [Hwo]
    · ihave H := (Entails.of_eq (show (((c : Thread nD τ).loc cc0_stg2_0) ↦{fullShare} wostg m c) = Comp m frs c s0 .wos from rfl)) $$ Hwo
      iexact H
    ihave H := (Entails.of_eq (ou_before m frs c s0 rfl).symm) $$ Hou
    iexact H
  isplitl [A0']; · iexact A0'
  isplitl [A1']; · iexact A1'
  isplitl [A2']; · iexact A2'
  iexact A3'

/-! ## The last state -/

theorem end_pt (b : Fin 2) : Comp m fr c s1 (.pt b) ⊢ blkPts c b (Part m c) := by
  rw [Comp_pt m fr c s1 b (by fin_cases b <;> rfl), blk_split]
  exact bigSep_wk fun p _ => Entails.of_eq (elPt_here m c 16 16 (.inr p.isLt))
theorem toks_back {ℓ : Loc nD τ sig} (A : Finset (Idx ℓ)) (f : Buf (Elt F) ℓ) :
    iprop((ℓ ↦[A]{Transfers.shareDrop fullShare 16} f) ∗ bigSep Finset.univ fun p : Dev nD => ℓ ↦[A]{Transfers.shareTok fullShare 16 p} f) ⊢ (ℓ ↦[A]{fullShare} f : sProp 𝕄) :=
  Transfers.pointsTo_toks_join fullShare 16
theorem end_red : Comp m fr c s1 .red ⊢ iprop(∃ f : Vec F S32x1024 .bf16, ((c : Thread nD τ).loc cc0_scratch6) ↦{fullShare} f) := by
  rw [red_last m fr c s1 rfl rfl rfl]
  rw [bigSep_congr (s := Finset.univ) (Φ := elRd m c 16 16) (Ψ := fun p : Dev nD => (rdM.view.loc (c : Thread nD τ) ↦[rdM.view.set]{Transfers.shareTok fullShare 16 p} Red m c : sProp 𝕄))
    fun p _ => elRd_last m c p]
  refine (toks_back (ℓ := rdM.view.loc (c : Thread nD τ)) rdM.view.set (Red m c)).trans ?_
  rw [show rdM.view.set = Finset.univ from View.set_whole _]
  iintro H
  iexists (Red m c)
  iexact H
theorem end_kH : Comp m fr c s1 .kH ⊢ (((c : Thread nD τ).loc main_arg2) ↦{fullShare} K0 m c : sProp 𝕄) := by
  classical
  rw [kH_cut]
  exact bigSep_wk fun h _ => Entails.of_eq (if_neg (by rintro (e | e) <;> cases e))
theorem end_vH : Comp m fr c s1 .vH ⊢ (((c : Thread nD τ).loc main_arg3) ↦{fullShare} V0 m c : sProp 𝕄) := by
  classical
  rw [vH_cut]
  exact bigSep_wk fun h _ => Entails.of_eq (if_neg (by rintro (e | e) <;> cases e))
theorem end_s1 : Comp m fr c s1 .s1 ⊢ bigSep (Finset.univ.erase c) fun p : Dev nD => (semVal (fCell c 0 p) 0 : sProp 𝕄) :=
  bigSep_wk fun p _ => Entails.of_eq (if_pos p.isLt)
theorem end_s2 : Comp m fr c s1 .s2 ⊢ bigSep (Finset.univ.erase c) fun p : Dev nD => (semVal (fCell c 2 p) 0 : sProp 𝕄) :=
  bigSep_wk fun p _ => Entails.of_eq (if_pos p.isLt)
theorem end_r1 : Comp m fr c s1 .r1 ⊢ iprop((bigSep (Finset.univ.erase c) fun p : Dev nD => (semVal (fCell c 1 p) 0 : sProp 𝕄))
    ∗ bigSep (Finset.univ.erase c) fun p => rsPts c p (RSp m c)) := by
  rw [← bigSep_both]
  exact bigSep_wk fun p _ => Entails.of_eq (if_pos p.isLt)
theorem end_r2 : Comp m fr c s1 .r2 ⊢ iprop((bigSep (Finset.univ.erase c) fun p : Dev nD => (semVal (fCell c 3 p) 0 : sProp 𝕄))
    ∗ bigSep (Finset.univ.erase c) fun p => agPts c p (AG m c)) := by
  rw [← bigSep_both]
  exact bigSep_wk fun p _ => Entails.of_eq (if_pos p.isLt)

/-- All of the device's transfer semaphores at zero. -/
def famSems : sProp 𝕄 :=
  iprop((bigSep Finset.univ fun p : Dev nD => semVal (fCell c 0 p) 0) ∗ (bigSep Finset.univ fun p : Dev nD => semVal (fCell c 1 p) 0)
    ∗ (bigSep Finset.univ fun p : Dev nD => semVal (fCell c 2 p) 0) ∗ bigSep Finset.univ fun p : Dev nD => semVal (fCell c 3 p) 0)

theorem St_end : iprop(St m K fr c s1 ∗ ownSems c)
    ⊢ iprop(semVal (barCell c) 0 ∗ hbm m c ∗ copySems c ∗ famSems c ∗ scratch c ∗ staged m c
      ∗ (((c : Thread nD τ).loc cc0_stg3_0) ↦{fullShare} outV m c) ∗ ∃ W, owes (c : Thread nD τ) 0 W) := by
  rw [St_eq]
  unfold ownSems hbm copySems famSems scratch staged
  simp only [cmps, bigSepL_step, bigSepL_singleton]
  rw [show Comp m fr c s1 .ow = iprop(∃ W, owes (c : Thread nD τ) 0 W) from by rw [Comp_ow]; show iprop(∃ W, owes (c : Thread nD τ) (Owe c 16 16 16) W) = _; rw [Owe_end],
    bar_after m fr c s1 rfl,
    agO_after m fr c s1 rfl,
    show Comp m fr c s1 (.kSl 0) = iprop(ksPts c 0 (kStg m c 0 6) ∗ semVal ((c : Thread nD τ), .dma (kS 0)) 0) from rfl,
    show Comp m fr c s1 (.kSl 1) = iprop(ksPts c 1 (kStg m c 1 7) ∗ semVal ((c : Thread nD τ), .dma (kS 1)) 0) from rfl,
    show Comp m fr c s1 (.vSl 0) = iprop(vsPts c 0 (vStg m c 0 6) ∗ semVal ((c : Thread nD τ), .dma (vS 0)) 0) from rfl,
    show Comp m fr c s1 (.vSl 1) = iprop(vsPts c 1 (vStg m c 1 7) ∗ semVal ((c : Thread nD τ), .dma (vS 1)) 0) from rfl,
    show Comp m fr c s1 .rsO = rsPts c c fr from rfl,
    show Comp m fr c s1 .kb = iprop(∃ f, ((c : Thread nD τ).loc cc0_scratch2) ↦{fullShare} KBn m c 8 f) from rfl,
    show Comp m fr c s1 .vb = iprop(∃ f, ((c : Thread nD τ).loc cc0_scratch3) ↦{fullShare} VBn m c 8 f) from rfl,
    show Comp m fr c s1 .xs = (((c : Thread nD τ).loc cc0_stg0_0) ↦{fullShare} xstg m c) from rfl,
    show Comp m fr c s1 .wqs = (((c : Thread nD τ).loc cc0_stg1_0) ↦{fullShare} wqstg m c) from rfl,
    show Comp m fr c s1 .wos = (((c : Thread nD τ).loc cc0_stg2_0) ↦{fullShare} wostg m c) from rfl,
    ou_after m fr c s1 rfl]
  iintro ⟨⟨-, How, -, Hbar, Hs1, Hs2, Hr1, Hr2, HrsO, HagO, Hp0, Hp1, Hrd, HkH, HvH, ⟨Hk0, Zk0⟩, ⟨Hk1, Zk1⟩, ⟨Hv0, Zv0⟩, ⟨Hv1, Zv1⟩, ⟨%fkb, Hkb⟩, ⟨%fvb, Hvb⟩, Hx, Hwq, Hwo, Hou⟩,
    Z0, Z1, Z2, Z3⟩
  ihave Hr1 := (end_r1 m fr c) $$ Hr1
  icases Hr1 with ⟨Hr1, Hrs⟩
  ihave Hr2 := (end_r2 m fr c) $$ Hr2
  icases Hr2 with ⟨Hr2, Hag⟩
  isplitl [Hbar]; · iexact Hbar
  isplitl [HkH HvH]
  · isplitl [HkH]; · iapply (end_kH m fr c); iexact HkH
    iapply (end_vH m fr c); iexact HvH
  isplitl [Zk0 Zk1 Zv0 Zv1]
  · rw [fam2, fam2]
    isplitl [Zk0 Zk1]; · isplitl [Zk0] <;> iassumption
    isplitl [Zv0] <;> iassumption
  isplitl [Hs1 Hs2 Hr1 Hr2 Z0 Z1 Z2 Z3]
  · rw [fam_self c (Φ := fun p : Dev nD => (semVal (fCell c 0 p) 0 : sProp 𝕄)), fam_self c (Φ := fun p : Dev nD => (semVal (fCell c 1 p) 0 : sProp 𝕄)),
      fam_self c (Φ := fun p : Dev nD => (semVal (fCell c 2 p) 0 : sProp 𝕄)), fam_self c (Φ := fun p : Dev nD => (semVal (fCell c 3 p) 0 : sProp 𝕄))]
    isplitl [Z0 Hs1]
    · isplitl [Z0]; · iexact Z0
      iapply (end_s1 m fr c); iexact Hs1
    isplitl [Z1 Hr1]; · isplitl [Z1] <;> iassumption
    isplitl [Z2 Hs2]
    · isplitl [Z2]; · iexact Z2
      iapply (end_s2 m fr c); iexact Hs2
    isplitl [Z3] <;> iassumption
  isplitl [Hk0 Hk1 Hv0 Hv1 Hkb Hvb Hp0 Hp1 HrsO Hrs Hrd HagO Hag]
  · isplitl [Hk0 Hk1]
    · iapply (ks_glue c (kStg m c 0 6) (kStg m c 1 7)); isplitl [Hk0] <;> iassumption
    isplitl [Hv0 Hv1]
    · iapply (vs_glue c (vStg m c 0 6) (vStg m c 1 7)); isplitl [Hv0] <;> iassumption
    isplitl [Hkb]; · iexists _; iexact Hkb
    isplitl [Hvb]; · iexists _; iexact Hvb
    isplitl [Hp0 Hp1]
    · iexists (Part m c)
      rw [pt_cut]
      isplitl [Hp0]; · iapply (end_pt m fr c 0); iexact Hp0
      iapply (end_pt m fr c 1); iexact Hp1
    isplitl [HrsO Hrs]
    · iapply (rs_glue c fr (RSp m c)); isplitl [HrsO] <;> iassumption
    isplitl [Hrd]; · iapply (end_red m fr c); iexact Hrd
    iexists (AG m c)
    ihave H := (Entails.of_eq ((fam_self c (Φ := fun p => agPts c p (AG m c))).symm.trans (ag_join c (AG m c)))) $$ [HagO Hag]
    · isplitl [HagO] <;> iassumption
    iexact H
  isplitl [Hx Hwq Hwo]
  · isplitl [Hx]; · iexact Hx
    isplitl [Hwq] <;> iassumption
  isplitl [Hou] <;> iassumption

end Cert.KernelIdeal.Hand
-- ==== Proof.Launch.lean ====
/-
The launch: the resources of all devices dealt out, the body's obligation, and the run of the program.
-/
module

public import proofs.«01_k».proof.Proof.Ends
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

abbrev Own : Type := Fin 2 ⊕ (Fin 2 ⊕ (Fin 4 × Dev nD))
/-- The kernel's own semaphores: two of the key copies, two of the value copies, sixty-four of the transfers. -/
def osem : Own → SemLoc sig
  | .inl b => .dma (kS b)
  | .inr (.inl b) => .dma (vS b)
  | .inr (.inr x) => .dma (fS x.1 x.2)

theorem ownSemFacts : Pipeline.OwnSemFacts cfg0.spec osem := by decide +kernel

theorem fS_inj {k k' : Fin 4} {p p' : Dev nD} (h : fS k p = fS k' p') : k = k' ∧ p = p' :=
  ⟨by rw [← kindOf_fS k p, h, kindOf_fS], by rw [← idxOf_fS k p, h, idxOf_fS]⟩

theorem bar_inj {a b : Dev nD} (h : barCell a = barCell b) : a = b := Fin.ext (congrArg (fun g : GSem nD τ sig => g.1.1.val) h)
theorem fam_inj {a b : Dev nD} {k k' : Fin 4} {p p' : Dev nD} (h : fCell a k p = fCell b k' p') : a = b ∧ k = k' ∧ p = p' :=
  ⟨Fin.ext (congrArg (fun g : GSem nD τ sig => g.1.1.val) h), fS_inj (SemLoc.dma.inj (congrArg Prod.snd h))⟩
theorem bar_ne_fam {a b : Dev nD} {k : Fin 4} {p : Dev nD} (h : barCell a = fCell b k p) : False := by
  have := congrArg Prod.snd h; cases this

theorem kcell_inj : Function.Injective (kcell : Dev nD × Ck → GSem nD τ sig) := by
  rintro ⟨a, _ | ⟨k, p⟩⟩ ⟨b, _ | ⟨k', p'⟩⟩ h
  · obtain rfl := bar_inj h; rfl
  · exact (bar_ne_fam h).elim
  · exact (bar_ne_fam h.symm).elim
  · obtain ⟨rfl, rfl, rfl⟩ := fam_inj h; rfl

def ringCells : Finset (GSem nD τ sig) := Finset.univ.map ⟨kcell, kcell_inj⟩

/-- The tokens: one for every pair of devices at the barriers, one at every transfer cell. -/
abbrev tokOf (x : Dev nD × Dev nD × Option (Fin 4)) : GSem nD τ sig × ℕ × Dev nD :=
  match x.2.2 with
  | none => (barCell x.1, 0, x.2.1)
  | some k => (fCell x.1 k x.2.1, 0, 0)
theorem tokOf_inj : Function.Injective (tokOf : Dev nD × Dev nD × Option (Fin 4) → GSem nD τ sig × ℕ × Dev nD) := by
  rintro ⟨a, p, _ | k⟩ ⟨b, p', _ | k'⟩ h
  · obtain rfl := bar_inj (congrArg Prod.fst h)
    obtain rfl : p = p' := congrArg (fun x : GSem nD τ sig × ℕ × Dev nD => x.2.2) h
    rfl
  · exact (bar_ne_fam (congrArg Prod.fst h)).elim
  · exact (bar_ne_fam (congrArg Prod.fst h).symm).elim
  · obtain ⟨rfl, rfl, rfl⟩ := fam_inj (congrArg Prod.fst h); rfl
def ringToks : Finset (GSem nD τ sig × ℕ × Dev nD) := Finset.univ.map ⟨tokOf, tokOf_inj⟩

def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## Families over the cells and the tokens -/

theorem fam_opt {I : Type} [DecidableEq I] [Fintype I] (Φ : Option I → sProp 𝕄) : bigSep Finset.univ Φ = iprop(Φ none ∗ bigSep Finset.univ fun i : I => Φ (some i)) := by
  rw [bigSep_take (Finset.mem_univ none), show (Finset.univ : Finset (Option I)).erase none = Finset.univ.map Function.Embedding.some from by
    ext x; cases x <;> simp, bigSep_map]
  rfl
theorem fam_swap (Φ : Dev nD → Dev nD → sProp 𝕄) :
    (bigSep Finset.univ fun c : Dev nD => bigSep Finset.univ fun p : Dev nD => Φ c p) = bigSep Finset.univ fun c : Dev nD => bigSep Finset.univ fun p : Dev nD => Φ p c := by
  rw [← bigSep_univ_prod (fun x : Dev nD × Dev nD => Φ x.1 x.2), ← bigSep_univ_prod (fun x : Dev nD × Dev nD => Φ x.2 x.1),
    bigSep_univ_equiv (Equiv.prodComm (Dev nD) (Dev nD)) (fun x : Dev nD × Dev nD => Φ x.1 x.2)]
  rfl

/-- The tokens of the cells of device `c`. -/
def toks (c : Dev nD) : sProp 𝕄 :=
  bigSep Finset.univ fun p : Dev nD => iprop(dutyTok ER (barCell c) 0 p ∗ dutyTok ER (fCell c 0 p) 0 0 ∗ dutyTok ER (fCell c 1 p) 0 0
    ∗ dutyTok ER (fCell c 2 p) 0 0 ∗ dutyTok ER (fCell c 3 p) 0 0)

/-- Dealt so that each device has those it pays with. -/
theorem toks_around : (bigSep Finset.univ fun c : Dev nD => (toks c : sProp 𝕄)) ⊢ bigSep Finset.univ fun c : Dev nD => payToks c := by
  unfold toks payToks
  simp only [bigSep_both]
  rw [fam_swap (fun c p => (dutyTok ER (barCell c) 0 p : sProp 𝕄)), fam_swap (fun c p => (dutyTok ER (fCell c 1 p) 0 0 : sProp 𝕄)),
    fam_swap (fun c p => (dutyTok ER (fCell c 3 p) 0 0 : sProp 𝕄))]

/-! ## The cells' invariants -/

/-- What the launch deals device `c`. -/
def G (c : Dev nD) : sProp 𝕄 :=
  iprop((bigSep Finset.univ fun k : Ck => roundState ER (rd m) (kcell (c, k)) 0)
    ∗ (bigSep Finset.univ fun k : Ck => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_prod]
    unfold toks
    refine bigSep_congr fun p _ => ?_
    rw [fam_opt, fam4]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_both]
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun b : Fin 2 => semVal ((c : Thread nD τ), .dma (kS b)) 0) ∗ (bigSep Finset.univ fun b : Fin 2 => semVal ((c : Thread nD τ), .dma (vS b)) 0) ∗ famSems c) := by
  unfold Pipeline.ownSems0 famSems
  rw [BI.bigSep_univ_sum, BI.bigSep_univ_sum, bigSep_univ_prod, fam4]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem fam_ck (Φ : Ck → sProp 𝕄) : bigSep Finset.univ Φ = iprop(Φ none ∗ (bigSep Finset.univ fun p : Dev nD => Φ (some (0, p)))
    ∗ (bigSep Finset.univ fun p : Dev nD => Φ (some (1, p))) ∗ (bigSep Finset.univ fun p : Dev nD => Φ (some (2, p))) ∗ bigSep Finset.univ fun p : Dev nD => Φ (some (3, p))) := by
  rw [fam_opt, bigSep_univ_prod, fam4]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (rd m) κ (kcell (c, k))))
          ∗ (bigSep Finset.univ fun k : Ck => iprop(atPos ER (kcell (c, k)) 0 ∅ 0 ∗ reached ER (kcell (c, k)) 0)) ∗ toks c ∗ copySems c) := by
  unfold G
  rw [ownSems0_eq, unscopedSems0_eq]
  iintro ⟨⟨Hk, Hv, Hf⟩, Hb, Hst, Hat, Htok⟩
  imod (show iprop((bigSep Finset.univ fun k : Ck => semVal (kcell (c, k)) 0) ∗ bigSep Finset.univ fun k : Ck => roundState ER (rd m) (kcell (c, k)) 0)
      ⊢ (|={Set.univ}=> bigSep Finset.univ fun k : Ck => iprop(∃ κ : ℕ, cellInv ER (rd m) κ (kcell (c, k))) : sProp 𝕄) from by
        rw [← bigSep_both]
        exact (bigSep_mono fun k _ => (Rounds.body_intro ER (rd m) (kcell (c, k))).trans inv_alloc).trans (bigSep_fupd _ _)) $$ [Hb Hf Hst] with Hinv
  · isplitl [Hb Hf]
    · iapply (Entails.of_eq (fam_ck (fun k : Ck => (semVal (kcell (c, k)) 0 : sProp 𝕄))).symm)
      isplitl [Hb]; · iexact Hb
      unfold famSems
      iexact Hf
    iexact Hst
  imodintro
  isplitl [Hinv]; · iexact Hinv
  isplitl [Hat]; · iexact Hat
  isplitl [Htok]; · iexact Htok
  unfold copySems
  isplitl [Hk] <;> iassumption

def records (K : Dev nD × Ck → ℕ) : sProp 𝕄 :=
  iprop((bigSep Finset.univ fun x : Dev nD × Ck => cellInv ER (rd m) (K x) (kcell x)) ∗ bigSep Finset.univ fun x : Dev nD × Ck => reached ER (kcell x) 0)
instance records_persistent (K : Dev nD × Ck → ℕ) : BI.Persistent (records m K) := by unfold records; infer_instance

/-- What the global step makes of it. -/
def G' (c : Dev nD) : sProp 𝕄 := iprop(∃ K, records m K ∗ places c ∗ payToks c ∗ copySems c)

theorem with_records {I : Type} [DecidableEq I] {A : Finset I} {R : sProp 𝕄} [BI.Persistent R] {Φ Ψ : I → sProp 𝕄}
    (h : ∀ i ∈ A, iprop(R ∗ Φ i) ⊢ Ψ i) : iprop(R ∗ bigSep A Φ) ⊢ bigSep A Ψ :=
  (sep_mono_left (BI.bigSep_of_persistent A R)).trans (by rw [← bigSep_both]; exact bigSep_mono h)

theorem places_eq (c : Dev nD) : (bigSep Finset.univ fun k : Ck => (atPos ER (kcell (c, k)) 0 ∅ 0 : sProp 𝕄)) = places c := fam_ck _

theorem regroup :
    (bigSep Finset.univ fun c : Dev nD => iprop((bigSep Finset.univ fun k : Ck => iprop(∃ κ : ℕ, cellInv ER (rd m) κ (kcell (c, k))))
          ∗ (bigSep Finset.univ fun k : Ck => iprop(atPos ER (kcell (c, k)) 0 ∅ 0 ∗ reached ER (kcell (c, k)) 0)) ∗ toks c ∗ copySems c) : sProp 𝕄)
      ⊢ bigSep Finset.univ (G' m) := by
  simp only [bigSep_both, places_eq]
  rw [← bigSep_univ_prod (fun x : Dev nD × Ck => iprop(∃ κ : ℕ, cellInv ER (rd m) κ (kcell x))), ← bigSep_univ_prod (fun x : Dev nD × Ck => (reached ER (kcell x) 0 : sProp 𝕄))]
  iintro ⟨HI, ⟨Hat, #HR⟩, Htok, Hcp⟩
  ihave HK := (BI.bigSep_exists_pi Finset.univ (fun (x : Dev nD × Ck) (κ : ℕ) => (cellInv ER (rd m) κ (kcell x) : sProp 𝕄))) $$ HI
  icases HK with ⟨%K, #HI⟩
  ihave Htk := (toks_around (F := F)) $$ Htok
  iapply (with_records (R := records m K) (Φ := fun c : Dev nD => iprop(places c ∗ payToks c ∗ copySems c)) fun c _ => by
    unfold G'
    iintro ⟨H1, H2⟩
    iexists K
    isplitl [H1] <;> iassumption)
  isplitr
  · unfold records; isplitl; · iexact HI
    iexact HR
  · simp only [bigSep_both]
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

abbrev O₀ (c : Dev nD) : CellTallies nD τ sig Unit := Owe c 0 0 0

theorem Ow_at {cell : Dev nD → GSem nD τ sig} (hi : ∀ a b, cell a = cell b → a = b) (N : ℕ) (d q : Dev nD) : Ow cell N d 0 (cell q) () = if q ≠ d then N else 0 := by
  unfold Ow
  rw [Finset.sum_apply, Finsupp.finset_sum_apply]
  by_cases h : q = d
  · rw [if_neg (fun h' => h' h)]
    refine Finset.sum_eq_zero fun p hp => ?_
    rw [tallyAt_apply, if_neg fun h' => (Finset.mem_filter.mp hp).2.2 ((hi _ _ h'.1).symm.trans h)]
  · rw [if_pos h, Finset.sum_eq_single q (fun p _ hp => by rw [tallyAt_apply, if_neg fun h' => hp (hi _ _ h'.1).symm])
      (fun hq => absurd (Finset.mem_filter.mpr ⟨Finset.mem_univ _, Nat.zero_le _, h⟩) hq), tallyAt_apply, if_pos ⟨rfl, rfl⟩]
theorem Ow_off {cell : Dev nD → GSem nD τ sig} (N : ℕ) (d : Dev nD) (g : GSem nD τ sig) (h : ∀ p, g ≠ cell p) : Ow cell N d 0 g () = 0 :=
  Nat.eq_zero_of_not_pos fun hp => let ⟨p, e⟩ := Ow_pos hp; h p e

theorem fifteen : ∀ c : Dev nD, (∑ d : Dev nD, if c ≠ d then 1 else 0) = 15 := by decide

theorem launch_bar (c : Dev nD) : tallyOn (barCell c) (launchCredit (Pipeline.owing fun d => Ow barCell 1 d 0) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => Ow_at (fun _ _ => bar_inj) 1 d c]
  exact fifteen c
theorem launch_fam (k : Fin 4) (c p : Dev nD) (h : p ≠ c) :
    tallyOn (fCell c k p) (launchCredit (Pipeline.owing fun d => Ow (fun q => fCell q k d) NB d 0) 0 (fCell c k p)) = (tallyAt (fCell c k p) () NB : CellTallies nD τ sig Unit) := by
  unfold tallyAt; refine congrArg _ (Finsupp.ext fun u => ?_); cases u
  rw [Pipeline.launchCredit_owing, Finsupp.single_eq_same, Finset.sum_eq_single p (fun d _ hd => Ow_off NB d _ fun q e => hd (fam_inj e).2.2.symm)
    (fun h => absurd (Finset.mem_univ _) h)]
  exact (Ow_at (cell := fun q => fCell q k p) (fun _ _ e => (fam_inj e).1) NB p c).trans (if_pos fun e => h e.symm)

theorem cred_fam (k : Fin 4) (c : Dev nD) : (Pipeline.launchCred (fun d => Ow (fun q => fCell q k d) NB d 0) c : sProp 𝕄)
    ⊢ bigSep (Finset.univ.erase c) fun p : Dev nD => cred (tallyAt (fCell c k p) () NB) := by
  unfold Pipeline.launchCred
  have hj : Function.Injective (fun p : Dev nD => (SemLoc.dma (fS k p) : SemLoc sig)) := fun p p' h => (fS_inj (SemLoc.dma.inj h)).2
  refine (bigSep_subset (Finset.subset_univ ((Finset.univ.erase c).map ⟨_, hj⟩))).trans ?_
  rw [bigSep_map]
  exact bigSep_wk fun p hp => Entails.of_eq (congrArg cred (launch_fam k c p (Finset.ne_of_mem_erase hp)))

theorem creds (c : Dev nD) : (Pipeline.launchCred O₀ c : sProp 𝕄) ⊢ startCred c := by
  have e : (Pipeline.launchCred O₀ c : sProp 𝕄) = iprop(Pipeline.launchCred (fun d => Ow barCell 1 d 0 + Ow (fun p => fCell p 1 d) NB d 0) c
      ∗ Pipeline.launchCred (fun d => Ow (fun p => fCell p 3 d) NB d 0) c) := Pipeline.launchCred_add _ _ c
  have e2 : (Pipeline.launchCred (fun d => Ow barCell 1 d 0 + Ow (fun p => fCell p 1 d) NB d 0) c : sProp 𝕄)
      = iprop(Pipeline.launchCred (fun d => Ow barCell 1 d 0) c ∗ Pipeline.launchCred (fun d => Ow (fun p => fCell p 1 d) NB d 0) c) := Pipeline.launchCred_add _ _ c
  rw [e, e2]
  unfold startCred
  iintro ⟨⟨H1, H2⟩, H3⟩
  isplitl [H1]
  · ihave H1 := (Pipeline.launchCred_elim _ c (SemLoc.reg barS)) $$ H1
    ihave H1 := (Entails.of_eq (congrArg cred (launch_bar c))) $$ H1
    iexact H1
  isplitl [H2]; · iapply (cred_fam 1 c); iexact H2
  iapply (cred_fam 3 c); iexact H3

end Cert.KernelIdeal.Hand
-- ==== Proof.Run.lean ====
/-
The run: the body's obligation at the one grid point, and the run of the program on all devices.
-/
module

public import proofs.«01_k».proof.Proof.Launch
public import Idealize.ShloMosaic.Lib.Pipeline.CollectiveSegs

@[expose] public section

set_option maxRecDepth 16384

noncomputable section

namespace Cert.KernelIdeal.Hand

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from, besides the buffers of its scope. -/
def start (c : Dev nD) : sProp 𝕄 := iprop(G' m c ∗ startCred c ∗ levAts L lv ∗ hbm m c)
/-- What device `c` leaves, besides its semaphores and the buffers of its scope. -/
def left (c : Dev nD) : sProp 𝕄 := iprop(unscopedSems0 c ∗ hbm m c)

def Φ₀ (c : Dev nD) : sProp 𝕄 := iprop(start m c ∗ scratch c)
def Φ₁ (c : Dev nD) : sProp 𝕄 := iprop(left m c ∗ Pipeline.ownSems0 osem c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : Buf (Elt F) (((c : Dev nD) : Thread nD τ).loc b)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xstg m c) ∗ stg c cc0_stg1_0 (wqstg m c) ∗ stg c cc0_stg2_0 (wostg m c) ∗ stg c cc0_stg3_0 (outV m c))

theorem run_frame (K : Dev nD × Ck → ℕ) (fr : Vec F S16x32x1024 .bf16) (c : Dev nD) :
    iprop(St m K fr c s0 ∗ ownSems c) ⊢ Wp c (onArgs (cc0_body (F := F))) (fun _ => iprop(St m K fr c s1 ∗ ownSems c)) :=
  (sep_mono_left (body_run m K fr c (Q := fun _ => St m K fr c s1) (Entails.refl _))).trans (wp_frame_r frame _ _)

/-- A place at a cell nothing is due at closes the cell. -/
theorem close_own (K : Dev nD × Ck → ℕ) (c : Dev nD) (k : Fin 4) :
    iprop(Ctx m K ∗ atPos ER (fCell c k c) 0 ∅ 0) ⊢ |={Set.univ}=> semVal (fCell c k c) 0 := by
  iintro ⟨#HC, H⟩
  iapply (Rounds.cell_close ER (rd m) (Set.mem_univ (K (c, some (k, c)))) (fun h => h) (R := 0) (duties_own_all m c k))
  isplitr; · iapply (Ctx_inv m K (c, some (k, c))); iexact HC
  iexact H

theorem post_intro (K : Dev nD × Ck → ℕ) (fr : Vec F S16x32x1024 .bf16) (c : Dev nD) : iprop(St m K fr c s1 ∗ ownSems c) ⊢ bodyPost m c := by
  refine (St_end m K fr c).trans ?_
  unfold bodyPost Φ₁ left Dat.owesAt Pipeline.owesWithin copySems staged
  rw [ownSems0_eq, unscopedSems0_eq, show (dats m 0 c).owed t0_0.succ = 0 from rfl]
  iintro ⟨Hb, Hh, ⟨Hk, Hv⟩, Hf, Hs, ⟨Hx, Hq, Hw⟩, Ho, ⟨%W, HO⟩⟩
  isplitl [Hb Hh Hk Hv Hf Hs]
  · isplitl [Hb Hh]
    · isplitl [Hb] <;> iassumption
    isplitl [Hk Hv Hf]
    · isplitl [Hk]; · iexact Hk
      isplitl [Hv] <;> iassumption
    iexact Hs
  isplitl [HO]
  · iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Ho

theorem before_0 (c : Dev nD) (d) : (dats m 0 c).before (0 : Fin 4) t0_0 d = xstg m c := by
  unfold Dat.before; rw [if_pos (fetch0_0 t0_0)]; rfl
theorem before_1 (c : Dev nD) (d) : (dats m 0 c).before (1 : Fin 4) t0_0 d = wqstg m c := by
  unfold Dat.before; rw [if_pos (fetch0_1 t0_0)]; rfl
theorem before_2 (c : Dev nD) (d) : (dats m 0 c).before (2 : Fin 4) t0_0 d = wostg m c := by
  unfold Dat.before; rw [if_pos (fetch0_2 t0_0)]; rfl

theorem sound_body (c : Dev nD) : bodyPre m c ⊢ Wp c (onArgs (cc0_body (F := F))) (fun _ => bodyPost m c) := by
  unfold bodyPre Φ₀ start G' records
  rw [show (dats m 0 c).owesAt () t0_0.castSucc = Pipeline.owesWithin c (Owe c 0 0 0) _ from rfl]
  unfold Pipeline.owesWithin
  iintro ⟨⟨⟨⟨%K, ⟨#HI, #HR⟩, Hat, Htok, Hcp⟩, Hcr, #Hlev, Hh⟩, Hs⟩, ⟨%W, -, HO⟩, ⟨%d0, %g0, %hg0, Hx⟩, ⟨%d1, %g1, %hg1, Hq⟩, ⟨%d2, %g2, %hg2, Hw⟩, ⟨%d3, %g3, -, Ho⟩⟩
  obtain rfl := hg0.trans (before_0 m c d0)
  obtain rfl := hg1.trans (before_1 m c d1)
  obtain rfl := hg2.trans (before_2 m c d2)
  ihave #HC : Ctx m K $$ []
  · unfold Ctx
    isplitl; · iexact HI
    isplitl; · iexact HR
    iexact Hlev
  ihave H := (St_start m K c) $$ [Hat Htok Hcp Hcr Hh Hs HO Hx Hq Hw Ho]
  · isplitr; · iexact HC
    isplitl [Htok]; · iexact Htok
    isplitl [Hat]; · iexact Hat
    isplitl [Hcp]; · iexact Hcp
    isplitl [Hcr]; · iexact Hcr
    isplitl [Hh]; · iexact Hh
    isplitl [Hs]; · iexact Hs
    isplitl [Hx Hq Hw]
    · unfold staged
      isplitl [Hx]; · iexact Hx
      isplitl [Hq] <;> iassumption
    isplitl [Ho]; · iexists g3; iexact Ho
    iexists W; iexact HO
  icases H with ⟨⟨%fr, HS⟩, HP⟩
  unfold ownPlaces
  icases HP with ⟨P0, P1, P2, P3⟩
  imod (close_own m K c 0) $$ [P0] with Z0
  · isplitr; · iexact HC
    iexact P0
  imod (close_own m K c 1) $$ [P1] with Z1
  · isplitr; · iexact HC
    iexact P1
  imod (close_own m K c 2) $$ [P2] with Z2
  · isplitr; · iexact HC
    iexact P2
  imod (close_own m K c 3) $$ [P3] with Z3
  · isplitr; · iexact HC
    iexact P3
  iapply ((run_frame m K fr c).trans (wp_mono frame (wpE (defs₀ (F := F)) 𝒱₀ (c : Thread nD τ) none) Set.univ fun _ => post_intro m K fr c))
  isplitl [HS]; · iexact HS
  unfold ownSems
  isplitl [Z0]; · iexact Z0
  isplitl [Z1]; · iexact Z1
  isplitl [Z2] <;> iassumption

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hr, Hlev, Hcr, -, HG⟩
  ihave Hc := (creds (F := F) c) $$ Hcr
  ihave Hr := (Entails.of_eq (show (Pipeline.unscopedRestP Pipeline.Prefetch.none cfg0.spec c (fun b => m ((c : Thread nD τ).loc b)) : sProp 𝕄) = hbm m c from
    unscopedRest0_eq c _)) $$ Hr
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from scopedRest0_eq c]
  unfold Φ₀
  iintro ⟨Hs, -, Hr⟩
  isplitl [Hs] <;> iassumption

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, show (Pipeline.scopedRest cfg0.spec c : sProp 𝕄) = scratch c from scopedRest0_eq c]
  exact Entails.refl _

theorem stage_wait (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · exact mayWait c _ 0 0 0 (fun _ => by rw [hq]; decide) (fun _ => by rw [hq]; decide) (by rw [hq]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- What the run leaves on device `c`: the arrays of the four windows, and the keys and the values as they were. -/
def QC (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

abbrev hbmLoc (c : Dev nD) (i : Fin 2) : Loc nD τ sig := (c : Thread nD τ).loc (if i = 0 then main_arg2 else main_arg3)

theorem hbm_read (c : Dev nD) (s' : Phys nD τ sig (Elt F)) : iprop(hbm m c ∗ SI s')
    ⊢ iprop(⌜s'.mem.mem ((c : Thread nD τ).loc main_arg2) = m ((c : Thread nD τ).loc main_arg2) ∧ s'.mem.mem ((c : Thread nD τ).loc main_arg3) = m ((c : Thread nD τ).loc main_arg3)⌝ ∗ SI s') := by
  have e : (hbm m c : sProp 𝕄) = bigSep Finset.univ fun i : Fin 2 => ((hbmLoc c i) ↦{fullShare} m (hbmLoc c i)) := by rw [fam2]; rfl
  rw [e]
  refine (pointsTo_read_all Finset.univ (hbmLoc c) (fun i => m (hbmLoc c i)) s').trans (sep_mono_left ?_)
  iintro %h
  ipureintro
  exact ⟨h 0 (Finset.mem_univ _), h 1 (Finset.mem_univ _)⟩

theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => (s.mem ((c : Thread nD τ).loc main_arg2) = m ((c : Thread nD τ).loc main_arg2) ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold left
      iintro ⟨⟨Hu, Hh⟩, -, HSI⟩
      ihave H := (hbm_read m c s') $$ [Hh HSI]
      · isplitl [Hh] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => ⟨(h c).1, (h c).2.2.1⟩, sem_eq_zero hs fun c => (h c).2.2.2⟩)

end Cert.KernelIdeal.Hand
-- ==== Proof.Frames.lean ====
/-
The frames: the arguments end as they were, every semaphore counter at zero; and what the result array holds.
-/
module

public import proofs.«01_k».proof.Defs
public import proofs.«01_k».proof.Proof.Run
public import proofs.«01_k».proof.Proof.Gen.Kernel
public import proofs.«01_k».proof.Proof.Gen.Kernel.Launch

@[expose] public section

set_option maxRecDepth 16384

noncomputable section

namespace Cert.KernelIdeal.Hand

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem finalA_0 (c : Dev nD) : finalA m c (0 : Fin 4) = m ((c : Thread nD τ).loc main_arg0) := (dats m 0 c).arrAt_in (0 : Fin 4) rfl _
theorem finalA_1 (c : Dev nD) : finalA m c (1 : Fin 4) = m ((c : Thread nD τ).loc main_arg1) := (dats m 0 c).arrAt_in (1 : Fin 4) rfl _
theorem finalA_2 (c : Dev nD) : finalA m c (2 : Fin 4) = m ((c : Thread nD τ).loc main_arg4) := (dats m 0 c).arrAt_in (2 : Fin 4) rfl _

/-- The arguments of every device as they were, and every semaphore counter at zero. -/
def Kept (r : PUnit × MemSt nD τ sig (Elt F)) : Prop :=
  (∀ c : Dev nD, r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0

theorem run_kept : θ_run defs (onTc (τ := τ) (main (F := F))) ⟨m, fun _ => 0, ρ⟩
    (fun r => (∀ c : Dev nD, r.2.mem ((c : Thread nD τ).loc main_v1) = finalA m c (3 : Fin 4)) ∧ Kept m r) :=
  (θ_run defs _ _).mono (fun _ h => ⟨fun c => (h.1 c).1 (3 : Fin 4), fun c => ⟨((h.1 c).1 (0 : Fin 4)).trans (finalA_0 m c), ((h.1 c).1 (1 : Fin 4)).trans (finalA_1 m c),
    (h.1 c).2.1, (h.1 c).2.2, ((h.1 c).1 (2 : Fin 4)).trans (finalA_2 m c)⟩, h.2⟩) (run_main m ρ)

set_option smartUnfolding false in
/-- The kernel and its idealization are one text under two names. -/
theorem of_ideal [FloatOps Bits] {s : MemSt nD τ sig (Elt Bits)} {Q : PUnit × MemSt nD τ sig (Elt Bits) → Prop}
    (h : θ_run (defs (F := Bits)) (onTc (τ := τ) (main (F := Bits))) s Q) :
    θ_run (Cert.Kernel.defs (F := Bits)) (onTc (τ := Cert.Kernel.τ) (Cert.Kernel.main (F := Bits))) s Q := h

/-- A window of one block reads the whole array. -/
theorem read_0 (f : Vec F S1x512x1024 .f32) : (win0_0.blk (0 : Fin 1)).view.read (Elt F) f = f := by
  funext i
  show f ((win0_0.blk (0 : Fin 1)).view.emb i) = f i
  congr 1
  funext a
  exact Fin.ext (by
    show 0 * _ + 1 * (i a : Nat) = i a
    omega)
theorem read_1 (f : Vec F S1024x1024 .f32) : (win0_1.blk (0 : Fin 1)).view.read (Elt F) f = f := by
  funext i
  show f ((win0_1.blk (0 : Fin 1)).view.emb i) = f i
  congr 1
  funext a
  exact Fin.ext (by
    show 0 * _ + 1 * (i a : Nat) = i a
    omega)
theorem read_2 (f : Vec F S1024x1024 .f32) : (win0_2.blk (0 : Fin 1)).view.read (Elt F) f = f := by
  funext i
  show f ((win0_2.blk (0 : Fin 1)).view.emb i) = f i
  congr 1
  funext a
  exact Fin.ext (by
    show 0 * _ + 1 * (i a : Nat) = i a
    omega)
theorem read_3 (f : Vec F S1x512x1024 .f32) : (win0_3.blk (0 : Fin 1)).view.read (Elt F) f = f := by
  funext i
  show f ((win0_3.blk (0 : Fin 1)).view.emb i) = f i
  congr 1
  funext a
  exact Fin.ext (by
    show 0 * _ + 1 * (i a : Nat) = i a
    omega)

theorem finalA_3 (c : Dev nD) : finalA m c (3 : Fin 4) = outV m c := by
  refine (read_3 _).symm.trans ?_
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

end Cert.KernelIdeal.Hand
-- ==== Proof.ValHead.lean ====
/-
One head of the attention on one block of 256 rows, and the product of the eight heads, at an index.
-/
module

public import proofs.«01_k».proof.Proof.Proto
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe

/-- The part of the queries that one head and one block of rows needs. -/
def qCut (q : FVec Ideal S512x1024 .bf16) (b : Fin 2) (h : Fin 8) : FVec Ideal S256x128 .bf16 :=
  fun j => q (ix2 ⟨256 * b.val + (j 0).val, by have := b.isLt; have := (j 0).isLt; change (j 0).val < 256 at this; omega⟩
    ⟨128 * h.val + (j 1).val, by have := h.isLt; have := (j 1).isLt; change (j 1).val < 128 at this; omega⟩)

/-- The weight of key `j` for row `i`. -/
def wgt (q : FVec Ideal S256x128 .bf16) (kb : Vec Ideal S1x2048x128 .bf16) (i : Fin 256) (j : Fin 2048) : EReal :=
  Ideal.exp (∑ k : Fin 128, q (ix2 i k) * kb (ix3 0 j k))

theorem head_apply (q : FVec Ideal S256x128 .bf16) (kb : Vec Ideal S1x2048x128 .bf16) (vb : Vec Ideal S1x2048x256 .bf16)
    (i : Fin 256) (d : Fin 128) :
    k0_pay22 q kb vb (ix2 i d)
      = Ideal.div (∑ j : Fin 2048, wgt q kb i j * vb (ix3 0 j ⟨d.val, by omega⟩))
          (∑ j : Fin 2048, wgt q kb i j * vb (ix3 0 j ⟨128 + d.val, by omega⟩)) := by
  pointwise [k0_pay22, wgt]

theorem cut_eq (q : FVec Ideal S512x1024 .bf16) (b : Fin 2) (h : Fin 8) (r o : ℕ) (hr : r = 256 * b.val) (ho : o = 128 * h.val)
    (hs : S512x1024.Slices ![r, o] S256x128) : extractStridedSlice S256x128 ![r, o] q hs = qCut q b h := by
  subst hr ho
  funext j
  idx_vars j
  pointwise [qCut]

/-- The eight heads side by side times the output weights. -/
def fuse (o : Fin 8 → FVec Ideal S256x128 .bf16) (w : FVec Ideal S1024x1024 .bf16) : FVec Ideal S256x1024 .bf16 :=
  shapeCast S256x1024 (truncf .bf16 (matmul dot_S256x1024_S1024x1024_S256x1024_1_0_0_1_n_n none
    (concatenate S256x1024 1 [⟨S256x128, o 0⟩, ⟨S256x128, o 1⟩, ⟨S256x128, o 2⟩, ⟨S256x128, o 3⟩, ⟨S256x128, o 4⟩,
      ⟨S256x128, o 5⟩, ⟨S256x128, o 6⟩, ⟨S256x128, o 7⟩]
      concatenates_S256x128_S256x128_S256x128_S256x128_S256x128_S256x128_S256x128_S256x128_S256x1024_d1) w
    (constant S256x1024 .f32 0x00000000#32)) bitsLt_bf16_f32) shapeCasts_S256x1024_S256x1024

theorem beside_apply (o : Fin 8 → FVec Ideal S256x128 .bf16) (i : Fin 256) (t : Fin 1024) :
    concatenate S256x1024 1 [⟨S256x128, o 0⟩, ⟨S256x128, o 1⟩, ⟨S256x128, o 2⟩, ⟨S256x128, o 3⟩, ⟨S256x128, o 4⟩,
      ⟨S256x128, o 5⟩, ⟨S256x128, o 6⟩, ⟨S256x128, o 7⟩]
      concatenates_S256x128_S256x128_S256x128_S256x128_S256x128_S256x128_S256x128_S256x128_S256x1024_d1 (ix2 i t)
      = o ⟨t.val / 128, by omega⟩ (ix2 i ⟨t.val % 128, Nat.mod_lt _ (by decide)⟩) := by
  obtain ⟨a, b, hb, ht⟩ : ∃ (a : Fin 8) (b : ℕ), b < 128 ∧ t.val = 128 * a.val + b :=
    ⟨⟨t.val / 128, by omega⟩, t.val % 128, Nat.mod_lt _ (by decide), by show t.val = 128 * (t.val / 128) + _; omega⟩
  obtain ⟨t, h⟩ := t
  simp only at ht
  subst ht
  have e1 : (⟨(128 * a.val + b) / 128, by omega⟩ : Fin 8) = a := Fin.ext (by show (128 * a.val + b) / 128 = a.val; omega)
  have e2 : (⟨(128 * a.val + b) % 128, Nat.mod_lt _ (by decide)⟩ : Fin 128) = ⟨b, hb⟩ := Fin.ext (by show (128 * a.val + b) % 128 = b; omega)
  simp only [e1, e2]
  clear e1 e2
  pointwise
  fin_vals a with ha
  all_goals
    obtain ⟨a, h8⟩ := a
    simp only at ha
    subst ha
    simp only at h ⊢
    repeat rw [dif_neg (by omega)]
    try rw [dif_pos (by omega)]
    exact congrArg _ (congrArg (ix2 i) (Fin.ext (by simp only; omega)))

theorem fuse_apply (o : Fin 8 → FVec Ideal S256x128 .bf16) (w : FVec Ideal S1024x1024 .bf16) (i : Fin 256) (n : Fin 1024) :
    fuse o w (ix2 i n) = ∑ t : Fin 1024, o ⟨t.val / 128, by omega⟩ (ix2 i ⟨t.val % 128, Nat.mod_lt _ (by decide)⟩) * w (ix2 t n) := by
  unfold fuse
  simp only [← beside_apply o]
  generalize concatenate S256x1024 1 _ _ = x
  pointwise

end Cert.KernelIdeal.Hand
-- ==== Proof.ValBuf.lean ====
/-
The kernel's buffers read at an index: the staged heads, the product's rows, the arrived rows, the gathered rows.
-/
module

public import proofs.«01_k».proof.Proof.ValHead
public import proofs.«01_k».proof.Proof.Frames
public import Idealize.ShloMosaic.Lib.ViewIndex

@[expose] public section

set_option maxRecDepth 16384

noncomputable section

namespace Cert.KernelIdeal.Hand

open Cert.KernelIdeal Cert.KernelIdeal.Gen
open Idealize.ShloMosaic
open Idealize.ShloMosaic.TcCoe

variable (m : (ℓ : Loc nD τ sig) → Buf (Elt Ideal) ℓ)

theorem kLd_apply (c : Dev nD) (b : Fin 2) (h : Fin 8) (j : Fin 2048) (k : Fin 128) :
    kLd m c b h (ix3 0 j k) = m ((c : Thread nD τ).loc main_arg2) (ix4 0 j h k) := by
  have e1 : Shape.reshapeEquiv squeezes_S1x2048x128_S2048x128.numel_eq (ix2 j k) = ix3 0 j k := by pointwise
  have e2 : Shape.reshapeEquiv squeezes_S1x2048x1x128_S2048x128.numel_eq (ix2 j k) = ix4 0 j 0 k := by pointwise
  have e := View.read_write_reshape ((ksM.slice (stageR b) (fun _ => rfl)).view) squeezes_S1x2048x128_S2048x128.numel_eq
    (m ((c : Thread nD τ).loc cc0_scratch0)) ((kSl h).view.read (Elt Ideal) (K0 m c)) (ix2 j k)
  rw [e1] at e
  refine Eq.trans e ?_
  show m ((c : Thread nD τ).loc main_arg2) ((kM.slice (hbmR h) (fun _ => rfl)).view.emb
    (Shape.reshapeEquiv squeezes_S1x2048x1x128_S2048x128.numel_eq (ix2 j k))) = _
  rw [e2]
  congr 1
  funext a
  refine Fin.ext ?_
  match a with
  | ⟨0, _⟩ => rfl
  | ⟨1, _⟩ => show 0 + 1 * j.val = j.val; omega
  | ⟨2, _⟩ => show h.val + 1 * 0 = h.val; omega
  | ⟨3, _⟩ => show 0 + 1 * k.val = k.val; omega

theorem vLd_apply (c : Dev nD) (b : Fin 2) (h : Fin 8) (j : Fin 2048) (k : Fin 128) :
    vLd m c b h (ix3 0 j k) = m ((c : Thread nD τ).loc main_arg3) (ix4 0 j h k) := by
  have e1 : Shape.reshapeEquiv squeezes_S1x2048x128_S2048x128.numel_eq (ix2 j k) = ix3 0 j k := by pointwise
  have e2 : Shape.reshapeEquiv squeezes_S1x2048x1x128_S2048x128.numel_eq (ix2 j k) = ix4 0 j 0 k := by pointwise
  have e := View.read_write_reshape ((vsM.slice (stageR b) (fun _ => rfl)).view) squeezes_S1x2048x128_S2048x128.numel_eq
    (m ((c : Thread nD τ).loc cc0_scratch1)) ((vSl h).view.read (Elt Ideal) (V0 m c)) (ix2 j k)
  rw [e1] at e
  refine Eq.trans e ?_
  show m ((c : Thread nD τ).loc main_arg3) ((vM.slice (hbmR h) (fun _ => rfl)).view.emb
    (Shape.reshapeEquiv squeezes_S1x2048x1x128_S2048x128.numel_eq (ix2 j k))) = _
  rw [e2]
  congr 1
  funext a
  refine Fin.ext ?_
  match a with
  | ⟨0, _⟩ => rfl
  | ⟨1, _⟩ => show 0 + 1 * j.val = j.val; omega
  | ⟨2, _⟩ => show h.val + 1 * 0 = h.val; omega
  | ⟨3, _⟩ => show 0 + 1 * k.val = k.val; omega

theorem kB_on (c : Dev nD) (h : Fin 8) (i : S8x2048x128.Idx) (hi : (i 0 : Fin 8) = h) :
    KB m c i = (kbM.access (kbR h)).write (Elt Ideal) (m ((c : Thread nD τ).loc cc0_scratch2)) (k0_pay3 (kLd m c (par h) h)) Finset.univ i := by
  unfold KB; rw [hi]

theorem kbR_zero (h : Fin 8) (x : S1x2048x128.Idx) : (((kbM.access (kbR h)).emb x : S8x2048x128.Idx) 0 : Fin 8) = h := by
  refine Fin.ext ?_
  have : (x 0).val = 0 := by have := (x 0).isLt; change (x 0).val < 1 at this; omega
  show h.val + 1 * (x 0).val = h.val
  omega

theorem kbLd_eq (c : Dev nD) (h : Fin 8) : kbLd m c h = k0_pay3 (kLd m c (par h) h) := by
  have e : kbLd m c h = (kbM.access (kbR h)).read (Elt Ideal) (KB m c) := rfl
  rw [e]
  funext x
  rw [View.read_apply, kB_on m c h _ (kbR_zero h x), View.write_emb_of_mem _ _ (Finset.mem_univ x), cast_cast, cast_eq]

theorem vB_on (c : Dev nD) (h : Fin 8) (i : S8x2048x256.Idx) (hi : (i 0 : Fin 8) = h) :
    VB m c i = (vbM.access (vbR h)).write (Elt Ideal) (m ((c : Thread nD τ).loc cc0_scratch3)) (k0_pay7 (vLd m c (par h) h)) Finset.univ i := by
  unfold VB; rw [hi]

theorem vbR_zero (h : Fin 8) (x : S1x2048x256.Idx) : (((vbM.access (vbR h)).emb x : S8x2048x256.Idx) 0 : Fin 8) = h := by
  refine Fin.ext ?_
  have : (x 0).val = 0 := by have := (x 0).isLt; change (x 0).val < 1 at this; omega
  show h.val + 1 * (x 0).val = h.val
  omega

theorem vbLd_eq (c : Dev nD) (h : Fin 8) : vbLd m c h = k0_pay7 (vLd m c (par h) h) := by
  have e : vbLd m c h = (vbM.access (vbR h)).read (Elt Ideal) (VB m c) := rfl
  rw [e]
  funext x
  rw [View.read_apply, vB_on m c h _ (vbR_zero h x), View.write_emb_of_mem _ _ (Finset.mem_univ x), cast_cast, cast_eq]

theorem kbLd_apply (c : Dev nD) (h : Fin 8) (j : Fin 2048) (k : Fin 128) :
    kbLd m c h (ix3 0 j k) = m ((c : Thread nD τ).loc main_arg2) (ix4 0 j h k) := by
  rw [kbLd_eq, ← kLd_apply m c (par h) h j k]
  pointwise [k0_pay3]

theorem vbLd_left (c : Dev nD) (h : Fin 8) (j : Fin 2048) (d : Fin 128) :
    vbLd m c h (ix3 0 j ⟨d.val, by omega⟩) = m ((c : Thread nD τ).loc main_arg3) (ix4 0 j h d) := by
  rw [vbLd_eq, ← vLd_apply m c (par h) h j d]
  have := d.isLt
  pointwise [k0_pay7]

theorem vbLd_right (c : Dev nD) (h : Fin 8) (j : Fin 2048) (d : Fin 128) :
    vbLd m c h (ix3 0 j ⟨128 + d.val, by omega⟩) = 1 := by
  rw [vbLd_eq]
  pointwise [k0_pay7]

end Cert.KernelIdeal.Hand
-- ==== Proof.ValPart.lean ====
/-
The value of the kernel's result: each device's product, the reduced rows, the gathered rows, the output.
-/
module

public import proofs.«01_k».proof.Proof.ValBuf

@[expose] public section

set_option maxRecDepth 16384

noncomputable section

namespace Cert.KernelIdeal.Hand

open Cert.KernelIdeal Cert.KernelIdeal.Gen
open Idealize.ShloMosaic
open Idealize.ShloMosaic.TcCoe

variable (m : (ℓ : Loc nD τ sig) → Buf (Elt Ideal) ℓ)

/-- One head's outputs for one block of rows. -/
abbrev headOut (c : Dev nD) (b : Fin 2) (h : Fin 8) : FVec Ideal S256x128 .bf16 :=
  k0_pay22 (qCut (q73 m c) b h) (kbLd m c h) (vbLd m c h)

theorem P0_eq (c : Dev nD) : P0 m c = fuse (headOut m c 0) (w76 m c) := by
  unfold fuse headOut
  rw [← cut_eq (q73 m c) 0 0 0 0 rfl rfl slices_S512x1024_o0_0_S256x128, ← cut_eq (q73 m c) 0 1 0 128 rfl rfl slices_S512x1024_o0_128_S256x128,
    ← cut_eq (q73 m c) 0 2 0 256 rfl rfl slices_S512x1024_o0_256_S256x128, ← cut_eq (q73 m c) 0 3 0 384 rfl rfl slices_S512x1024_o0_384_S256x128,
    ← cut_eq (q73 m c) 0 4 0 512 rfl rfl slices_S512x1024_o0_512_S256x128, ← cut_eq (q73 m c) 0 5 0 640 rfl rfl slices_S512x1024_o0_640_S256x128,
    ← cut_eq (q73 m c) 0 6 0 768 rfl rfl slices_S512x1024_o0_768_S256x128, ← cut_eq (q73 m c) 0 7 0 896 rfl rfl slices_S512x1024_o0_896_S256x128]
  rfl

theorem P1_eq (c : Dev nD) : P1 m c = fuse (headOut m c 1) (w76 m c) := by
  unfold fuse headOut
  rw [← cut_eq (q73 m c) 1 0 256 0 rfl rfl slices_S512x1024_o256_0_S256x128, ← cut_eq (q73 m c) 1 1 256 128 rfl rfl slices_S512x1024_o256_128_S256x128,
    ← cut_eq (q73 m c) 1 2 256 256 rfl rfl slices_S512x1024_o256_256_S256x128, ← cut_eq (q73 m c) 1 3 256 384 rfl rfl slices_S512x1024_o256_384_S256x128,
    ← cut_eq (q73 m c) 1 4 256 512 rfl rfl slices_S512x1024_o256_512_S256x128, ← cut_eq (q73 m c) 1 5 256 640 rfl rfl slices_S512x1024_o256_640_S256x128,
    ← cut_eq (q73 m c) 1 6 256 768 rfl rfl slices_S512x1024_o256_768_S256x128, ← cut_eq (q73 m c) 1 7 256 896 rfl rfl slices_S512x1024_o256_896_S256x128]
  rfl

theorem PB_eq (c : Dev nD) (b : Fin 2) : PB m c b = fuse (headOut m c b) (w76 m c) := by
  unfold PB
  fin_cases b
  · exact P0_eq m c
  · exact P1_eq m c

/-- Row `256 b + r` of a device's product. -/
theorem Part_apply (c : Dev nD) (b : Fin 2) (r : Fin 256) (n : Fin 1024) (i : Fin 512) (hi : i.val = 256 * b.val + r.val) :
    Part m c (ix2 i n) = PB m c b (ix2 r n) := by
  have e : (ix2 i n : S512x1024.Idx) = (ptM.access (blkR b)).emb (ix2 r n) := by
    funext a
    refine Fin.ext ?_
    match a with
    | ⟨0, _⟩ => show i.val = 256 * b.val + 1 * r.val; omega
    | ⟨1, _⟩ => show n.val = 0 + 1 * n.val; omega
  have hm : (ix2 i n : S512x1024.Idx) ∈ (ptM.access (blkR b)).set := by rw [e]; exact View.emb_mem_set _ _
  rw [← Part_on m c b (m ((c : Thread nD τ).loc cc0_scratch4)) _ hm, e, View.write_emb_of_mem _ _ (Finset.mem_univ _)]
  rfl

theorem ownLd_apply (c : Dev nD) (r : Fin 32) (n : Fin 1024) :
    ownLd m c (ix2 r n) = Part m c (ix2 ⟨32 * c.val + r.val, by have : c.val < 16 := c.isLt; omega⟩ n) := by
  unfold ownLd
  have o0 : k0_off33 c 0 = 32 * c.val := by rw [off_own]; rfl
  have o1 : k0_off33 c 1 = 0 := by rw [off_own]; rfl
  rw [View.readAt_apply]
  show Part m c _ = _
  congr 1
  funext a
  refine Fin.ext ?_
  match a with
  | ⟨0, _⟩ => show k0_off33 c 0 + 1 * r.val = 32 * c.val + r.val; omega
  | ⟨1, _⟩ => show k0_off33 c 1 + 1 * n.val = n.val; omega

theorem rsLd_apply (c p : Dev nD) (fr : Vec Ideal S16x32x1024 .bf16) (hp : p ≠ c) (r : Fin 32) (n : Fin 1024) :
    rsLd m c fr p (ix3 0 r n) = Part m p (ix2 ⟨32 * c.val + r.val, by have : c.val < 16 := c.isLt; omega⟩ n) := by
  have e1 : Shape.reshapeEquiv squeezes_S1x32x1024_S32x1024.numel_eq (ix2 r n) = ix3 0 r n := by pointwise
  have h0 : (((rsM.slice (rsR p) (fun _ => rfl)).view.emb (ix3 0 r n) : S16x32x1024.Idx) 0 : Dev nD) = p :=
    Fin.ext (by show p.val + 1 * 0 = p.val; omega)
  have on : ∀ i : S16x32x1024.Idx, (i 0 : Dev nD) = p → RS m c fr i
      = (rsSl p).view.write (Elt Ideal) (m ((c : Thread nD τ).loc cc0_scratch5)) ((ptRow c).view.read (Elt Ideal) (Part m p)) Finset.univ i := by
    intro i hi
    have : ¬ (i 0).val = c.val := fun e => hp (hi.symm.trans (Fin.ext e))
    unfold RS RSp
    rw [if_neg this, hi]
  have e := View.read_write_reshape ((rsM.slice (rsR p) (fun _ => rfl)).view) squeezes_S1x32x1024_S32x1024.numel_eq
    (m ((c : Thread nD τ).loc cc0_scratch5)) ((ptRow c).view.read (Elt Ideal) (Part m p)) (ix2 r n)
  rw [e1, View.read_apply] at e
  have e2 : rsLd m c fr p = (rsM.slice (rsR p) (fun _ => rfl)).view.read (Elt Ideal) (RS m c fr) := rfl
  rw [e2, View.read_apply, on _ h0]
  refine Eq.trans e ?_
  rw [View.read_apply]
  show Part m p _ = _
  congr 1
  funext a
  refine Fin.ext ?_
  match a with
  | ⟨0, _⟩ => show 32 * c.val + 1 * r.val = 32 * c.val + r.val; omega
  | ⟨1, _⟩ => show 0 + 1 * n.val = n.val; omega

theorem addAll_apply (o : Vec Ideal S32x1024 .bf16) (g : Dev nD → FVec Ideal S32x1024 .f32) (j : S32x1024.Idx) :
    addAll o g j = o j + ∑ p : Dev nD, g p j := by
  have e : ∑ p : Dev nD, g p j = ∑ p : Fin 16, g p j := rfl
  rw [e]
  simp only [Fin.sum_univ_castSucc, Fin.sum_univ_zero, zero_add]
  pointwise [addAll]
  simp only [add_assoc]
  rfl

/-- The reduced rows: the sum of all devices' products. -/
theorem Red_apply (c : Dev nD) (r : Fin 32) (n : Fin 1024) :
    Red m c (ix2 r n) = ∑ p : Dev nD, Part m p (ix2 ⟨32 * c.val + r.val, by have : c.val < 16 := c.isLt; omega⟩ n) := by
  have hg : ∀ p : Dev nD, masked c (rsLd m c (m ((c : Thread nD τ).loc cc0_scratch5))) p (ix2 r n)
      = if p = c then (0 : EReal) else Part m p (ix2 ⟨32 * c.val + r.val, by have : c.val < 16 := c.isLt; omega⟩ n) := by
    intro p
    by_cases hp : p = c
    · subst hp
      rw [masked_own, if_pos rfl]
      pointwise
    · rw [masked_other c _ p hp, if_neg hp, ← rsLd_apply m c p (m ((c : Thread nD τ).loc cc0_scratch5)) hp r n]
      pointwise
  have e : Red m c (ix2 r n) = addAll (ownLd m c) (masked c (rsLd m c (m ((c : Thread nD τ).loc cc0_scratch5)))) (ix2 r n) := by
    unfold Red
    rw [sum49_eq]
    generalize addAll (ownLd m c) (masked c (rsLd m c (m ((c : Thread nD τ).loc cc0_scratch5)))) = y
    pointwise
  rw [e, addAll_apply, ownLd_apply, Finset.sum_congr rfl fun p _ => hg p, ← Finset.add_sum_erase Finset.univ _ (Finset.mem_univ c), if_pos rfl, zero_add,
    ← Finset.add_sum_erase Finset.univ (fun p : Dev nD => Part m p _) (Finset.mem_univ c)]
  congr 1
  exact Finset.sum_congr rfl fun p hp => if_neg (Finset.ne_of_mem_erase hp)

theorem AG_apply (c : Dev nD) (i : Fin 512) (n : Fin 1024) : AG m c (ix2 i n) = ∑ p : Dev nD, Part m p (ix2 i n) := by
  have hi := i.isLt
  have e0 : rowOf (ix2 i n) = ⟨i.val / 32, by show i.val / 32 < 16; omega⟩ := rfl
  have e : (ix2 i n : S512x1024.Idx) = (agRow (rowOf (ix2 i n))).view.emb (ix2 ⟨i.val % 32, Nat.mod_lt _ (by decide)⟩ n) := by
    funext a
    refine Fin.ext ?_
    match a with
    | ⟨0, _⟩ => show i.val = 32 * (i.val / 32) + 1 * (i.val % 32); omega
    | ⟨1, _⟩ => show n.val = 0 + 1 * n.val; omega
  have on : ∀ p : Dev nD, rowOf (ix2 i n) = p → ∀ x : S32x1024.Idx, (ix2 i n : S512x1024.Idx) = (agRow p).view.emb x → AG m c (ix2 i n) = Red m p x := by
    intro p hp x hx
    have : AG m c (ix2 i n) = (agRow p).view.write (Elt Ideal) (m ((c : Thread nD τ).loc cc0_scratch7)) (Red m p) Finset.univ (ix2 i n) := by
      unfold AG; rw [hp]
    rw [this, hx, View.write_emb_of_mem _ _ (Finset.mem_univ _)]
    rfl
  rw [on _ rfl _ e, Red_apply]
  refine Finset.sum_congr rfl fun p _ => ?_
  congr 2
  exact Fin.ext (by show 32 * (i.val / 32) + i.val % 32 = i.val; omega)

theorem outV_apply (c : Dev nD) (i : Fin 512) (n : Fin 1024) : outV m c (ix3 0 i n) = ∑ p : Dev nD, Part m p (ix2 i n) := by
  have e : agM.view.readAt (Elt Ideal) (Rect.unit (s := S512x1024) ![0, 0] S512x1024.size inb_S512x1024_S512x1024_0_0).toLoadRect (AG m c) = AG m c :=
    Memref.readAt_unit_zero (Elt Ideal) cc0_scratch7 (off := ![0, 0]) (by decide) _ _
  unfold outV
  rw [e, ← AG_apply m c i n]
  pointwise [k0_pay52, k0_pay51]

end Cert.KernelIdeal.Hand
-- ==== Proof.ValSoft.lean ====
/-
Softmax attention on extended reals: the running form over two halves of the keys against the plain quotient.
-/
module

public import Idealize.ShloMosaic.Lib.Pointwise

@[expose] public section

set_option maxRecDepth 16384

noncomputable section

namespace Cert.KernelIdeal.Hand

open Idealize.ShloMosaic
open Idealize.ShloMosaic.TcCoe

/-- A positive real factor comes out of a sum. -/
theorem sum_scale {ι : Type*} (s : Finset ι) (c : ℝ) (hc : 0 ≤ c) (f : ι → EReal) :
    ∑ j ∈ s, (c : EReal) * f j = (c : EReal) * ∑ j ∈ s, f j := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

theorem coe_sum {ι : Type*} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The quotient does not see a common positive factor. -/
theorem div_scale (c L : ℝ) (hc : 0 < c) (hL : 0 < L) (A : EReal) :
    Ideal.div ((c : EReal) * A) ((c : EReal) * (L : EReal)) = Ideal.div A (L : EReal) := by
  rw [← EReal.coe_mul, Ideal.div_coe (mul_pos hc hL).ne', Ideal.div_coe hL.ne', mul_comm (c : EReal) A, mul_assoc, ← EReal.coe_mul]
  congr 2
  field_simp

theorem real_max (a b : ℝ) : ((max a b : ℝ) : EReal) = max (a : EReal) (b : EReal) :=
  EReal.coe_strictMono.monotone.map_max

/-- The greatest of finitely many reals, at least one of them, over the bottom is a real. -/
theorem fold_max_real (n : ℕ) (s : Fin (n + 1) → ℝ) :
    ∃ M : ℝ, (Finset.univ : Finset (Fin (n + 1))).fold max (⊥ : EReal) (fun j => (s j : EReal)) = (M : EReal) := by
  have key : ∀ t : Finset (Fin (n + 1)), t.Nonempty → ∃ M : ℝ, t.fold max (⊥ : EReal) (fun j => (s j : EReal)) = (M : EReal) := by
    intro t ht
    classical
    induction ht using Finset.Nonempty.cons_induction with
    | singleton a => exact ⟨s a, by simp⟩
    | cons a t ha ht ih =>
      obtain ⟨M, hM⟩ := ih
      exact ⟨max (s a) M, by rw [Finset.fold_cons, hM, real_max]⟩
  exact key _ Finset.univ_nonempty

/-- One entry of the attention: the weighted mean of `v` under the weights `exp s`. -/
def soft {n : ℕ} (s : Fin n → ℝ) (v : Fin n → EReal) : EReal :=
  Ideal.div (∑ j, (Real.exp (s j) : EReal) * v j) (∑ j, (Real.exp (s j) : EReal))

/-- The running form over two halves, each with its greatest score taken out, gives the plain quotient. -/
theorem soft_stream {n : ℕ} (s1 s2 : Fin (n + 1) → ℝ) (v1 v2 : Fin (n + 1) → EReal) (m1 m2 : EReal)
    (h1 : m1 = max ⊥ ((Finset.univ : Finset (Fin (n + 1))).fold max (⊥ : EReal) (fun j => (s1 j : EReal))))
    (h2 : m2 = max m1 ((Finset.univ : Finset (Fin (n + 1))).fold max (⊥ : EReal) (fun j => (s2 j : EReal)))) :
    Ideal.div
      ((0 * Ideal.exp (⊥ - m1) + ∑ j, v1 j * Ideal.exp ((s1 j : EReal) - m1)) * Ideal.exp (m1 - m2)
        + ∑ j, v2 j * Ideal.exp ((s2 j : EReal) - m2))
      ((0 * Ideal.exp (⊥ - m1) + ∑ j, Ideal.exp ((s1 j : EReal) - m1)) * Ideal.exp (m1 - m2)
        + ∑ j, Ideal.exp ((s2 j : EReal) - m2))
      = Ideal.div (∑ j, (Real.exp (s1 j) : EReal) * v1 j + ∑ j, (Real.exp (s2 j) : EReal) * v2 j)
          (∑ j, (Real.exp (s1 j) : EReal) + ∑ j, (Real.exp (s2 j) : EReal)) := by
  obtain ⟨M1, e1⟩ := fold_max_real n s1
  obtain ⟨N, e2⟩ := fold_max_real n s2
  rw [e1, max_eq_right bot_le] at h1
  subst h1
  rw [e2, ← real_max] at h2
  generalize max M1 N = M2 at h2
  subst h2
  have hx : ∀ a b : ℝ, Ideal.exp ((a : EReal) - (b : EReal)) = ((Real.exp (-b) : ℝ) : EReal) * ((Real.exp a : ℝ) : EReal) := by
    intro a b
    rw [← EReal.coe_sub, Ideal.exp_coe, ← EReal.coe_mul, ← Real.exp_add, sub_eq_neg_add]
  have hp : ∀ a b : ℝ, ∀ v : EReal, v * Ideal.exp ((a : EReal) - (b : EReal)) = ((Real.exp (-b) : ℝ) : EReal) * (((Real.exp a : ℝ) : EReal) * v) := by
    intro a b v
    rw [hx, mul_comm, mul_assoc]
  simp only [hp, zero_mul, zero_add]
  simp only [hx]
  rw [sum_scale _ _ (Real.exp_pos _).le, sum_scale _ _ (Real.exp_pos _).le, sum_scale _ _ (Real.exp_pos _).le, sum_scale _ _ (Real.exp_pos _).le]
  have hM : ∀ A : EReal, ((Real.exp M1 : ℝ) : EReal) * (((Real.exp (-M1) : ℝ) : EReal) * A) = A := by
    intro A
    rw [← mul_assoc, ← EReal.coe_mul, ← Real.exp_add]
    simp
  simp only [hM]
  have h0 : 0 ≤ ((Real.exp (-M2) : ℝ) : EReal) := by exact_mod_cast (Real.exp_pos _).le
  rw [← EReal.left_distrib_of_nonneg_of_ne_top h0 (EReal.coe_ne_top _), ← EReal.left_distrib_of_nonneg_of_ne_top h0 (EReal.coe_ne_top _)]
  simp only [coe_sum, ← EReal.coe_add]
  refine div_scale _ _ (Real.exp_pos _) ?_ _
  exact add_pos (Finset.sum_pos (fun _ _ => Real.exp_pos _) Finset.univ_nonempty) (Finset.sum_pos (fun _ _ => Real.exp_pos _) Finset.univ_nonempty)

end Cert.KernelIdeal.Hand
-- ==== Proof.ValRef.lean ====
/-
The reference's result: its two passes over halves of the keys, read at an index.
-/
module

public import proofs.«01_k».proof.Proof.Gen.ReferenceIdeal.Run
public import proofs.«01_k».proof.Proof.ValSoft
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen
open Idealize.ShloMosaic
open Idealize.ShloMosaic.TcCoe

section

variable {F : FTy → Type} [FloatOps F]

/-- The queries by head. -/
def qv (X : FVec F S1x512x1024 .f32) (W : FVec F S1024x16384 .f32) : FVec F S1x512x128x128 .f32 :=
  shapeCast _ (Host.dotGeneral dot_S1x512x1024_S1024x16384_S1x512x16384_2_0_01_1_n_n none X W) shapeCasts_S1x512x16384_S1x512x128x128

/-- The scores against one half of the keys. -/
def sv (q : FVec F S1x512x128x128 .f32) (k : FVec F S1x1024x128x128 .f32) : FVec F S1x128x512x1024 .f32 :=
  mulf (Host.dotGeneral dot_S1x512x128x128_S1x1024x128x128_S1x128x512x1024_3_3_1_1_02_02 none q k)
    (broadcastInDim S1x128x512x1024 ![] bcast_S_S1x128x512x1024 (constant S_ .f32 0x3DB504F3#32))

/-- The greatest score so far. -/
def mv (p : FVec F S1x128x512x1 .f32) (s : FVec F S1x128x512x1024 .f32) : FVec F S1x128x512x1 .f32 :=
  maximumf p (broadcastInDim S1x128x512x1 ![0, 1, 2] bcast_S1x128x512_S1x128x512x1_0_1_2
    (Host.reduce FloatOps.maximumf s (constant S_ .f32 0xFF800000#32) reducesTo_S1x128x512x1024_S1x128x512_d3 h_S_))

/-- The weights under a greatest score. -/
def pv (s : FVec F S1x128x512x1024 .f32) (g : FVec F S1x128x512x1 .f32) : FVec F S1x128x512x1024 .f32 :=
  Host.exp (subf s (broadcastInDim S1x128x512x1024 ![0, 1, 2, 3] bcast_S1x128x512x1_S1x128x512x1024_0_1_2_3 g))

/-- The factor that takes sums under an old greatest score to the new one. -/
def av (p g : FVec F S1x128x512x1 .f32) : FVec F S1x128x512x1 .f32 := Host.exp (subf p g)

/-- The running sum of the weights. -/
def lv (l a : FVec F S1x128x512x1 .f32) (w : FVec F S1x128x512x1024 .f32) : FVec F S1x128x512x1 .f32 :=
  addf (mulf l a) (broadcastInDim S1x128x512x1 ![0, 1, 2] bcast_S1x128x512_S1x128x512x1_0_1_2
    (Host.reduceAdd w (constant S_ .f32 0x00000000#32) reducesTo_S1x128x512x1024_S1x128x512_d3 h_S_))

/-- The running weighted sum of the values. -/
def ov (o : FVec F S1x512x128x128 .f32) (a : FVec F S1x128x512x1 .f32) (v : FVec F S1x1024x128x128 .f32)
    (w : FVec F S1x128x512x1024 .f32) : FVec F S1x512x128x128 .f32 :=
  addf (mulf o (broadcastInDim S1x512x128x128 ![0, 1, 2, 3] bcast_S1x512x128x1_S1x512x128x128_0_1_2_3
      (transpose S1x512x128x1 [0, 2, 1, 3] a transposes_S1x128x512x1_S1x512x128x1_0_2_1_3)))
    (transpose S1x512x128x128 [0, 3, 1, 2]
      (Host.dotGeneral dot_S1x1024x128x128_S1x128x512x1024_S1x128x128x512_1_3_3_2_02_01 none v w) transposes_S1x128x128x512_S1x512x128x128_0_3_1_2)

/-- The quotient times the output weights. -/
def rv (o : FVec F S1x512x128x128 .f32) (l : FVec F S1x128x512x1 .f32) (O : FVec F S16384x1024 .f32) : FVec F S1x512x1024 .f32 :=
  Host.dotGeneral dot_S1x512x16384_S16384x1024_S1x512x1024_2_0_01_1_n_n none
    (shapeCast _ (Host.divf o (broadcastInDim S1x512x128x128 ![0, 1, 2, 3] bcast_S1x512x128x1_S1x512x128x128_0_1_2_3
      (transpose S1x512x128x1 [0, 2, 1, 3] l transposes_S1x128x512x1_S1x512x128x1_0_2_1_3))) shapeCasts_S1x512x128x128_S1x512x16384) O

def lo (k : FVec F S1x2048x128x128 .f32) : FVec F S1x1024x128x128 .f32 :=
  extractStridedSlice S1x1024x128x128 ![0, 0, 0, 0] k slices_S1x2048x128x128_S1x1024x128x128_0_0_0_0
def hi (k : FVec F S1x2048x128x128 .f32) : FVec F S1x1024x128x128 .f32 :=
  extractStridedSlice S1x1024x128x128 ![0, 1024, 0, 0] k slices_S1x2048x128x128_S1x1024x128x128_0_1024_0_0
def m0 : FVec F S1x128x512x1 .f32 := broadcastInDim S1x128x512x1 ![] bcast_S_S1x128x512x1 (constant S_ .f32 0xFF800000#32)
def l0 : FVec F S1x128x512x1 .f32 := broadcastInDim S1x128x512x1 ![] bcast_S_S1x128x512x1 (constant S_ .f32 0x00000000#32)
def o0 : FVec F S1x512x128x128 .f32 := broadcastInDim S1x512x128x128 ![] bcast_S_S1x512x128x128 (constant S_ .f32 0x00000000#32)

def m1 (s1 : FVec F S1x128x512x1024 .f32) : FVec F S1x128x512x1 .f32 := mv m0 s1
def m2 (s1 s2 : FVec F S1x128x512x1024 .f32) : FVec F S1x128x512x1 .f32 := mv (m1 s1) s2
def l2 (s1 s2 : FVec F S1x128x512x1024 .f32) : FVec F S1x128x512x1 .f32 :=
  lv (lv l0 (av m0 (m1 s1)) (pv s1 (m1 s1))) (av (m1 s1) (m2 s1 s2)) (pv s2 (m2 s1 s2))
def o2 (s1 s2 : FVec F S1x128x512x1024 .f32) (v1 v2 : FVec F S1x1024x128x128 .f32) : FVec F S1x512x128x128 .f32 :=
  ov (ov o0 (av m0 (m1 s1)) v1 (pv s1 (m1 s1))) (av (m1 s1) (m2 s1 s2)) v2 (pv s2 (m2 s1 s2))

/-- The whole result of the arguments. -/
def res (X : FVec F S1x512x1024 .f32) (W : FVec F S1024x16384 .f32) (K V : FVec F S1x2048x128x128 .f32)
    (O : FVec F S16384x1024 .f32) : FVec F S1x512x1024 .f32 :=
  rv (o2 (sv (qv X W) (lo K)) (sv (qv X W) (hi K)) (lo V) (hi V)) (l2 (sv (qv X W) (lo K)) (sv (qv X W) (hi K))) O

theorem res_eq (X : FVec F S1x512x1024 .f32) (W : FVec F S1024x16384 .f32) (K V : FVec F S1x2048x128x128 .f32)
    (O : FVec F S16384x1024 .f32) (m : (ℓ : Loc nD τ sig) → Buf (Elt F) ℓ) (c : Dev nD)
    (hX : m ((c.tc : Thread nD τ).loc main_arg0) = X) (hW : m ((c.tc : Thread nD τ).loc main_arg1) = W)
    (hK : m ((c.tc : Thread nD τ).loc main_arg2) = K) (hV : m ((c.tc : Thread nD τ).loc main_arg3) = V)
    (hO : m ((c.tc : Thread nD τ).loc main_arg4) = O) :
    Cert.ReferenceIdeal.Value.res_main_v55 m c = res X W K V O := by
  unfold Cert.ReferenceIdeal.Value.res_main_v55
  rw [hX, hW, hK, hV, hO]
  clean_types
  generalize eq : shapeCast _ (Host.dotGeneral dot_S1x512x1024_S1024x16384_S1x512x16384_2_0_01_1_n_n none X W) shapeCasts_S1x512x16384_S1x512x128x128 = q
  generalize e1 : mulf (Host.dotGeneral dot_S1x512x128x128_S1x1024x128x128_S1x128x512x1024_3_3_1_1_02_02 none q (extractStridedSlice S1x1024x128x128 ![0, 0, 0, 0] K slices_S1x2048x128x128_S1x1024x128x128_0_0_0_0)) (broadcastInDim S1x128x512x1024 ![] bcast_S_S1x128x512x1024 (constant S_ .f32 0x3DB504F3#32)) = s1
  generalize e2 : mulf (Host.dotGeneral dot_S1x512x128x128_S1x1024x128x128_S1x128x512x1024_3_3_1_1_02_02 none q (extractStridedSlice S1x1024x128x128 ![0, 1024, 0, 0] K slices_S1x2048x128x128_S1x1024x128x128_0_1024_0_0)) (broadcastInDim S1x128x512x1024 ![] bcast_S_S1x128x512x1024 (constant S_ .f32 0x3DB504F3#32)) = s2
  have h1 : sv (qv X W) (lo K) = s1 := by rw [← e1, ← eq]; rfl
  have h2 : sv (qv X W) (hi K) = s2 := by rw [← e2, ← eq]; rfl
  unfold res
  rw [h1, h2]
  clear h1 h2 e1 e2 eq
  simp only [rv, o2, l2, ov, lv, av, pv, mv, m1, m2, m0, l0, o0, lo, hi]

end

theorem sv_apply (X : FVec Ideal S1x512x1024 .f32) (W : FVec Ideal S1024x16384 .f32) (k : FVec Ideal S1x1024x128x128 .f32)
    (h : Fin 128) (i : Fin 512) (j : Fin 1024) :
    sv (qv X W) k (ix4 0 h i j) = (∑ d : Fin 128, (∑ t : Fin 1024, X (ix3 0 i t) * W (ix2 t ⟨h.val * 128 + d.val, by omega⟩)) * k (ix4 0 j h d))
      * Ideal.ofBits .f32 0x3DB504F3#32 := by
  pointwise [sv, qv]

theorem top_apply (s : FVec Ideal S1x128x512x1024 .f32) (h : Fin 128) (i : Fin 512) :
    Host.reduce FloatOps.maximumf s (constant S_ .f32 0xFF800000#32) reducesTo_S1x128x512x1024_S1x128x512_d3 h_S_ (ix3 0 h i)
      = (Finset.univ : Finset (Fin 1024)).fold max (Ideal.ofBits .f32 0xFF800000#32) fun j => s (ix4 0 h i j) := by
  have r : S1x128x512x1024.Reduces [3] S1x128x512 := by decide
  rw [Host.reduce_eq_fold, Shape.ReducesTo.drop_eq_drop reducesTo_S1x128x512x1024_S1x128x512_d3 r]
  refine Eq.trans (r.fold_filter_drop_single _ _ s (ix3 0 h i)) ?_
  refine Finset.fold_congr fun j _ => ?_
  show s (r.lift (ix3 0 h i) j) = s (ix4 0 h i j)
  congr 1
  funext a
  refine Fin.ext ?_
  match a with
  | ⟨0, _⟩ => rfl
  | ⟨1, _⟩ => rfl
  | ⟨2, _⟩ => rfl
  | ⟨3, _⟩ => rfl

theorem spread_apply (g : FVec Ideal S1x128x512 .f32) (h : Fin 128) (i : Fin 512) :
    broadcastInDim S1x128x512x1 ![0, 1, 2] bcast_S1x128x512_S1x128x512x1_0_1_2 g (ix4 0 h i 0) = g (ix3 0 h i) := by
  refine broadcastInDim_apply _ _ g _ _ fun a => ?_
  match a with
  | ⟨0, _⟩ => rfl
  | ⟨1, _⟩ => rfl
  | ⟨2, _⟩ => rfl

theorem mv_apply (p : FVec Ideal S1x128x512x1 .f32) (s : FVec Ideal S1x128x512x1024 .f32) (h : Fin 128) (i : Fin 512) :
    mv p s (ix4 0 h i 0) = max (p (ix4 0 h i 0)) ((Finset.univ : Finset (Fin 1024)).fold max (Ideal.ofBits .f32 0xFF800000#32) fun j => s (ix4 0 h i j)) := by
  have e := (spread_apply _ h i).trans (top_apply s h i)
  exact congrArg (fun t : EReal => max (p (ix4 0 h i 0)) t) e

theorem pv_apply (s : FVec Ideal S1x128x512x1024 .f32) (g : FVec Ideal S1x128x512x1 .f32) (h : Fin 128) (i : Fin 512) (j : Fin 1024) :
    pv s g (ix4 0 h i j) = Ideal.exp (s (ix4 0 h i j) - g (ix4 0 h i 0)) := by
  pointwise [pv]

theorem av_apply (p g : FVec Ideal S1x128x512x1 .f32) (h : Fin 128) (i : Fin 512) :
    av p g (ix4 0 h i 0) = Ideal.exp (p (ix4 0 h i 0) - g (ix4 0 h i 0)) := by
  pointwise [av]

theorem lv_apply (l a : FVec Ideal S1x128x512x1 .f32) (w : FVec Ideal S1x128x512x1024 .f32) (h : Fin 128) (i : Fin 512) :
    lv l a w (ix4 0 h i 0) = l (ix4 0 h i 0) * a (ix4 0 h i 0) + ∑ j : Fin 1024, w (ix4 0 h i j) := by
  pointwise [lv]

theorem ov_apply (o : FVec Ideal S1x512x128x128 .f32) (a : FVec Ideal S1x128x512x1 .f32) (v : FVec Ideal S1x1024x128x128 .f32)
    (w : FVec Ideal S1x128x512x1024 .f32) (i : Fin 512) (h d : Fin 128) :
    ov o a v w (ix4 0 i h d) = o (ix4 0 i h d) * a (ix4 0 h i 0) + ∑ j : Fin 1024, v (ix4 0 j h d) * w (ix4 0 h i j) := by
  pointwise [ov]

theorem rv_apply (o : FVec Ideal S1x512x128x128 .f32) (l : FVec Ideal S1x128x512x1 .f32) (O : FVec Ideal S16384x1024 .f32) (i : Fin 512) (n : Fin 1024) :
    rv o l O (ix3 0 i n) = ∑ t : Fin 16384, Ideal.div (o (ix4 0 i ⟨t.val / 128, by omega⟩ ⟨t.val % 128, Nat.mod_lt _ (by decide)⟩))
      (l (ix4 0 ⟨t.val / 128, by omega⟩ i 0)) * O (ix2 t n) := by
  pointwise [rv]

end Cert.ReferenceIdeal.Hand
-- ==== Proof.ValRes.lean ====
/-
The reference's result at an index when the scores are real: one softmax over all the keys.
-/
module

public import proofs.«01_k».proof.Proof.ValRef

@[expose] public section

set_option maxRecDepth 16384

noncomputable section

namespace Cert.ReferenceIdeal.Hand

open Cert.ReferenceIdeal Cert.ReferenceIdeal.Gen
open Idealize.ShloMosaic
open Idealize.ShloMosaic.TcCoe

theorem soft_pos {n : ℕ} (hn : 0 < n) (s1 s2 : Fin n → ℝ) (v1 v2 : Fin n → EReal) (m1 m2 : EReal)
    (h1 : m1 = max ⊥ ((Finset.univ : Finset (Fin n)).fold max (⊥ : EReal) (fun j => (s1 j : EReal))))
    (h2 : m2 = max m1 ((Finset.univ : Finset (Fin n)).fold max (⊥ : EReal) (fun j => (s2 j : EReal)))) :
    Ideal.div
      ((0 * Ideal.exp (⊥ - m1) + ∑ j, v1 j * Ideal.exp ((s1 j : EReal) - m1)) * Ideal.exp (m1 - m2)
        + ∑ j, v2 j * Ideal.exp ((s2 j : EReal) - m2))
      ((0 * Ideal.exp (⊥ - m1) + ∑ j, Ideal.exp ((s1 j : EReal) - m1)) * Ideal.exp (m1 - m2)
        + ∑ j, Ideal.exp ((s2 j : EReal) - m2))
      = Ideal.div (∑ j, (Real.exp (s1 j) : EReal) * v1 j + ∑ j, (Real.exp (s2 j) : EReal) * v2 j)
          (∑ j, (Real.exp (s1 j) : EReal) + ∑ j, (Real.exp (s2 j) : EReal)) := by
  obtain ⟨k, rfl⟩ := Nat.exists_eq_succ_of_ne_zero hn.ne'
  exact Cert.KernelIdeal.Hand.soft_stream s1 s2 v1 v2 m1 m2 h1 h2

theorem lo_apply (k : FVec Ideal S1x2048x128x128 .f32) (j : Fin 1024) (h d : Fin 128) :
    lo k (ix4 0 j h d) = k (ix4 0 ⟨j.val, by omega⟩ h d) := by
  pointwise [lo]

theorem hi_apply (k : FVec Ideal S1x2048x128x128 .f32) (j : Fin 1024) (h d : Fin 128) :
    hi k (ix4 0 j h d) = k (ix4 0 ⟨1024 + j.val, by omega⟩ h d) := by
  pointwise [hi]

/-- The bits of minus infinity. -/
theorem bits_bot : Ideal.ofBits .f32 0xFF800000#32 = (⊥ : EReal) := by
  simp [Ideal.ofBits, Ideal.ieee]

theorem m0_apply (h : Fin 128) (i : Fin 512) : m0 (F := Ideal) (ix4 0 h i 0) = (⊥ : EReal) := by
  rw [← bits_bot]
  rfl

theorem l0_apply (h : Fin 128) (i : Fin 512) : l0 (F := Ideal) (ix4 0 h i 0) = (0 : EReal) :=
  Ideal.ofBits_zero_f32

theorem o0_apply (i : Fin 512) (h d : Fin 128) : o0 (F := Ideal) (ix4 0 i h d) = (0 : EReal) :=
  Ideal.ofBits_zero_f32

/-- A sum over all the keys, by halves. -/
theorem sum_keys (f : Fin 2048 → EReal) :
    ∑ j : Fin 1024, f ⟨j.val, by omega⟩ + ∑ j : Fin 1024, f ⟨1024 + j.val, by omega⟩ = ∑ j : Fin 2048, f j := by
  exact (Fin.sum_univ_add (a := 1024) (b := 1024) f).symm

/-- One quotient of the reference: the running sums over both halves come to one softmax. -/
theorem quot_apply (s1 s2 : FVec Ideal S1x128x512x1024 .f32) (v : FVec Ideal S1x2048x128x128 .f32) (h : Fin 128) (i : Fin 512)
    (d : Fin 128) (σ : Fin 2048 → ℝ) (h1 : ∀ j : Fin 1024, s1 (ix4 0 h i j) = (σ ⟨j.val, by omega⟩ : EReal))
    (h2 : ∀ j : Fin 1024, s2 (ix4 0 h i j) = (σ ⟨1024 + j.val, by omega⟩ : EReal)) :
    Ideal.div (o2 s1 s2 (lo v) (hi v) (ix4 0 i h d)) (l2 s1 s2 (ix4 0 h i 0))
      = Ideal.div (∑ j : Fin 2048, (Real.exp (σ j) : EReal) * v (ix4 0 j h d)) (∑ j : Fin 2048, (Real.exp (σ j) : EReal)) := by
  have e1 : m1 s1 (ix4 0 h i 0) = max ⊥ ((Finset.univ : Finset (Fin 1024)).fold max (⊥ : EReal)
      fun j : Fin 1024 => ((σ ⟨j.val, by omega⟩ : ℝ) : EReal)) := by
    unfold m1
    rw [mv_apply, m0_apply, bits_bot]
    exact congrArg (fun t : EReal => max ⊥ t) (Finset.fold_congr fun j _ => h1 j)
  have e2 : m2 s1 s2 (ix4 0 h i 0) = max (m1 s1 (ix4 0 h i 0)) ((Finset.univ : Finset (Fin 1024)).fold max (⊥ : EReal)
      fun j : Fin 1024 => ((σ ⟨1024 + j.val, by omega⟩ : ℝ) : EReal)) := by
    unfold m2
    rw [mv_apply, bits_bot]
    exact congrArg (fun t : EReal => max (m1 s1 (ix4 0 h i 0)) t) (Finset.fold_congr fun j _ => h2 j)
  have key := soft_pos (n := 1024) (by decide) (fun j : Fin 1024 => σ ⟨j.val, by omega⟩) (fun j : Fin 1024 => σ ⟨1024 + j.val, by omega⟩)
    (fun j : Fin 1024 => v (ix4 0 ⟨j.val, by omega⟩ h d)) (fun j : Fin 1024 => v (ix4 0 ⟨1024 + j.val, by omega⟩ h d)) _ _ e1 e2
  unfold o2 l2
  simp only [ov_apply, lv_apply, av_apply, pv_apply, m0_apply, l0_apply, o0_apply, lo_apply, hi_apply, h1, h2]
  refine key.trans ?_
  rw [← sum_keys, ← sum_keys]

theorem res_apply (X : FVec Ideal S1x512x1024 .f32) (W : FVec Ideal S1024x16384 .f32) (K V : FVec Ideal S1x2048x128x128 .f32)
    (O : FVec Ideal S16384x1024 .f32) (i : Fin 512) (n : Fin 1024) (σ : Fin 128 → Fin 2048 → ℝ)
    (h1 : ∀ (h : Fin 128) (j : Fin 1024), sv (qv X W) (lo K) (ix4 0 h i j) = (σ h ⟨j.val, by omega⟩ : EReal))
    (h2 : ∀ (h : Fin 128) (j : Fin 1024), sv (qv X W) (hi K) (ix4 0 h i j) = (σ h ⟨1024 + j.val, by omega⟩ : EReal)) :
    res X W K V O (ix3 0 i n) = ∑ t : Fin 16384, Ideal.div
      (∑ j : Fin 2048, (Real.exp (σ ⟨t.val / 128, by omega⟩ j) : EReal) * V (ix4 0 j ⟨t.val / 128, by omega⟩ ⟨t.val % 128, Nat.mod_lt _ (by decide)⟩))
      (∑ j : Fin 2048, (Real.exp (σ ⟨t.val / 128, by omega⟩ j) : EReal)) * O (ix2 t n) := by
  unfold res
  rw [rv_apply]
  refine Finset.sum_congr rfl fun t _ => ?_
  rw [quot_apply _ _ V _ i _ (σ ⟨t.val / 128, by omega⟩) (h1 _) (h2 _)]

/-- The bits of the scale are a real number. -/
theorem bits_scale : ∃ r : ℝ, Ideal.ofBits .f32 0x3DB504F3#32 = (r : EReal) := by
  have e : Ideal.ieee 8 23 (0x3DB504F3#32) ≠ ⊤ ∧ Ideal.ieee 8 23 (0x3DB504F3#32) ≠ ⊥ := by
    unfold Ideal.ieee
    dsimp only
    rw [if_neg (by decide), if_neg (by decide)]
    exact ⟨EReal.coe_ne_top _, EReal.coe_ne_bot _⟩
  exact ⟨_, (EReal.coe_toReal e.1 e.2).symm⟩

end Cert.ReferenceIdeal.Hand
-- ==== Proof.ValMeet.lean ====
/-
The kernel's result and the reference's, when the arrays of the scores are real: entry by entry the same.
-/
module

public import proofs.«01_k».proof.Proof.ValPart
public import proofs.«01_k».proof.Proof.ValRes
public import Idealize.ShloMosaic.Lib.Pipeline.ValueKit.Acc

@[expose] public section

set_option maxRecDepth 16384

noncomputable section

namespace Cert.KernelIdeal.Hand

open Cert.KernelIdeal Cert.KernelIdeal.Gen
open Idealize.ShloMosaic
open Idealize.ShloMosaic.TcCoe

variable (m : (ℓ : Loc nD τ sig) → Buf (Elt Ideal) ℓ)

/-- The arguments of a device, as arrays of numbers. -/
def argX (c : Dev nD) : FVec Ideal S1x512x1024 .f32 := m ((c : Thread nD τ).loc main_arg0)
def argW (c : Dev nD) : FVec Ideal S1024x1024 .f32 := m ((c : Thread nD τ).loc main_arg1)
def argK (c : Dev nD) : FVec Ideal S1x2048x8x128 .f32 := m ((c : Thread nD τ).loc main_arg2)
def argV (c : Dev nD) : FVec Ideal S1x2048x8x128 .f32 := m ((c : Thread nD τ).loc main_arg3)
def argO (c : Dev nD) : FVec Ideal S1024x1024 .f32 := m ((c : Thread nD τ).loc main_arg4)

theorem query_apply (c : Dev nD) (i : Fin 512) (y : Fin 1024) :
    q73 m c (ix2 i y) = (∑ t : Fin 1024, argX m c (ix3 0 i t) * argW m c (ix2 t y)) * Ideal.ofBits .f32 0x3DB504F3#32 := by
  have e : q73 m c = k0_pay1 (argX m c) (argW m c) := by
    unfold q73 xstg wqstg
    rw [read_0, read_1]
    rfl
  rw [e]
  generalize argX m c = a
  generalize argW m c = b
  pointwise [k0_pay1]

theorem outw_apply (c : Dev nD) (t n : Fin 1024) : w76 m c (ix2 t n) = argO m c (ix2 t n) := by
  have e : w76 m c = k0_pay2 (argO m c) := by
    unfold w76 wostg
    rw [read_2]
    rfl
  rw [e]
  generalize argO m c = a
  pointwise [k0_pay2]

theorem qCut_apply (q : FVec Ideal S512x1024 .bf16) (b : Fin 2) (h : Fin 8) (r : Fin 256) (k : Fin 128) :
    qCut q b h (ix2 r k) = q (ix2 ⟨256 * b.val + r.val, by omega⟩ ⟨128 * h.val + k.val, by omega⟩) := rfl

/-- The weights of one head of a device. -/
def wgtOf (c : Dev nD) (i : Fin 512) (h : Fin 8) (j : Fin 2048) : EReal :=
  Ideal.exp (∑ k : Fin 128, q73 m c (ix2 i ⟨128 * h.val + k.val, by omega⟩) * argK m c (ix4 0 j h k))

theorem wgt_apply (c : Dev nD) (b : Fin 2) (r : Fin 256) (h : Fin 8) (j : Fin 2048) :
    wgt (qCut (q73 m c) b h) (kbLd m c h) r j = wgtOf m c ⟨256 * b.val + r.val, by omega⟩ h j := by
  unfold wgt wgtOf
  refine congrArg Ideal.exp (Finset.sum_congr rfl fun k _ => ?_)
  rw [qCut_apply, kbLd_apply]
  rfl

theorem headOut_apply (c : Dev nD) (b : Fin 2) (r : Fin 256) (h : Fin 8) (d : Fin 128) :
    headOut m c b h (ix2 r d) = Ideal.div (∑ j : Fin 2048, wgtOf m c ⟨256 * b.val + r.val, by omega⟩ h j * argV m c (ix4 0 j h d))
      (∑ j : Fin 2048, wgtOf m c ⟨256 * b.val + r.val, by omega⟩ h j) := by
  unfold headOut
  rw [head_apply]
  refine congrArg₂ Ideal.div (Finset.sum_congr rfl fun j _ => ?_) (Finset.sum_congr rfl fun j _ => ?_)
  · rw [wgt_apply, vbLd_left]
    rfl
  · rw [wgt_apply, vbLd_right]
    exact mul_one _

/-- One entry of a device's part, by heads. -/
theorem Part_entry (c : Dev nD) (i : Fin 512) (n : Fin 1024) :
    Part m c (ix2 i n) = ∑ t : Fin 1024, Ideal.div
      (∑ j : Fin 2048, wgtOf m c i ⟨t.val / 128, by omega⟩ j * argV m c (ix4 0 j ⟨t.val / 128, by omega⟩ ⟨t.val % 128, by omega⟩))
      (∑ j : Fin 2048, wgtOf m c i ⟨t.val / 128, by omega⟩ j) * argO m c (ix2 t n) := by
  have hb : i.val / 256 < 2 := by omega
  have hi : i = ⟨256 * (i.val / 256) + i.val % 256, by omega⟩ := Fin.ext (Nat.div_add_mod i.val 256).symm
  rw [Part_apply m c ⟨i.val / 256, hb⟩ ⟨i.val % 256, by omega⟩ n i (Nat.div_add_mod i.val 256).symm, PB_eq, fuse_apply]
  refine Finset.sum_congr rfl fun t _ => ?_
  rw [outw_apply, headOut_apply, ← hi]

/-- The score of key `j` for row `i` at head `h` of all heads, of real arrays. -/
def score (x : Fin 512 → Fin 1024 → ℝ) (w : Fin 1024 → Fin 16384 → ℝ) (k : Fin 2048 → Fin 128 → Fin 128 → ℝ) (sc : ℝ)
    (i : Fin 512) (h : Fin 128) (j : Fin 2048) : ℝ :=
  (∑ d : Fin 128, (∑ t : Fin 1024, x i t * w t ⟨h.val * 128 + d.val, by omega⟩) * k j h d) * sc

section

variable (x : Fin 512 → Fin 1024 → ℝ) (w : Fin 1024 → Fin 16384 → ℝ) (k : Fin 2048 → Fin 128 → Fin 128 → ℝ) (sc : ℝ)
  (hs : Ideal.ofBits .f32 0x3DB504F3#32 = (sc : EReal))

include hs

theorem sv_real (X : FVec Ideal Cert.ReferenceIdeal.S1x512x1024 .f32) (W : FVec Ideal Cert.ReferenceIdeal.S1024x16384 .f32)
    (k1 : FVec Ideal Cert.ReferenceIdeal.S1x1024x128x128 .f32) (hX : ∀ i t, X (ix3 0 i t) = (x i t : EReal))
    (hW : ∀ t y, W (ix2 t y) = (w t y : EReal)) (h : Fin 128) (i : Fin 512) (j : Fin 1024) (j' : Fin 2048)
    (hK : ∀ d, k1 (ix4 0 j h d) = (k j' h d : EReal)) :
    Cert.ReferenceIdeal.Hand.sv (Cert.ReferenceIdeal.Hand.qv X W) k1 (ix4 0 h i j) = (score x w k sc i h j' : EReal) := by
  rw [Cert.ReferenceIdeal.Hand.sv_apply, hs]
  unfold score
  rw [EReal.coe_mul, ← coe_sum]
  refine congrArg (fun z : EReal => z * (sc : EReal)) (Finset.sum_congr rfl fun d _ => ?_)
  rw [hK, EReal.coe_mul, ← coe_sum]
  refine congrArg (fun z : EReal => z * (k j' h d : EReal)) (Finset.sum_congr rfl fun t _ => ?_)
  rw [hX, hW, EReal.coe_mul]

theorem wgtOf_real (c : Dev nD) (hX : ∀ i t, argX m c (ix3 0 i t) = (x i t : EReal))
    (hW : ∀ t (y : Fin 1024), argW m c (ix2 t y) = (w t ⟨c.val * 1024 + y.val, by have := c.isLt; change c.val < 16 at this; omega⟩ : EReal))
    (hK : ∀ j (h : Fin 8) d, argK m c (ix4 0 j h d) = (k j ⟨c.val * 8 + h.val, by have := c.isLt; change c.val < 16 at this; omega⟩ d : EReal))
    (i : Fin 512) (h : Fin 8) (j : Fin 2048) :
    wgtOf m c i h j = (Real.exp (score x w k sc i ⟨c.val * 8 + h.val, by have := c.isLt; change c.val < 16 at this; omega⟩ j) : EReal) := by
  unfold wgtOf
  rw [← Ideal.exp_coe]
  refine congrArg Ideal.exp ?_
  unfold score
  rw [Finset.sum_mul, ← coe_sum]
  refine Finset.sum_congr rfl fun d _ => ?_
  have e : ∀ t : Fin 1024, argX m c (ix3 0 i t) * argW m c (ix2 t ⟨128 * h.val + d.val, by omega⟩)
      = ((x i t * w t ⟨(c.val * 8 + h.val) * 128 + d.val, by have := c.isLt; change c.val < 16 at this; omega⟩ : ℝ) : EReal) := by
    intro t
    rw [hX, hW, EReal.coe_mul]
    refine congrArg (fun y : Fin 16384 => (x i t : EReal) * (w t y : EReal)) (Fin.ext ?_)
    show c.val * 1024 + (128 * h.val + d.val) = (c.val * 8 + h.val) * 128 + d.val
    omega
  rw [query_apply, hK, hs, Finset.sum_congr rfl fun t _ => e t, coe_sum, ← EReal.coe_mul, ← EReal.coe_mul]
  congr 1
  ring

/-- The kernel's result is the reference's. -/
theorem out_eq (c : Dev nD) (X : FVec Ideal Cert.ReferenceIdeal.S1x512x1024 .f32) (W : FVec Ideal Cert.ReferenceIdeal.S1024x16384 .f32)
    (K V : FVec Ideal Cert.ReferenceIdeal.S1x2048x128x128 .f32) (O : FVec Ideal Cert.ReferenceIdeal.S16384x1024 .f32)
    (hX : ∀ i t, X (ix3 0 i t) = (x i t : EReal)) (hW : ∀ t y, W (ix2 t y) = (w t y : EReal))
    (hK : ∀ j h d, K (ix4 0 j h d) = (k j h d : EReal))
    (aX : ∀ (p : Dev nD) i t, argX m p (ix3 0 i t) = X (ix3 0 i t))
    (aW : ∀ (p : Dev nD) t (y : Fin 1024), argW m p (ix2 t y) = W (ix2 t ⟨p.val * 1024 + y.val, by have := p.isLt; change p.val < 16 at this; omega⟩))
    (aK : ∀ (p : Dev nD) j (h : Fin 8) d, argK m p (ix4 0 j h d) = K (ix4 0 j ⟨p.val * 8 + h.val, by have := p.isLt; change p.val < 16 at this; omega⟩ d))
    (aV : ∀ (p : Dev nD) j (h : Fin 8) d, argV m p (ix4 0 j h d) = V (ix4 0 j ⟨p.val * 8 + h.val, by have := p.isLt; change p.val < 16 at this; omega⟩ d))
    (aO : ∀ (p : Dev nD) (t : Fin 1024) n, argO m p (ix2 t n) = O (ix2 ⟨p.val * 1024 + t.val, by have := p.isLt; change p.val < 16 at this; omega⟩ n))
    (i : Fin 512) (n : Fin 1024) :
    outV m c (ix3 0 i n) = Cert.ReferenceIdeal.Hand.res X W K V O (ix3 0 i n) := by
  rw [outV_apply, Cert.ReferenceIdeal.Hand.res_apply X W K V O i n (score x w k sc i)
    (fun h j => sv_real x w k sc hs X W _ hX hW h i j _ fun d => by rw [Cert.ReferenceIdeal.Hand.lo_apply, hK])
    (fun h j => sv_real x w k sc hs X W _ hX hW h i j _ fun d => by rw [Cert.ReferenceIdeal.Hand.hi_apply, hK])]
  refine Eq.trans ?_ (Fin.sum_mul_add_fin (L := 16384) 16 1024 _)
  refine Finset.sum_congr rfl fun p _ => ?_
  have hp : p.val < 16 := p.isLt
  rw [Part_entry]
  refine Finset.sum_congr rfl fun t _ => ?_
  have e1 : (⟨p.val * 8 + t.val / 128, by omega⟩ : Fin 128) = ⟨(p.val * 1024 + t.val) / 128, by omega⟩ := Fin.ext (by show p.val * 8 + t.val / 128 = (p.val * 1024 + t.val) / 128; omega)
  have e2 : (⟨t.val % 128, by omega⟩ : Fin 128) = ⟨(p.val * 1024 + t.val) % 128, by omega⟩ := Fin.ext (by show t.val % 128 = (p.val * 1024 + t.val) % 128; omega)
  have ew : ∀ j, wgtOf m p i ⟨t.val / 128, by omega⟩ j = (Real.exp (score x w k sc i ⟨(p.val * 1024 + t.val) / 128, by omega⟩ j) : EReal) := by
    intro j
    rw [wgtOf_real m x w k sc hs p (fun i t => (aX p i t).trans (hX i t)) (fun t y => (aW p t y).trans (hW t _))
      (fun j h d => (aK p j h d).trans (hK j _ d)), ← e1]
  rw [aO]
  refine congrArg (fun z : EReal => z * _) (congrArg₂ Ideal.div (Finset.sum_congr rfl fun j _ => ?_) (Finset.sum_congr rfl fun j _ => ew j))
  rw [ew, aV, ← e1, ← e2]

end

end Cert.KernelIdeal.Hand
-- ==== Proof.ValClaim.lean ====
/-
From the precondition and the layout of the arguments to the equality of the two results.
-/
module

public import proofs.«01_k».proof.Pre_scores_finite_KernelIdeal
public import proofs.«01_k».proof.Pre_scores_finite_ReferenceIdeal
public import proofs.«01_k».proof.Proof.ValMeet
public import Idealize.ShloMosaic.Lib.Layout

@[expose] public section

set_option maxRecDepth 16384

noncomputable section

namespace Cert.KernelIdeal.Hand

open Cert.KernelIdeal Cert.KernelIdeal.Gen
open Idealize.ShloMosaic
open Idealize.ShloMosaic.TcCoe

theorem facts_pre : Cert.Pre_scores_finite_KernelIdeal.Facts := ⟨by decide, by decide, by decide⟩
theorem facts_pre_reference : Cert.Pre_scores_finite_ReferenceIdeal.Facts := ⟨by decide, by decide, by decide⟩

/-- The bits of infinity. -/
theorem bits_top : Ideal.ofBits .f32 0x7F800000#32 = (⊤ : EReal) := by
  simp [Ideal.ofBits, Ideal.ieee]

/-- A number of absolute value less than infinity is real. -/
theorem real_of_lt (a : EReal) (h : Ideal.cmp .olt (max a (-a)) (Ideal.ofBits .f32 0x7F800000#32) = 1#1) : ∃ r : ℝ, a = (r : EReal) := by
  rw [bits_top] at h
  have h' : max a (-a) < ⊤ := by
    by_contra hn
    have : Ideal.cmp .olt (max a (-a)) ⊤ = BitVec.ofBool (decide (max a (-a) < ⊤)) := rfl
    rw [this, decide_eq_false hn] at h
    exact absurd h (by decide)
  have h1 : a ≠ ⊤ := fun e => by
    rw [e] at h'
    exact absurd h' (not_lt.mpr (le_max_left _ _))
  have h2 : a ≠ ⊥ := fun e => by
    rw [e] at h'
    exact absurd h' (not_lt.mpr (le_max_right _ _))
  exact ⟨_, (EReal.coe_toReal h1 h2).symm⟩

variable (m : (ℓ : Loc nD τ sig) → Buf (Elt Ideal) ℓ)

section

variable [Cert.Pre_scores_finite_KernelIdeal.Facts] (X : FVec Ideal S1x512x1024 .f32) (W : FVec Ideal S1024x1024 .f32)
  (K V : FVec Ideal S1x2048x8x128 .f32) (O : FVec Ideal S1024x1024 .f32)

theorem real_x (h : (Cert.Pre_scores_finite_KernelIdeal.fn (F := Ideal) X W K V O).1 = fun _ => 1#1) (j : S1x512x1024.Idx) :
    ∃ r : ℝ, X j = (r : EReal) := real_of_lt (X j) (congrFun h j)

theorem real_w (h : (Cert.Pre_scores_finite_KernelIdeal.fn (F := Ideal) X W K V O).2.1 = fun _ => 1#1) (j : S1024x1024.Idx) :
    ∃ r : ℝ, W j = (r : EReal) := real_of_lt (W j) (congrFun h j)

theorem real_k (h : (Cert.Pre_scores_finite_KernelIdeal.fn (F := Ideal) X W K V O).2.2 = fun _ => 1#1) (j : S1x2048x8x128.Idx) :
    ∃ r : ℝ, K j = (r : EReal) := real_of_lt (K j) (congrFun h j)

end

/-- A block of columns at an index. -/
theorem block_cols (W : FVec Ideal Cert.ReferenceIdeal.S1024x16384 .f32) (p : Fin 16) (t y : Fin 1024) :
    Layout.block ⟨2, ![1024, 1024]⟩ ⟨2, ![1024, 16384]⟩ 1 16 p W (by decide) (ix2 t y) = W (ix2 t ⟨p.val * 1024 + y.val, by omega⟩) := by
  refine congrArg W (funext fun a => Fin.ext ?_)
  match a with
  | ⟨0, _⟩ => rfl
  | ⟨1, _⟩ => rfl

/-- A block of rows at an index. -/
theorem block_rows (O : FVec Ideal Cert.ReferenceIdeal.S16384x1024 .f32) (p : Fin 16) (t n : Fin 1024) :
    Layout.block ⟨2, ![1024, 1024]⟩ ⟨2, ![16384, 1024]⟩ 0 16 p O (by decide) (ix2 t n) = O (ix2 ⟨p.val * 1024 + t.val, by omega⟩ n) := by
  refine congrArg O (funext fun a => Fin.ext ?_)
  match a with
  | ⟨0, _⟩ => rfl
  | ⟨1, _⟩ => rfl

/-- A block of heads at an index. -/
theorem block_heads (K : FVec Ideal Cert.ReferenceIdeal.S1x2048x128x128 .f32) (p : Fin 16) (j : Fin 2048) (h : Fin 8) (d : Fin 128) :
    Layout.block ⟨4, ![1, 2048, 8, 128]⟩ ⟨4, ![1, 2048, 128, 128]⟩ 2 16 p K (by decide) (ix4 0 j h d)
      = K (ix4 0 j ⟨p.val * 8 + h.val, by omega⟩ d) := by
  refine congrArg K (funext fun a => Fin.ext ?_)
  match a with
  | ⟨0, _⟩ => rfl
  | ⟨1, _⟩ => rfl
  | ⟨2, _⟩ => rfl
  | ⟨3, _⟩ => rfl

/-- The kernel's result on every device is the reference's of the whole arrays, when the scores' arrays are real. -/
theorem out_res (c : Dev nD) (X : FVec Ideal Cert.ReferenceIdeal.S1x512x1024 .f32) (W : FVec Ideal Cert.ReferenceIdeal.S1024x16384 .f32)
    (K V : FVec Ideal Cert.ReferenceIdeal.S1x2048x128x128 .f32) (O : FVec Ideal Cert.ReferenceIdeal.S16384x1024 .f32)
    (aX : ∀ p : Dev nD, argX m p = X)
    (aW : ∀ p : Dev nD, argW m p = Layout.block ⟨2, ![1024, 1024]⟩ ⟨2, ![1024, 16384]⟩ 1 16 p W)
    (aK : ∀ p : Dev nD, argK m p = Layout.block ⟨4, ![1, 2048, 8, 128]⟩ ⟨4, ![1, 2048, 128, 128]⟩ 2 16 p K)
    (aV : ∀ p : Dev nD, argV m p = Layout.block ⟨4, ![1, 2048, 8, 128]⟩ ⟨4, ![1, 2048, 128, 128]⟩ 2 16 p V)
    (aO : ∀ p : Dev nD, argO m p = Layout.block ⟨2, ![1024, 1024]⟩ ⟨2, ![16384, 1024]⟩ 0 16 p O)
    (rX : ∀ (p : Dev nD) j, ∃ r : ℝ, argX m p j = (r : EReal)) (rW : ∀ (p : Dev nD) j, ∃ r : ℝ, argW m p j = (r : EReal))
    (rK : ∀ (p : Dev nD) j, ∃ r : ℝ, argK m p j = (r : EReal)) :
    outV m c = Cert.ReferenceIdeal.Hand.res X W K V O := by
  obtain ⟨sc, hs⟩ := Cert.ReferenceIdeal.Hand.bits_scale
  have bW : ∀ (p : Dev nD) (t y : Fin 1024), argW m p (ix2 t y) = W (ix2 t ⟨p.val * 1024 + y.val, by have := p.isLt; change p.val < 16 at this; omega⟩) :=
    fun p t y => (congrFun (aW p) (ix2 t y)).trans (block_cols W p t y)
  have bK : ∀ (p : Dev nD) (j : Fin 2048) (h : Fin 8) (d : Fin 128),
      argK m p (ix4 0 j h d) = K (ix4 0 j ⟨p.val * 8 + h.val, by have := p.isLt; change p.val < 16 at this; omega⟩ d) :=
    fun p j h d => (congrFun (aK p) (ix4 0 j h d)).trans (block_heads K p j h d)
  have hX : ∀ (i : Fin 512) (t : Fin 1024), ∃ r : ℝ, X (ix3 0 i t) = (r : EReal) := fun i t => by
    have := rX 0 (ix3 0 i t)
    rw [aX 0] at this
    exact this
  have hW : ∀ (t : Fin 1024) (y : Fin 16384), ∃ r : ℝ, W (ix2 t y) = (r : EReal) := fun t y => by
    have hy : y.val / 1024 < 16 := by omega
    have := rW (⟨y.val / 1024, hy⟩ : Fin 16) (ix2 t ⟨y.val % 1024, Nat.mod_lt _ (by decide)⟩)
    rw [bW] at this
    have e : (⟨y.val / 1024 * 1024 + y.val % 1024, by omega⟩ : Fin 16384) = y := Fin.ext (Nat.div_add_mod' y.val 1024)
    exact e ▸ this
  have hK : ∀ (j : Fin 2048) (h d : Fin 128), ∃ r : ℝ, K (ix4 0 j h d) = (r : EReal) := fun j h d => by
    have hy : h.val / 8 < 16 := by omega
    have := rK (⟨h.val / 8, hy⟩ : Fin 16) (ix4 0 j ⟨h.val % 8, Nat.mod_lt _ (by decide)⟩ d)
    rw [bK] at this
    have e : (⟨h.val / 8 * 8 + h.val % 8, by omega⟩ : Fin 128) = h := Fin.ext (Nat.div_add_mod' h.val 8)
    exact e ▸ this
  choose x hx using hX
  choose w hw using hW
  choose k hk using hK
  have key := fun (i : Fin 512) (n : Fin 1024) => out_eq m x w k sc hs c X W K V O hx hw hk (fun p i t => congrFun (aX p) (ix3 0 i t)) bW bK
    (fun p j h d => (congrFun (aV p) (ix4 0 j h d)).trans (block_heads V p j h d))
    (fun p t n => (congrFun (aO p) (ix2 t n)).trans (block_rows O p t n)) i n
  funext j
  have e : j = ix3 (0 : Fin 1) (j 1 : Fin 512) (j 2 : Fin 1024) := by
    funext a
    match a with
    | ⟨0, _⟩ => exact Subsingleton.elim (α := Fin 1) _ _
    | ⟨1, _⟩ => rfl
    | ⟨2, _⟩ => rfl
  rw [e]
  exact key _ _

end Cert.KernelIdeal.Hand
-- ==== Proof.lean ====
/-
The claims: the kernel's frame, its idealization's and the reference's, that the idealization is the kernel's own text, and
that on exact numbers the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.ValClaim
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono (fun _ h => h.2) (Cert.KernelIdeal.Hand.of_ideal (Cert.KernelIdeal.Hand.run_kept (F := Bits) m ρ))

theorem frame_ideal : Cert.quiescent_KernelIdeal := fun m ρ _ =>
  (θ_run Cert.KernelIdeal.defs _ _).mono (fun _ h => h.2) (Cert.KernelIdeal.Hand.run_kept (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal_pre_scores_finite_KernelIdeal
    (hPre_scores_finite_KernelIdeal := Cert.KernelIdeal.Hand.facts_pre) := fun m g m' g' hpre hargs => by
  letI := Cert.KernelIdeal.Hand.facts_pre
  have hres : ∀ c : Dev Cert.KernelIdeal.nD, Cert.KernelIdeal.Hand.outV m c = Cert.ReferenceIdeal.Value.res_main_v55 (F := Ideal) m' 0 := fun c =>
    (Cert.KernelIdeal.Hand.out_res m c _ _ _ _ _ (fun p => (hargs p).1) (fun p => (hargs p).2.1) (fun p => (hargs p).2.2.1)
      (fun p => (hargs p).2.2.2.1) (fun p => (hargs p).2.2.2.2)
      (fun p j => Cert.KernelIdeal.Hand.real_x _ _ _ _ _ (hpre p).1 j) (fun p j => Cert.KernelIdeal.Hand.real_w _ _ _ _ _ (hpre p).2.1 j)
      (fun p j => Cert.KernelIdeal.Hand.real_k _ _ _ _ _ (hpre p).2.2 j)).trans
      (Cert.ReferenceIdeal.Hand.res_eq _ _ _ _ _ m' 0 rfl rfl rfl rfl rfl).symm
  exact ⟨Cert.ReferenceIdeal.Value.res_main_v55 (F := Ideal) m' 0,
    (θ_run Cert.KernelIdeal.defs _ _).mono (fun r h c => ⟨((h.1 c).trans (Cert.KernelIdeal.Hand.finalA_3 m c)).trans (hres c), h.2.1 c⟩)
      (Cert.KernelIdeal.Hand.run_kept (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  Cert.KernelIdeal.Hand.facts_pre, Cert.KernelIdeal.Hand.facts_pre_reference,
  frame_kernel, frame_ideal, fun m ρ _ => frame_ideal m ρ trivial, frame_reference, fun m ρ _ => frame_reference m ρ trivial, trivial, value⟩

end Cert.Proof

end
